-- ==== Defs.lean ====
def Pre_Kernel [hPre_dest_names_rows : Cert.Pre_dest_names_rows.Facts] (m : (ℓ : Loc Cert.Kernel.nD Cert.Kernel.τ Cert.Kernel.sig) → Buf (Elt Bits) ℓ) : Prop :=
  ∀ c : Dev Cert.Kernel.nD,
    (Cert.Pre_dest_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_dest_names_rows : Cert.Pre_dest_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_names_rows [hPre_dest_names_rows : Cert.Pre_dest_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_blocks_in_place : Cert.Pre_blocks_in_place.Facts] (m : (ℓ : Loc Cert.Experts.nD Cert.Experts.τ Cert.Experts.sig) → Buf (Elt Bits) ℓ) : Prop :=
  ∀ c : Dev Cert.Experts.nD,
    (Cert.Pre_blocks_in_place.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_blocks_in_place : Cert.Pre_blocks_in_place.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_place.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_in_place [hPre_blocks_in_place : Cert.Pre_blocks_in_place.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_in_place.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_Kernel [hKernel : Cert.Kernel.Facts] [hPre_dest_names_rows : Cert.Pre_dest_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_dest_names_rows : Cert.Pre_dest_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_dest_names_rows [hReferenceIdeal : Cert.ReferenceIdeal.Facts] [hPre_dest_names_rows : Cert.Pre_dest_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_names_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_blocks_in_place : Cert.Pre_blocks_in_place.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_blocks_in_place : Cert.Pre_blocks_in_place.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_blocks_in_place [hExpertsReferenceIdeal : Cert.ExpertsReferenceIdeal.Facts] [hPre_blocks_in_place : Cert.Pre_blocks_in_place.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_in_place m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_names_rows : Cert.Pre_dest_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsReferenceIdeal_on_used_rows [hExpertsIdeal : Cert.ExpertsIdeal.Facts] [hExpertsReferenceIdeal : Cert.ExpertsReferenceIdeal.Facts] [hPre_blocks_in_place : Cert.Pre_blocks_in_place.Facts] [hOn_used_rows : Cert.On_used_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨3, ![2129920, 8, 128]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨3, ![2129920, 8, 128]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsReferenceIdeal.nD Cert.ExpertsReferenceIdeal.τ).loc Cert.ExpertsReferenceIdeal.main_v26) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v12)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v12) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v26) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hAttention : Cert.Attention.Facts) (hAttentionIdeal : Cert.AttentionIdeal.Facts) (hAttentionReferenceIdeal : Cert.AttentionReferenceIdeal.Facts) (hPre_dest_names_rows : Cert.Pre_dest_names_rows.Facts) (hPre_blocks_in_place : Cert.Pre_blocks_in_place.Facts) (hOn_used_rows : Cert.On_used_rows.Facts),
    quiescent_Kernel (hKernel := hKernel) (hPre_dest_names_rows := hPre_dest_names_rows)
    ∧ quiescent_KernelIdeal (hKernelIdeal := hKernelIdeal) (hPre_dest_names_rows := hPre_dest_names_rows)
    ∧ quiescent_ReferenceIdeal (hReferenceIdeal := hReferenceIdeal)
    ∧ quiescent_ReferenceIdeal_pre_dest_names_rows (hReferenceIdeal := hReferenceIdeal) (hPre_dest_names_rows := hPre_dest_names_rows)
    ∧ quiescent_Experts (hExperts := hExperts) (hPre_blocks_in_place := hPre_blocks_in_place)
    ∧ quiescent_ExpertsIdeal (hExpertsIdeal := hExpertsIdeal) (hPre_blocks_in_place := hPre_blocks_in_place)
    ∧ quiescent_ExpertsReferenceIdeal (hExpertsReferenceIdeal := hExpertsReferenceIdeal)
    ∧ quiescent_ExpertsReferenceIdeal_pre_blocks_in_place (hExpertsReferenceIdeal := hExpertsReferenceIdeal) (hPre_blocks_in_place := hPre_blocks_in_place)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_Kernel_KernelIdeal
    ∧ algebraic_KernelIdeal_ReferenceIdeal (hKernelIdeal := hKernelIdeal) (hReferenceIdeal := hReferenceIdeal) (hPre_dest_names_rows := hPre_dest_names_rows)
    ∧ preserves_Experts_ExpertsIdeal
    ∧ algebraic_ExpertsIdeal_ExpertsReferenceIdeal_on_used_rows (hExpertsIdeal := hExpertsIdeal) (hExpertsReferenceIdeal := hExpertsReferenceIdeal) (hPre_blocks_in_place := hPre_blocks_in_place) (hOn_used_rows := hOn_used_rows)
    ∧ preserves_Attention_AttentionIdeal
    ∧ algebraic_AttentionIdeal_AttentionReferenceIdeal (hAttentionIdeal := hAttentionIdeal) (hAttentionReferenceIdeal := hAttentionReferenceIdeal)
-- ==== On_used_rows.lean ====
abbrev S548 : Shape := ⟨1, ![548]⟩
abbrev S1 : Shape := ⟨1, ![1]⟩
abbrev S2129920x8x128 : Shape := ⟨3, ![2129920, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S4160x548 : Shape := ⟨2, ![4160, 548]⟩
abbrev S1x548 : Shape := ⟨2, ![1, 548]⟩
abbrev S_ : Shape := ⟨0, ![]⟩
abbrev S4160 : Shape := ⟨1, ![4160]⟩
abbrev S4160x1x1x1 : Shape := ⟨4, ![4160, 1, 1, 1]⟩
abbrev S4160x512x8x128 : Shape := ⟨4, ![4160, 512, 8, 128]⟩

class Facts : Prop where
  bcast_S548_S1x548_1 : S548.BroadcastsInDim S1x548 (![1] : Fin 1 → Fin S1x548.rank)
  bcast_S1x548_S4160x548_0_1 : S1x548.BroadcastsInDim S4160x548 (![0, 1] : Fin 2 → Fin S4160x548.rank)
  reducesTo_S4160x548_S4160_d1 : S4160x548.ReducesTo [1] S4160
  h_S_ : 0 < S_.numel
  bcast_S4160_S4160x1x1x1_0 : S4160.BroadcastsInDim S4160x1x1x1 (![0] : Fin 1 → Fin S4160x1x1x1.rank)
  bcast_S4160x1x1x1_S4160x512x8x128_0_1_2_3 : S4160x1x1x1.BroadcastsInDim S4160x512x8x128 (![0, 1, 2, 3] : Fin 4 → Fin S4160x512x8x128.rank)
  shapeCasts_S4160x512x8x128_S2129920x8x128 : S4160x512x8x128.ShapeCasts S2129920x8x128

variable [Facts]

def fn {F : FTy → Type} [FloatOps F] (main_arg0 : IVec S548 32) (main_arg1 : IVec S548 32) (main_arg2 : IVec S1 32) (main_arg3 : FVec F S2129920x8x128 .f32) (main_arg4 : FVec F S32x1024x2048 .f32) (main_arg5 : FVec F S32x2048 .f32) (main_arg6 : FVec F S32x1024x1024 .f32) (main_arg7 : FVec F S32x1024 .f32) : IVec S2129920x8x128 1 :=
  let main_v0 : IVec S4160x548 32 := iotaInDim S4160x548 32 0
  let main_v1 : IVec S1x548 32 := broadcastInDim S1x548 ![1] bcast_S548_S1x548_1 main_arg1
  let main_v2 : IVec S4160x548 32 := broadcastInDim S4160x548 ![0, 1] bcast_S1x548_S4160x548_0_1 main_v1
  let main_v3 : IVec S4160x548 1 := cmpi .eq main_v0 main_v2
  let main_c : IVec S_ 1 := constantI S_ 1 0#1
  let main_v4 : IVec S4160 1 := (fun x v => Host.reduce IntOp.ori x v reducesTo_S4160x548_S4160_d1 h_S_) main_v3 main_c
  let main_v5 : IVec S4160x1x1x1 1 := broadcastInDim S4160x1x1x1 ![0] bcast_S4160_S4160x1x1x1_0 main_v4
  let main_v6 : IVec S4160x512x8x128 1 := broadcastInDim S4160x512x8x128 ![0, 1, 2, 3] bcast_S4160x1x1x1_S4160x512x8x128_0_1_2_3 main_v5
  let main_v7 : IVec S2129920x8x128 1 := shapeCast S2129920x8x128 main_v6 shapeCasts_S4160x512x8x128_S2129920x8x128
  main_v7
-- ==== Pre_blocks_in_place.lean ====
abbrev S548 : Shape := ⟨1, ![548]⟩
abbrev S1 : Shape := ⟨1, ![1]⟩
abbrev S2129920x8x128 : Shape := ⟨3, ![2129920, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S547 : Shape := ⟨1, ![547]⟩

class Facts : Prop where
  bcast_S_S548 : S_.BroadcastsInDim S548 (![] : Fin 0 → Fin S548.rank)
  bcast_S_S547 : S_.BroadcastsInDim S547 (![] : Fin 0 → Fin S547.rank)
  bcast_S1_S547_0 : S1.BroadcastsInDim S547 (![0] : Fin 1 → Fin S547.rank)
  slices_S548_S547_1 : S548.Slices ![1] S547
  slices_S548_S547_0 : S548.Slices ![0] S547
  reducesTo_S548_S_d0 : S548.ReducesTo [0] S_
  h_S_ : 0 < S_.numel
  reducesTo_S547_S_d0 : S547.ReducesTo [0] S_
  shapeCasts_S1_S_ : S1.ShapeCasts S_

variable [Facts]

def fn_part1 {F : FTy → Type} [FloatOps F] (main_arg1 : IVec S548 32) (main_arg2 : IVec S1 32) (main_v12 : IVec S548 1) (main_v17 : IVec S547 1) (main_v18 : IVec S547 32) : IVec S_ 1 :=
  let main_v19 : IVec S547 32 := (extractStridedSlice S547 ![0] · slices_S548_S547_0) main_arg1
  let main_v20 : IVec S547 1 := cmpi .eq main_v18 main_v19
  let main_v21 : IVec S547 1 := ori main_v17 main_v20
  let main_c_4 : IVec S_ 1 := constantI S_ 1 1#1
  let main_v22 : IVec S_ 1 := (fun x v => Host.reduce IntOp.andi x v reducesTo_S548_S_d0 h_S_) main_v12 main_c_4
  let main_c_5 : IVec S_ 1 := constantI S_ 1 1#1
  let main_v23 : IVec S_ 1 := (fun x v => Host.reduce IntOp.andi x v reducesTo_S547_S_d0 h_S_) main_v21 main_c_5
  let main_v24 : IVec S_ 1 := andi main_v22 main_v23
  let main_v25 : IVec S_ 32 := shapeCast S_ main_arg2 shapeCasts_S1_S_
  let main_c_6 : IVec S_ 32 := constantI S_ 32 0#32
  let main_v26 : IVec S_ 1 := cmpi .sgt main_v25 main_c_6
  let main_v27 : IVec S_ 1 := andi main_v24 main_v26
  main_v27

def fn {F : FTy → Type} [FloatOps F] (main_arg0 : IVec S548 32) (main_arg1 : IVec S548 32) (main_arg2 : IVec S1 32) (main_arg3 : FVec F S2129920x8x128 .f32) (main_arg4 : FVec F S32x1024x2048 .f32) (main_arg5 : FVec F S32x2048 .f32) (main_arg6 : FVec F S32x1024x1024 .f32) (main_arg7 : FVec F S32x1024 .f32) : IVec S_ 1 :=
  let main_c : IVec S_ 32 := constantI S_ 32 130#32
  let main_v0 : IVec S548 32 := broadcastInDim S548 ![] bcast_S_S548 main_c
  let main_v1 : IVec S548 32 := muli main_arg0 main_v0
  let main_c_0 : IVec S_ 32 := constantI S_ 32 0#32
  let main_v2 : IVec S548 32 := broadcastInDim S548 ![] bcast_S_S548 main_c_0
  let main_v3 : IVec S548 1 := cmpi .sge main_arg0 main_v2
  let main_c_1 : IVec S_ 32 := constantI S_ 32 32#32
  let main_v4 : IVec S548 32 := broadcastInDim S548 ![] bcast_S_S548 main_c_1
  let main_v5 : IVec S548 1 := cmpi .slt main_arg0 main_v4
  let main_v6 : IVec S548 1 := andi main_v3 main_v5
  let main_v7 : IVec S548 1 := cmpi .sge main_arg1 main_v1
  let main_v8 : IVec S548 1 := andi main_v6 main_v7
  let main_c_2 : IVec S_ 32 := constantI S_ 32 130#32
  let main_v9 : IVec S548 32 := broadcastInDim S548 ![] bcast_S_S548 main_c_2
  let main_v10 : IVec S548 32 := addi main_v1 main_v9
  let main_v11 : IVec S548 1 := cmpi .slt main_arg1 main_v10
  let main_v12 : IVec S548 1 := andi main_v8 main_v11
  let main_v13 : IVec S547 32 := iotaInDim S547 32 0
  let main_c_3 : IVec S_ 32 := constantI S_ 32 1#32
  let main_v14 : IVec S547 32 := broadcastInDim S547 ![] bcast_S_S547 main_c_3
  let main_v15 : IVec S547 32 := addi main_v13 main_v14
  let main_v16 : IVec S547 32 := broadcastInDim S547 ![0] bcast_S1_S547_0 main_arg2
  let main_v17 : IVec S547 1 := cmpi .slt main_v15 main_v16
  let main_v18 : IVec S547 32 := (extractStridedSlice S547 ![1] · slices_S548_S547_1) main_arg1
  fn_part1 (F := F) main_arg1 main_arg2 main_v12 main_v17 main_v18
-- ==== Pre_dest_names_rows.lean ====
abbrev S8x8x8192 : Shape := ⟨3, ![8, 8, 8192]⟩
abbrev S8x8192x1024 : Shape := ⟨3, ![8, 8192, 1024]⟩
abbrev S8x8192x128 : Shape := ⟨3, ![8, 8192, 128]⟩
abbrev S8x6x1024 : Shape := ⟨3, ![8, 6, 1024]⟩
abbrev S1024 : Shape := ⟨1, ![1024]⟩
abbrev S2129920x8x128 : Shape := ⟨3, ![2129920, 8, 128]⟩
abbrev S8x4x8192 : Shape := ⟨3, ![8, 4, 8192]⟩
abbrev S_ : Shape := ⟨0, ![]⟩

class Facts : Prop where
  slices_S8x8x8192_S8x4x8192_0_0_0 : S8x8x8192.Slices ![0, 0, 0] S8x4x8192
  bcast_S_S8x4x8192 : S_.BroadcastsInDim S8x4x8192 (![] : Fin 0 → Fin S8x4x8192.rank)

variable [Facts]

def fn {F : FTy → Type} [FloatOps F] (main_arg0 : IVec S8x8x8192 32) (main_arg1 : FVec F S8x8192x1024 .f32) (main_arg2 : FVec F S8x8192x128 .f32) (main_arg3 : FVec F S8x6x1024 .f32) (main_arg4 : FVec F S1024 .f32) (main_arg5 : FVec F S2129920x8x128 .f32) : IVec S8x4x8192 1 :=
  let main_v0 : IVec S8x4x8192 32 := (extractStridedSlice S8x4x8192 ![0, 0, 0] · slices_S8x8x8192_S8x4x8192_0_0_0) main_arg0
  let main_c : IVec S_ 32 := constantI S_ 32 0#32
  let main_v1 : IVec S8x4x8192 32 := broadcastInDim S8x4x8192 ![] bcast_S_S8x4x8192 main_c
  let main_v2 : IVec S8x4x8192 1 := cmpi .sge main_v0 main_v1
  let main_c_0 : IVec S_ 32 := constantI S_ 32 2129920#32
  let main_v3 : IVec S8x4x8192 32 := broadcastInDim S8x4x8192 ![] bcast_S_S8x4x8192 main_c_0
  let main_v4 : IVec S8x4x8192 1 := cmpi .slt main_v0 main_v3
  let main_v5 : IVec S8x4x8192 1 := andi main_v2 main_v4
  main_v5
-- ==== Kernel.lean ====
abbrev S8x8x8192 : Shape := ⟨3, ![8, 8, 8192]⟩
abbrev S8x8192x1024 : Shape := ⟨3, ![8, 8192, 1024]⟩
abbrev S8x8192x128 : Shape := ⟨3, ![8, 8192, 128]⟩
abbrev S8x6x1024 : Shape := ⟨3, ![8, 6, 1024]⟩
abbrev S1024 : Shape := ⟨1, ![1024]⟩
abbrev S2129920x8x128 : Shape := ⟨3, ![2129920, 8, 128]⟩
abbrev S1x1024 : Shape := ⟨2, ![1, 1024]⟩
abbrev S65536x1024 : Shape := ⟨2, ![65536, 1024]⟩
abbrev S65536x128 : Shape := ⟨2, ![65536, 128]⟩
abbrev S1x8x512 : Shape := ⟨3, ![1, 8, 512]⟩
abbrev S512x1024 : Shape := ⟨2, ![512, 1024]⟩
abbrev S512x128 : Shape := ⟨2, ![512, 128]⟩
abbrev S1x6x1024 : Shape := ⟨3, ![1, 6, 1024]⟩
abbrev S2x4x512x8x128 : Shape := ⟨5, ![2, 4, 512, 8, 128]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1x1x8x128 : Shape := ⟨5, ![1, 1, 1, 8, 128]⟩
abbrev S8x128 : Shape := ⟨2, ![8, 128]⟩
abbrev S1x8x128 : Shape := ⟨3, ![1, 8, 128]⟩
abbrev S1x1x512x8x128 : Shape := ⟨5, ![1, 1, 512, 8, 128]⟩
abbrev S512x8x128 : Shape := ⟨3, ![512, 8, 128]⟩
abbrev S512x1 : Shape := ⟨2, ![512, 1]⟩
abbrev S1x1x1024 : Shape := ⟨3, ![1, 1, 1024]⟩
abbrev S512 : Shape := ⟨1, ![512]⟩

abbrev nBuf : Space → Nat
  | .hbm => 11
  | .vmem => 10
  | .smem => 4
  | _ => 0

abbrev bufTy : (tb : Table) → Fin (tcTables nBuf tb) → BufTy
  | .hbm, ⟨0, _⟩ => ⟨S8x8x8192, .i32⟩
  | .hbm, ⟨1, _⟩ => ⟨S8x8192x1024, .f32⟩
  | .hbm, ⟨2, _⟩ => ⟨S8x8192x128, .f32⟩
  | .hbm, ⟨3, _⟩ => ⟨S8x6x1024, .f32⟩
  | .hbm, ⟨4, _⟩ => ⟨S1024, .f32⟩
  | .hbm, ⟨5, _⟩ => ⟨S2129920x8x128, .f32⟩
  | .hbm, ⟨6, _⟩ => ⟨S1x1024, .f32⟩
  | .hbm, ⟨7, _⟩ => ⟨S65536x1024, .f32⟩
  | .hbm, ⟨8, _⟩ => ⟨S65536x128, .f32⟩
  | .hbm, ⟨9, _⟩ => ⟨S65536x1024, .f32⟩
  | .hbm, ⟨10, _⟩ => ⟨S8x8192x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S2x4x512x8x128, .f32⟩
  | .local _ .smem, ⟨0, _⟩ => ⟨S1x8x512, .i32⟩
  | .local _ .smem, ⟨1, _⟩ => ⟨S1x8x512, .i32⟩
  | .local _ .smem, ⟨2, _⟩ => ⟨S1x8x512, .i32⟩
  | .local _ .smem, ⟨3, _⟩ => ⟨S1x8x512, .i32⟩
  | _, _ => ⟨S8x8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_66 : BitVec 32 := 0#32
  let c64_i32 : BitVec 32 := 64#32
  let v100 : BitVec 32 := Scalar.addi c0_i32_66 c64_i32
  let c1_i32_67 : BitVec 32 := 1#32
  ⟨c0_i32_66, v100, c1_i32_67⟩
def k0_off1 (k0_t1 : Fin k0_t1_loop.trips) : Fin 3 → Nat :=
  let c0_70 : Index := 0#32
  let c0_71 : Index := 0#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let v103 : Index := Scalar.indexCast v102
  ![0, 0, v103.toNat]
def k0_off2 (k0_t1 : Fin k0_t1_loop.trips) : Fin 5 → Nat :=
  let c0_i32_72 : BitVec 32 := 0#32
  let c0_i32_73 : BitVec 32 := 0#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let c0_i32_75 : BitVec 32 := 0#32
  let c0_i32_76 : BitVec 32 := 0#32
  ![0, 0, v102.toNat, 0, 0]
def k0_off3 (v104 : BitVec 32) : Fin 3 → Nat :=
  let c0_i32_77 : BitVec 32 := 0#32
  let c0_i32_78 : BitVec 32 := 0#32
  ![v104.toNat, 0, 0]

def k0_chk1 (i : grid0.Coords) (v104 : BitVec 32) : Prop :=
  (∀ (k0_h1 : k0_cond1 i = 1#1), ∀ a, (k0_off3 v104) a + S1x8x128.size a ≤ S2129920x8x128.size a)
theorem k0_off3_inb : ∀ (i : grid0.Coords) (v104 : BitVec 32) (k0_hw1 : k0_chk1 i v104), ∀ (k0_h1 : k0_cond1 i = 1#1), ∀ a, (k0_off3 v104) a + S1x8x128.size a ≤ S2129920x8x128.size a := fun i v104 k0_hw1 k0_h1 => k0_hw1 k0_h1

def k0_off4 (k0_t1 : Fin k0_t1_loop.trips) : Fin 3 → Nat :=
  let c0_79 : Index := 0#32
  let c1_80 : Index := 1#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let v111 : Index := Scalar.indexCast v102
  ![0, 1, v111.toNat]
def k0_off5 (k0_t1 : Fin k0_t1_loop.trips) : Fin 5 → Nat :=
  let c0_i32_81 : BitVec 32 := 0#32
  let c1_i32_82 : BitVec 32 := 1#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let c0_i32_84 : BitVec 32 := 0#32
  let c0_i32_85 : BitVec 32 := 0#32
  ![0, 1, v102.toNat, 0, 0]
def k0_off6 (v112 : BitVec 32) : Fin 3 → Nat :=
  let c0_i32_86 : BitVec 32 := 0#32
  let c0_i32_87 : BitVec 32 := 0#32
  ![v112.toNat, 0, 0]

def k0_chk2 (i : grid0.Coords) (v112 : BitVec 32) : Prop :=
  (∀ (k0_h1 : k0_cond1 i = 1#1), ∀ a, (k0_off6 v112) a + S1x8x128.size a ≤ S2129920x8x128.size a)
theorem k0_off6_inb : ∀ (i : grid0.Coords) (v112 : BitVec 32) (k0_hw2 : k0_chk2 i v112), ∀ (k0_h1 : k0_cond1 i = 1#1), ∀ a, (k0_off6 v112) a + S1x8x128.size a ≤ S2129920x8x128.size a := fun i v112 k0_hw2 k0_h1 => k0_hw2 k0_h1

def k0_off7 (k0_t1 : Fin k0_t1_loop.trips) : Fin 3 → Nat :=
  let c0_88 : Index := 0#32
  let c2_89 : Index := 2#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let v119 : Index := Scalar.indexCast v102
  ![0, 2, v119.toNat]
def k0_off8 (k0_t1 : Fin k0_t1_loop.trips) : Fin 5 → Nat :=
  let c0_i32_90 : BitVec 32 := 0#32
  let c2_i32_91 : BitVec 32 := 2#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let c0_i32_93 : BitVec 32 := 0#32
  let c0_i32_94 : BitVec 32 := 0#32
  ![0, 2, v102.toNat, 0, 0]
def k0_off9 (v120 : BitVec 32) : Fin 3 → Nat :=
  let c0_i32_95 : BitVec 32 := 0#32
  let c0_i32_96 : BitVec 32 := 0#32
  ![v120.toNat, 0, 0]

def k0_chk3 (i : grid0.Coords) (v120 : BitVec 32) : Prop :=
  (∀ (k0_h1 : k0_cond1 i = 1#1), ∀ a, (k0_off9 v120) a + S1x8x128.size a ≤ S2129920x8x128.size a)
theorem k0_off9_inb : ∀ (i : grid0.Coords) (v120 : BitVec 32) (k0_hw3 : k0_chk3 i v120), ∀ (k0_h1 : k0_cond1 i = 1#1), ∀ a, (k0_off9 v120) a + S1x8x128.size a ≤ S2129920x8x128.size a := fun i v120 k0_hw3 k0_h1 => k0_hw3 k0_h1

def k0_off10 (k0_t1 : Fin k0_t1_loop.trips) : Fin 3 → Nat :=
  let c0_97 : Index := 0#32
  let c3_98 : Index := 3#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let v127 : Index := Scalar.indexCast v102
  ![0, 3, v127.toNat]
def k0_off11 (k0_t1 : Fin k0_t1_loop.trips) : Fin 5 → Nat :=
  let c0_i32_99 : BitVec 32 := 0#32
  let c3_i32_100 : BitVec 32 := 3#32
  let c0_i32_66 : BitVec 32 := 0#32
  let c1_i32_67 : BitVec 32 := 1#32
  let arg11 : BitVec 32 := Scf.iv c0_i32_66 c1_i32_67 k0_t1
  let c8_i32 : BitVec 32 := 8#32
  let v101 : BitVec 32 := Scalar.muli arg11 c8_i32
  let c0_i32_69 : BitVec 32 := 0#32
  let v102 : BitVec 32 := Scalar.addi v101 c0_i32_69
  let c0_i32_102 : BitVec 32 := 0#32
  let c0_i32_103 : BitVec 32 := 0#32
  ![0, 3, v102.toNat, 0, 0]
def k0_off12 (v128 : BitVec 32) : Fin 3 → Nat :=
  let c0_i32_104 : BitVec 32 := 0#32
  let c0_i32_105 : BitVec 32 := 0#32
  ![v128.toNat, 0, 0]

def k0_chk4 (i : grid0.Coords) (v128 : BitVec 32) : Prop :=
  (∀ (k0_h1 : k0_cond1 i = 1#1), ∀ a, (k0_off12 v128) a + S1x8x128.size a ≤ S2129920x8x128.size a)
theorem k0_off12_inb : ∀ (i : grid0.Coords) (v128 : BitVec 32) (k0_hw4 : k0_chk4 i v128), ∀ (k0_h1 : k0_cond1 i = 1#1), ∀ a, (k0_off12 v128) a + S1x8x128.size a ≤ S2129920x8x128.size a := fun i v128 k0_hw4 k0_h1 => k0_hw4 k0_h1

def k0_off13 (k0_t1 : Fin k0_t1_loop.trips) : Fin 3 → Nat :=
  let c0_108 : Index := 0#32
  let c0_109 : Index := 0#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let v137 : Index := Scalar.indexCast v136
  ![0, 0, v137.toNat]
def k0_off14 (k0_t1 : Fin k0_t1_loop.trips) : Fin 5 → Nat :=
  let c0_i32_110 : BitVec 32 := 0#32
  let c0_i32_111 : BitVec 32 := 0#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let c0_i32_113 : BitVec 32 := 0#32
  let c0_i32_114 : BitVec 32 := 0#32
  ![0, 0, v136.toNat, 0, 0]
def k0_off15 (v138 : BitVec 32) : Fin 3 → Nat :=
  let c0_i32_115 : BitVec 32 := 0#32
  let c0_i32_116 : BitVec 32 := 0#32
  ![v138.toNat, 0, 0]

def k0_chk5 (i : grid0.Coords) (v138 : BitVec 32) : Prop :=
  (∀ (k0_h1 : k0_cond1 i = 1#1), ∀ a, (k0_off15 v138) a + S1x8x128.size a ≤ S2129920x8x128.size a)
theorem k0_off15_inb : ∀ (i : grid0.Coords) (v138 : BitVec 32) (k0_hw5 : k0_chk5 i v138), ∀ (k0_h1 : k0_cond1 i = 1#1), ∀ a, (k0_off15 v138) a + S1x8x128.size a ≤ S2129920x8x128.size a := fun i v138 k0_hw5 k0_h1 => k0_hw5 k0_h1

def k0_off16 (k0_t1 : Fin k0_t1_loop.trips) : Fin 3 → Nat :=
  let c0_117 : Index := 0#32
  let c1_118 : Index := 1#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let v145 : Index := Scalar.indexCast v136
  ![0, 1, v145.toNat]
def k0_off17 (k0_t1 : Fin k0_t1_loop.trips) : Fin 5 → Nat :=
  let c0_i32_119 : BitVec 32 := 0#32
  let c1_i32_120 : BitVec 32 := 1#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let c0_i32_122 : BitVec 32 := 0#32
  let c0_i32_123 : BitVec 32 := 0#32
  ![0, 1, v136.toNat, 0, 0]
def k0_off18 (v146 : BitVec 32) : Fin 3 → Nat :=
  let c0_i32_124 : BitVec 32 := 0#32
  let c0_i32_125 : BitVec 32 := 0#32
  ![v146.toNat, 0, 0]

def k0_chk6 (i : grid0.Coords) (v146 : BitVec 32) : Prop :=
  (∀ (k0_h1 : k0_cond1 i = 1#1), ∀ a, (k0_off18 v146) a + S1x8x128.size a ≤ S2129920x8x128.size a)
theorem k0_off18_inb : ∀ (i : grid0.Coords) (v146 : BitVec 32) (k0_hw6 : k0_chk6 i v146), ∀ (k0_h1 : k0_cond1 i = 1#1), ∀ a, (k0_off18 v146) a + S1x8x128.size a ≤ S2129920x8x128.size a := fun i v146 k0_hw6 k0_h1 => k0_hw6 k0_h1

def k0_off19 (k0_t1 : Fin k0_t1_loop.trips) : Fin 3 → Nat :=
  let c0_126 : Index := 0#32
  let c2_127 : Index := 2#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let v153 : Index := Scalar.indexCast v136
  ![0, 2, v153.toNat]
def k0_off20 (k0_t1 : Fin k0_t1_loop.trips) : Fin 5 → Nat :=
  let c0_i32_128 : BitVec 32 := 0#32
  let c2_i32_129 : BitVec 32 := 2#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let c0_i32_131 : BitVec 32 := 0#32
  let c0_i32_132 : BitVec 32 := 0#32
  ![0, 2, v136.toNat, 0, 0]
def k0_off21 (v154 : BitVec 32) : Fin 3 → Nat :=
  let c0_i32_133 : BitVec 32 := 0#32
  let c0_i32_134 : BitVec 32 := 0#32
  ![v154.toNat, 0, 0]

def k0_chk7 (i : grid0.Coords) (v154 : BitVec 32) : Prop :=
  (∀ (k0_h1 : k0_cond1 i = 1#1), ∀ a, (k0_off21 v154) a + S1x8x128.size a ≤ S2129920x8x128.size a)
theorem k0_off21_inb : ∀ (i : grid0.Coords) (v154 : BitVec 32) (k0_hw7 : k0_chk7 i v154), ∀ (k0_h1 : k0_cond1 i = 1#1), ∀ a, (k0_off21 v154) a + S1x8x128.size a ≤ S2129920x8x128.size a := fun i v154 k0_hw7 k0_h1 => k0_hw7 k0_h1

def k0_off22 (k0_t1 : Fin k0_t1_loop.trips) : Fin 3 → Nat :=
  let c0_135 : Index := 0#32
  let c3_136 : Index := 3#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let v161 : Index := Scalar.indexCast v136
  ![0, 3, v161.toNat]
def k0_off23 (k0_t1 : Fin k0_t1_loop.trips) : Fin 5 → Nat :=
  let c0_i32_137 : BitVec 32 := 0#32
  let c3_i32_138 : BitVec 32 := 3#32
  let c0_i32_66 : BitVec 32 := 0#32
  let c1_i32_67 : BitVec 32 := 1#32
  let arg11 : BitVec 32 := Scf.iv c0_i32_66 c1_i32_67 k0_t1
  let c8_i32_106 : BitVec 32 := 8#32
  let v135 : BitVec 32 := Scalar.muli arg11 c8_i32_106
  let c1_i32_107 : BitVec 32 := 1#32
  let v136 : BitVec 32 := Scalar.addi v135 c1_i32_107
  let c0_i32_140 : BitVec 32 := 0#32
  let c0_i32_141 : BitVec 32 := 0#32
  ![0, 3, v136.toNat, 0, 0]
def k0_off24 (v162 : BitVec 32) : Fin 3 → Nat :=
  let c0_i32_142 : BitVec 32 := 0#32
  let c0_i32_143 : BitVec 32 := 0#32
  ![v162.toNat, 0, 0]

def k0_chk8 (i : grid0.Coords) (v162 : BitVec 32) : Prop :=
  (∀ (k0_h1 : k0_cond1 i = 1#1), ∀ a, (k0_off24 v162) a + S1x8x128.size a ≤ S2129920x8x128.size a)
theorem k0_off24_inb : ∀ (i : grid0.Coords) (v162 : BitVec 32) (k0_hw8 : k0_chk8 i v162), ∀ (k0_h1 : k0_cond1 i = 1#1), ∀ a, (k0_off24 v162) a + S1x8x128.size a ≤ S2129920x8x128.size a := fun i v162 k0_hw8 k0_h1 => k0_hw8 k0_h1

def k0_off25 (k0_t1 : Fin k0_t1_loop.trips) : Fin 3 → Nat :=
  let c0_146 : Index := 0#32
  let c0_147 : Index := 0#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let v171 : Index := Scalar.indexCast v170
  ![0, 0, v171.toNat]
def k0_off26 (k0_t1 : Fin k0_t1_loop.trips) : Fin 5 → Nat :=
  let c0_i32_148 : BitVec 32 := 0#32
  let c0_i32_149 : BitVec 32 := 0#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let c0_i32_151 : BitVec 32 := 0#32
  let c0_i32_152 : BitVec 32 := 0#32
  ![0, 0, v170.toNat, 0, 0]
def k0_off27 (v172 : BitVec 32) : Fin 3 → Nat :=
  let c0_i32_153 : BitVec 32 := 0#32
  let c0_i32_154 : BitVec 32 := 0#32
  ![v172.toNat, 0, 0]

def k0_chk9 (i : grid0.Coords) (v172 : BitVec 32) : Prop :=
  (∀ (k0_h1 : k0_cond1 i = 1#1), ∀ a, (k0_off27 v172) a + S1x8x128.size a ≤ S2129920x8x128.size a)
theorem k0_off27_inb : ∀ (i : grid0.Coords) (v172 : BitVec 32) (k0_hw9 : k0_chk9 i v172), ∀ (k0_h1 : k0_cond1 i = 1#1), ∀ a, (k0_off27 v172) a + S1x8x128.size a ≤ S2129920x8x128.size a := fun i v172 k0_hw9 k0_h1 => k0_hw9 k0_h1

def k0_off28 (k0_t1 : Fin k0_t1_loop.trips) : Fin 3 → Nat :=
  let c0_155 : Index := 0#32
  let c1_156 : Index := 1#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let v179 : Index := Scalar.indexCast v170
  ![0, 1, v179.toNat]
def k0_off29 (k0_t1 : Fin k0_t1_loop.trips) : Fin 5 → Nat :=
  let c0_i32_157 : BitVec 32 := 0#32
  let c1_i32_158 : BitVec 32 := 1#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let c0_i32_160 : BitVec 32 := 0#32
  let c0_i32_161 : BitVec 32 := 0#32
  ![0, 1, v170.toNat, 0, 0]
def k0_off30 (v180 : BitVec 32) : Fin 3 → Nat :=
  let c0_i32_162 : BitVec 32 := 0#32
  let c0_i32_163 : BitVec 32 := 0#32
  ![v180.toNat, 0, 0]

def k0_chk10 (i : grid0.Coords) (v180 : BitVec 32) : Prop :=
  (∀ (k0_h1 : k0_cond1 i = 1#1), ∀ a, (k0_off30 v180) a + S1x8x128.size a ≤ S2129920x8x128.size a)
theorem k0_off30_inb : ∀ (i : grid0.Coords) (v180 : BitVec 32) (k0_hw10 : k0_chk10 i v180), ∀ (k0_h1 : k0_cond1 i = 1#1), ∀ a, (k0_off30 v180) a + S1x8x128.size a ≤ S2129920x8x128.size a := fun i v180 k0_hw10 k0_h1 => k0_hw10 k0_h1

def k0_off31 (k0_t1 : Fin k0_t1_loop.trips) : Fin 3 → Nat :=
  let c0_164 : Index := 0#32
  let c2_165 : Index := 2#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let v187 : Index := Scalar.indexCast v170
  ![0, 2, v187.toNat]
def k0_off32 (k0_t1 : Fin k0_t1_loop.trips) : Fin 5 → Nat :=
  let c0_i32_166 : BitVec 32 := 0#32
  let c2_i32_167 : BitVec 32 := 2#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let c0_i32_169 : BitVec 32 := 0#32
  let c0_i32_170 : BitVec 32 := 0#32
  ![0, 2, v170.toNat, 0, 0]
def k0_off33 (v188 : BitVec 32) : Fin 3 → Nat :=
  let c0_i32_171 : BitVec 32 := 0#32
  let c0_i32_172 : BitVec 32 := 0#32
  ![v188.toNat, 0, 0]

def k0_chk11 (i : grid0.Coords) (v188 : BitVec 32) : Prop :=
  (∀ (k0_h1 : k0_cond1 i = 1#1), ∀ a, (k0_off33 v188) a + S1x8x128.size a ≤ S2129920x8x128.size a)
theorem k0_off33_inb : ∀ (i : grid0.Coords) (v188 : BitVec 32) (k0_hw11 : k0_chk11 i v188), ∀ (k0_h1 : k0_cond1 i = 1#1), ∀ a, (k0_off33 v188) a + S1x8x128.size a ≤ S2129920x8x128.size a := fun i v188 k0_hw11 k0_h1 => k0_hw11 k0_h1

def k0_off34 (k0_t1 : Fin k0_t1_loop.trips) : Fin 3 → Nat :=
  let c0_173 : Index := 0#32
  let c3_174 : Index := 3#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let v195 : Index := Scalar.indexCast v170
  ![0, 3, v195.toNat]
def k0_off35 (k0_t1 : Fin k0_t1_loop.trips) : Fin 5 → Nat :=
  let c0_i32_175 : BitVec 32 := 0#32
  let c3_i32_176 : BitVec 32 := 3#32
  let c0_i32_66 : BitVec 32 := 0#32
  let c1_i32_67 : BitVec 32 := 1#32
  let arg11 : BitVec 32 := Scf.iv c0_i32_66 c1_i32_67 k0_t1
  let c8_i32_144 : BitVec 32 := 8#32
  let v169 : BitVec 32 := Scalar.muli arg11 c8_i32_144
  let c2_i32_145 : BitVec 32 := 2#32
  let v170 : BitVec 32 := Scalar.addi v169 c2_i32_145
  let c0_i32_178 : BitVec 32 := 0#32
  let c0_i32_179 : BitVec 32 := 0#32
  ![0, 3, v170.toNat, 0, 0]
def k0_off36 (v196 : BitVec 32) : Fin 3 → Nat :=
  let c0_i32_180 : BitVec 32 := 0#32
  let c0_i32_181 : BitVec 32 := 0#32
  ![v196.toNat, 0, 0]

def k0_chk12 (i : grid0.Coords) (v196 : BitVec 32) : Prop :=
  (∀ (k0_h1 : k0_cond1 i = 1#1), ∀ a, (k0_off36 v196) a + S1x8x128.size a ≤ S2129920x8x128.size a)
theorem k0_off36_inb : ∀ (i : grid0.Coords) (v196 : BitVec 32) (k0_hw12 : k0_chk12 i v196), ∀ (k0_h1 : k0_cond1 i = 1#1), ∀ a, (k0_off36 v196) a + S1x8x128.size a ≤ S2129920x8x128.size a := fun i v196 k0_hw12 k0_h1 => k0_hw12 k0_h1

def k0_off37 (k0_t1 : Fin k0_t1_loop.trips) : Fin 3 → Nat :=
  let c0_184 : Index := 0#32
  let c0_185 : Index := 0#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let v205 : Index := Scalar.indexCast v204
  ![0, 0, v205.toNat]
def k0_off38 (k0_t1 : Fin k0_t1_loop.trips) : Fin 5 → Nat :=
  let c0_i32_186 : BitVec 32 := 0#32
  let c0_i32_187 : BitVec 32 := 0#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let c0_i32_189 : BitVec 32 := 0#32
  let c0_i32_190 : BitVec 32 := 0#32
  ![0, 0, v204.toNat, 0, 0]
def k0_off39 (v206 : BitVec 32) : Fin 3 → Nat :=
  let c0_i32_191 : BitVec 32 := 0#32
  let c0_i32_192 : BitVec 32 := 0#32
  ![v206.toNat, 0, 0]

def k0_chk13 (i : grid0.Coords) (v206 : BitVec 32) : Prop :=
  (∀ (k0_h1 : k0_cond1 i = 1#1), ∀ a, (k0_off39 v206) a + S1x8x128.size a ≤ S2129920x8x128.size a)
theorem k0_off39_inb : ∀ (i : grid0.Coords) (v206 : BitVec 32) (k0_hw13 : k0_chk13 i v206), ∀ (k0_h1 : k0_cond1 i = 1#1), ∀ a, (k0_off39 v206) a + S1x8x128.size a ≤ S2129920x8x128.size a := fun i v206 k0_hw13 k0_h1 => k0_hw13 k0_h1

def k0_off40 (k0_t1 : Fin k0_t1_loop.trips) : Fin 3 → Nat :=
  let c0_193 : Index := 0#32
  let c1_194 : Index := 1#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let v213 : Index := Scalar.indexCast v204
  ![0, 1, v213.toNat]
def k0_off41 (k0_t1 : Fin k0_t1_loop.trips) : Fin 5 → Nat :=
  let c0_i32_195 : BitVec 32 := 0#32
  let c1_i32_196 : BitVec 32 := 1#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let c0_i32_198 : BitVec 32 := 0#32
  let c0_i32_199 : BitVec 32 := 0#32
  ![0, 1, v204.toNat, 0, 0]
def k0_off42 (v214 : BitVec 32) : Fin 3 → Nat :=
  let c0_i32_200 : BitVec 32 := 0#32
  let c0_i32_201 : BitVec 32 := 0#32
  ![v214.toNat, 0, 0]

def k0_chk14 (i : grid0.Coords) (v214 : BitVec 32) : Prop :=
  (∀ (k0_h1 : k0_cond1 i = 1#1), ∀ a, (k0_off42 v214) a + S1x8x128.size a ≤ S2129920x8x128.size a)
theorem k0_off42_inb : ∀ (i : grid0.Coords) (v214 : BitVec 32) (k0_hw14 : k0_chk14 i v214), ∀ (k0_h1 : k0_cond1 i = 1#1), ∀ a, (k0_off42 v214) a + S1x8x128.size a ≤ S2129920x8x128.size a := fun i v214 k0_hw14 k0_h1 => k0_hw14 k0_h1

def k0_off43 (k0_t1 : Fin k0_t1_loop.trips) : Fin 3 → Nat :=
  let c0_202 : Index := 0#32
  let c2_203 : Index := 2#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let v221 : Index := Scalar.indexCast v204
  ![0, 2, v221.toNat]
def k0_off44 (k0_t1 : Fin k0_t1_loop.trips) : Fin 5 → Nat :=
  let c0_i32_204 : BitVec 32 := 0#32
  let c2_i32_205 : BitVec 32 := 2#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let c0_i32_207 : BitVec 32 := 0#32
  let c0_i32_208 : BitVec 32 := 0#32
  ![0, 2, v204.toNat, 0, 0]
def k0_off45 (v222 : BitVec 32) : Fin 3 → Nat :=
  let c0_i32_209 : BitVec 32 := 0#32
  let c0_i32_210 : BitVec 32 := 0#32
  ![v222.toNat, 0, 0]

def k0_chk15 (i : grid0.Coords) (v222 : BitVec 32) : Prop :=
  (∀ (k0_h1 : k0_cond1 i = 1#1), ∀ a, (k0_off45 v222) a + S1x8x128.size a ≤ S2129920x8x128.size a)
theorem k0_off45_inb : ∀ (i : grid0.Coords) (v222 : BitVec 32) (k0_hw15 : k0_chk15 i v222), ∀ (k0_h1 : k0_cond1 i = 1#1), ∀ a, (k0_off45 v222) a + S1x8x128.size a ≤ S2129920x8x128.size a := fun i v222 k0_hw15 k0_h1 => k0_hw15 k0_h1

def k0_off46 (k0_t1 : Fin k0_t1_loop.trips) : Fin 3 → Nat :=
  let c0_211 : Index := 0#32
  let c3_212 : Index := 3#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let v229 : Index := Scalar.indexCast v204
  ![0, 3, v229.toNat]
def k0_off47 (k0_t1 : Fin k0_t1_loop.trips) : Fin 5 → Nat :=
  let c0_i32_213 : BitVec 32 := 0#32
  let c3_i32_214 : BitVec 32 := 3#32
  let c0_i32_66 : BitVec 32 := 0#32
  let c1_i32_67 : BitVec 32 := 1#32
  let arg11 : BitVec 32 := Scf.iv c0_i32_66 c1_i32_67 k0_t1
  let c8_i32_182 : BitVec 32 := 8#32
  let v203 : BitVec 32 := Scalar.muli arg11 c8_i32_182
  let c3_i32_183 : BitVec 32 := 3#32
  let v204 : BitVec 32 := Scalar.addi v203 c3_i32_183
  let c0_i32_216 : BitVec 32 := 0#32
  let c0_i32_217 : BitVec 32 := 0#32
  ![0, 3, v204.toNat, 0, 0]
def k0_off48 (v230 : BitVec 32) : Fin 3 → Nat :=
  let c0_i32_218 : BitVec 32 := 0#32
  let c0_i32_219 : BitVec 32 := 0#32
  ![v230.toNat, 0, 0]

def k0_chk16 (i : grid0.Coords) (v230 : BitVec 32) : Prop :=
  (∀ (k0_h1 : k0_cond1 i = 1#1), ∀ a, (k0_off48 v230) a + S1x8x128.size a ≤ S2129920x8x128.size a)
theorem k0_off48_inb : ∀ (i : grid0.Coords) (v230 : BitVec 32) (k0_hw16 : k0_chk16 i v230), ∀ (k0_h1 : k0_cond1 i = 1#1), ∀ a, (k0_off48 v230) a + S1x8x128.size a ≤ S2129920x8x128.size a := fun i v230 k0_hw16 k0_h1 => k0_hw16 k0_h1

def k0_off49 (k0_t1 : Fin k0_t1_loop.trips) : Fin 3 → Nat :=
  let c0_221 : Index := 0#32
  let c0_222 : Index := 0#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let v239 : Index := Scalar.indexCast v238
  ![0, 0, v239.toNat]
def k0_off50 (k0_t1 : Fin k0_t1_loop.trips) : Fin 5 → Nat :=
  let c0_i32_223 : BitVec 32 := 0#32
  let c0_i32_224 : BitVec 32 := 0#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let c0_i32_226 : BitVec 32 := 0#32
  let c0_i32_227 : BitVec 32 := 0#32
  ![0, 0, v238.toNat, 0, 0]
def k0_off51 (v240 : BitVec 32) : Fin 3 → Nat :=
  let c0_i32_228 : BitVec 32 := 0#32
  let c0_i32_229 : BitVec 32 := 0#32
  ![v240.toNat, 0, 0]

def k0_chk17 (i : grid0.Coords) (v240 : BitVec 32) : Prop :=
  (∀ (k0_h1 : k0_cond1 i = 1#1), ∀ a, (k0_off51 v240) a + S1x8x128.size a ≤ S2129920x8x128.size a)
theorem k0_off51_inb : ∀ (i : grid0.Coords) (v240 : BitVec 32) (k0_hw17 : k0_chk17 i v240), ∀ (k0_h1 : k0_cond1 i = 1#1), ∀ a, (k0_off51 v240) a + S1x8x128.size a ≤ S2129920x8x128.size a := fun i v240 k0_hw17 k0_h1 => k0_hw17 k0_h1

def k0_off52 (k0_t1 : Fin k0_t1_loop.trips) : Fin 3 → Nat :=
  let c0_230 : Index := 0#32
  let c1_231 : Index := 1#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let v247 : Index := Scalar.indexCast v238
  ![0, 1, v247.toNat]
def k0_off53 (k0_t1 : Fin k0_t1_loop.trips) : Fin 5 → Nat :=
  let c0_i32_232 : BitVec 32 := 0#32
  let c1_i32_233 : BitVec 32 := 1#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let c0_i32_235 : BitVec 32 := 0#32
  let c0_i32_236 : BitVec 32 := 0#32
  ![0, 1, v238.toNat, 0, 0]
def k0_off54 (v248 : BitVec 32) : Fin 3 → Nat :=
  let c0_i32_237 : BitVec 32 := 0#32
  let c0_i32_238 : BitVec 32 := 0#32
  ![v248.toNat, 0, 0]

def k0_chk18 (i : grid0.Coords) (v248 : BitVec 32) : Prop :=
  (∀ (k0_h1 : k0_cond1 i = 1#1), ∀ a, (k0_off54 v248) a + S1x8x128.size a ≤ S2129920x8x128.size a)
theorem k0_off54_inb : ∀ (i : grid0.Coords) (v248 : BitVec 32) (k0_hw18 : k0_chk18 i v248), ∀ (k0_h1 : k0_cond1 i = 1#1), ∀ a, (k0_off54 v248) a + S1x8x128.size a ≤ S2129920x8x128.size a := fun i v248 k0_hw18 k0_h1 => k0_hw18 k0_h1

def k0_off55 (k0_t1 : Fin k0_t1_loop.trips) : Fin 3 → Nat :=
  let c0_239 : Index := 0#32
  let c2_240 : Index := 2#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let v255 : Index := Scalar.indexCast v238
  ![0, 2, v255.toNat]
def k0_off56 (k0_t1 : Fin k0_t1_loop.trips) : Fin 5 → Nat :=
  let c0_i32_241 : BitVec 32 := 0#32
  let c2_i32_242 : BitVec 32 := 2#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let c0_i32_244 : BitVec 32 := 0#32
  let c0_i32_245 : BitVec 32 := 0#32
  ![0, 2, v238.toNat, 0, 0]
def k0_off57 (v256 : BitVec 32) : Fin 3 → Nat :=
  let c0_i32_246 : BitVec 32 := 0#32
  let c0_i32_247 : BitVec 32 := 0#32
  ![v256.toNat, 0, 0]

def k0_chk19 (i : grid0.Coords) (v256 : BitVec 32) : Prop :=
  (∀ (k0_h1 : k0_cond1 i = 1#1), ∀ a, (k0_off57 v256) a + S1x8x128.size a ≤ S2129920x8x128.size a)
theorem k0_off57_inb : ∀ (i : grid0.Coords) (v256 : BitVec 32) (k0_hw19 : k0_chk19 i v256), ∀ (k0_h1 : k0_cond1 i = 1#1), ∀ a, (k0_off57 v256) a + S1x8x128.size a ≤ S2129920x8x128.size a := fun i v256 k0_hw19 k0_h1 => k0_hw19 k0_h1

def k0_off58 (k0_t1 : Fin k0_t1_loop.trips) : Fin 3 → Nat :=
  let c0_248 : Index := 0#32
  let c3_249 : Index := 3#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let v263 : Index := Scalar.indexCast v238
  ![0, 3, v263.toNat]
def k0_off59 (k0_t1 : Fin k0_t1_loop.trips) : Fin 5 → Nat :=
  let c0_i32_250 : BitVec 32 := 0#32
  let c3_i32_251 : BitVec 32 := 3#32
  let c0_i32_66 : BitVec 32 := 0#32
  let c1_i32_67 : BitVec 32 := 1#32
  let arg11 : BitVec 32 := Scf.iv c0_i32_66 c1_i32_67 k0_t1
  let c8_i32_220 : BitVec 32 := 8#32
  let v237 : BitVec 32 := Scalar.muli arg11 c8_i32_220
  let c4_i32 : BitVec 32 := 4#32
  let v238 : BitVec 32 := Scalar.addi v237 c4_i32
  let c0_i32_253 : BitVec 32 := 0#32
  let c0_i32_254 : BitVec 32 := 0#32
  ![0, 3, v238.toNat, 0, 0]
def k0_off60 (v264 : BitVec 32) : Fin 3 → Nat :=
  let c0_i32_255 : BitVec 32 := 0#32
  let c0_i32_256 : BitVec 32 := 0#32
  ![v264.toNat, 0, 0]

def k0_chk20 (i : grid0.Coords) (v264 : BitVec 32) : Prop :=
  (∀ (k0_h1 : k0_cond1 i = 1#1), ∀ a, (k0_off60 v264) a + S1x8x128.size a ≤ S2129920x8x128.size a)
theorem k0_off60_inb : ∀ (i : grid0.Coords) (v264 : BitVec 32) (k0_hw20 : k0_chk20 i v264), ∀ (k0_h1 : k0_cond1 i = 1#1), ∀ a, (k0_off60 v264) a + S1x8x128.size a ≤ S2129920x8x128.size a := fun i v264 k0_hw20 k0_h1 => k0_hw20 k0_h1

def k0_off61 (k0_t1 : Fin k0_t1_loop.trips) : Fin 3 → Nat :=
  let c0_258 : Index := 0#32
  let c0_259 : Index := 0#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let v273 : Index := Scalar.indexCast v272
  ![0, 0, v273.toNat]
def k0_off62 (k0_t1 : Fin k0_t1_loop.trips) : Fin 5 → Nat :=
  let c0_i32_260 : BitVec 32 := 0#32
  let c0_i32_261 : BitVec 32 := 0#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let c0_i32_263 : BitVec 32 := 0#32
  let c0_i32_264 : BitVec 32 := 0#32
  ![0, 0, v272.toNat, 0, 0]
def k0_off63 (v274 : BitVec 32) : Fin 3 → Nat :=
  let c0_i32_265 : BitVec 32 := 0#32
  let c0_i32_266 : BitVec 32 := 0#32
  ![v274.toNat, 0, 0]

def k0_chk21 (i : grid0.Coords) (v274 : BitVec 32) : Prop :=
  (∀ (k0_h1 : k0_cond1 i = 1#1), ∀ a, (k0_off63 v274) a + S1x8x128.size a ≤ S2129920x8x128.size a)
theorem k0_off63_inb : ∀ (i : grid0.Coords) (v274 : BitVec 32) (k0_hw21 : k0_chk21 i v274), ∀ (k0_h1 : k0_cond1 i = 1#1), ∀ a, (k0_off63 v274) a + S1x8x128.size a ≤ S2129920x8x128.size a := fun i v274 k0_hw21 k0_h1 => k0_hw21 k0_h1

def k0_off64 (k0_t1 : Fin k0_t1_loop.trips) : Fin 3 → Nat :=
  let c0_267 : Index := 0#32
  let c1_268 : Index := 1#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let v281 : Index := Scalar.indexCast v272
  ![0, 1, v281.toNat]
def k0_off65 (k0_t1 : Fin k0_t1_loop.trips) : Fin 5 → Nat :=
  let c0_i32_269 : BitVec 32 := 0#32
  let c1_i32_270 : BitVec 32 := 1#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let c0_i32_272 : BitVec 32 := 0#32
  let c0_i32_273 : BitVec 32 := 0#32
  ![0, 1, v272.toNat, 0, 0]
def k0_off66 (v282 : BitVec 32) : Fin 3 → Nat :=
  let c0_i32_274 : BitVec 32 := 0#32
  let c0_i32_275 : BitVec 32 := 0#32
  ![v282.toNat, 0, 0]

def k0_chk22 (i : grid0.Coords) (v282 : BitVec 32) : Prop :=
  (∀ (k0_h1 : k0_cond1 i = 1#1), ∀ a, (k0_off66 v282) a + S1x8x128.size a ≤ S2129920x8x128.size a)
theorem k0_off66_inb : ∀ (i : grid0.Coords) (v282 : BitVec 32) (k0_hw22 : k0_chk22 i v282), ∀ (k0_h1 : k0_cond1 i = 1#1), ∀ a, (k0_off66 v282) a + S1x8x128.size a ≤ S2129920x8x128.size a := fun i v282 k0_hw22 k0_h1 => k0_hw22 k0_h1

def k0_off67 (k0_t1 : Fin k0_t1_loop.trips) : Fin 3 → Nat :=
  let c0_276 : Index := 0#32
  let c2_277 : Index := 2#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let v289 : Index := Scalar.indexCast v272
  ![0, 2, v289.toNat]
def k0_off68 (k0_t1 : Fin k0_t1_loop.trips) : Fin 5 → Nat :=
  let c0_i32_278 : BitVec 32 := 0#32
  let c2_i32_279 : BitVec 32 := 2#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let c0_i32_281 : BitVec 32 := 0#32
  let c0_i32_282 : BitVec 32 := 0#32
  ![0, 2, v272.toNat, 0, 0]
def k0_off69 (v290 : BitVec 32) : Fin 3 → Nat :=
  let c0_i32_283 : BitVec 32 := 0#32
  let c0_i32_284 : BitVec 32 := 0#32
  ![v290.toNat, 0, 0]

def k0_chk23 (i : grid0.Coords) (v290 : BitVec 32) : Prop :=
  (∀ (k0_h1 : k0_cond1 i = 1#1), ∀ a, (k0_off69 v290) a + S1x8x128.size a ≤ S2129920x8x128.size a)
theorem k0_off69_inb : ∀ (i : grid0.Coords) (v290 : BitVec 32) (k0_hw23 : k0_chk23 i v290), ∀ (k0_h1 : k0_cond1 i = 1#1), ∀ a, (k0_off69 v290) a + S1x8x128.size a ≤ S2129920x8x128.size a := fun i v290 k0_hw23 k0_h1 => k0_hw23 k0_h1

def k0_off70 (k0_t1 : Fin k0_t1_loop.trips) : Fin 3 → Nat :=
  let c0_285 : Index := 0#32
  let c3_286 : Index := 3#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let v297 : Index := Scalar.indexCast v272
  ![0, 3, v297.toNat]
def k0_off71 (k0_t1 : Fin k0_t1_loop.trips) : Fin 5 → Nat :=
  let c0_i32_287 : BitVec 32 := 0#32
  let c3_i32_288 : BitVec 32 := 3#32
  let c0_i32_66 : BitVec 32 := 0#32
  let c1_i32_67 : BitVec 32 := 1#32
  let arg11 : BitVec 32 := Scf.iv c0_i32_66 c1_i32_67 k0_t1
  let c8_i32_257 : BitVec 32 := 8#32
  let v271 : BitVec 32 := Scalar.muli arg11 c8_i32_257
  let c5_i32 : BitVec 32 := 5#32
  let v272 : BitVec 32 := Scalar.addi v271 c5_i32
  let c0_i32_290 : BitVec 32 := 0#32
  let c0_i32_291 : BitVec 32 := 0#32
  ![0, 3, v272.toNat, 0, 0]
def k0_off72 (v298 : BitVec 32) : Fin 3 → Nat :=
  let c0_i32_292 : BitVec 32 := 0#32
  let c0_i32_293 : BitVec 32 := 0#32
  ![v298.toNat, 0, 0]

def k0_chk24 (i : grid0.Coords) (v298 : BitVec 32) : Prop :=
  (∀ (k0_h1 : k0_cond1 i = 1#1), ∀ a, (k0_off72 v298) a + S1x8x128.size a ≤ S2129920x8x128.size a)
theorem k0_off72_inb : ∀ (i : grid0.Coords) (v298 : BitVec 32) (k0_hw24 : k0_chk24 i v298), ∀ (k0_h1 : k0_cond1 i = 1#1), ∀ a, (k0_off72 v298) a + S1x8x128.size a ≤ S2129920x8x128.size a := fun i v298 k0_hw24 k0_h1 => k0_hw24 k0_h1

def k0_off73 (k0_t1 : Fin k0_t1_loop.trips) : Fin 3 → Nat :=
  let c0_295 : Index := 0#32
  let c0_296 : Index := 0#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let v307 : Index := Scalar.indexCast v306
  ![0, 0, v307.toNat]
def k0_off74 (k0_t1 : Fin k0_t1_loop.trips) : Fin 5 → Nat :=
  let c0_i32_297 : BitVec 32 := 0#32
  let c0_i32_298 : BitVec 32 := 0#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let c0_i32_300 : BitVec 32 := 0#32
  let c0_i32_301 : BitVec 32 := 0#32
  ![0, 0, v306.toNat, 0, 0]
def k0_off75 (v308 : BitVec 32) : Fin 3 → Nat :=
  let c0_i32_302 : BitVec 32 := 0#32
  let c0_i32_303 : BitVec 32 := 0#32
  ![v308.toNat, 0, 0]

def k0_chk25 (i : grid0.Coords) (v308 : BitVec 32) : Prop :=
  (∀ (k0_h1 : k0_cond1 i = 1#1), ∀ a, (k0_off75 v308) a + S1x8x128.size a ≤ S2129920x8x128.size a)
theorem k0_off75_inb : ∀ (i : grid0.Coords) (v308 : BitVec 32) (k0_hw25 : k0_chk25 i v308), ∀ (k0_h1 : k0_cond1 i = 1#1), ∀ a, (k0_off75 v308) a + S1x8x128.size a ≤ S2129920x8x128.size a := fun i v308 k0_hw25 k0_h1 => k0_hw25 k0_h1

def k0_off76 (k0_t1 : Fin k0_t1_loop.trips) : Fin 3 → Nat :=
  let c0_304 : Index := 0#32
  let c1_305 : Index := 1#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let v315 : Index := Scalar.indexCast v306
  ![0, 1, v315.toNat]
def k0_off77 (k0_t1 : Fin k0_t1_loop.trips) : Fin 5 → Nat :=
  let c0_i32_306 : BitVec 32 := 0#32
  let c1_i32_307 : BitVec 32 := 1#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let c0_i32_309 : BitVec 32 := 0#32
  let c0_i32_310 : BitVec 32 := 0#32
  ![0, 1, v306.toNat, 0, 0]
def k0_off78 (v316 : BitVec 32) : Fin 3 → Nat :=
  let c0_i32_311 : BitVec 32 := 0#32
  let c0_i32_312 : BitVec 32 := 0#32
  ![v316.toNat, 0, 0]

def k0_chk26 (i : grid0.Coords) (v316 : BitVec 32) : Prop :=
  (∀ (k0_h1 : k0_cond1 i = 1#1), ∀ a, (k0_off78 v316) a + S1x8x128.size a ≤ S2129920x8x128.size a)
theorem k0_off78_inb : ∀ (i : grid0.Coords) (v316 : BitVec 32) (k0_hw26 : k0_chk26 i v316), ∀ (k0_h1 : k0_cond1 i = 1#1), ∀ a, (k0_off78 v316) a + S1x8x128.size a ≤ S2129920x8x128.size a := fun i v316 k0_hw26 k0_h1 => k0_hw26 k0_h1

def k0_off79 (k0_t1 : Fin k0_t1_loop.trips) : Fin 3 → Nat :=
  let c0_313 : Index := 0#32
  let c2_314 : Index := 2#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let v323 : Index := Scalar.indexCast v306
  ![0, 2, v323.toNat]
def k0_off80 (k0_t1 : Fin k0_t1_loop.trips) : Fin 5 → Nat :=
  let c0_i32_315 : BitVec 32 := 0#32
  let c2_i32_316 : BitVec 32 := 2#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let c0_i32_318 : BitVec 32 := 0#32
  let c0_i32_319 : BitVec 32 := 0#32
  ![0, 2, v306.toNat, 0, 0]
def k0_off81 (v324 : BitVec 32) : Fin 3 → Nat :=
  let c0_i32_320 : BitVec 32 := 0#32
  let c0_i32_321 : BitVec 32 := 0#32
  ![v324.toNat, 0, 0]

def k0_chk27 (i : grid0.Coords) (v324 : BitVec 32) : Prop :=
  (∀ (k0_h1 : k0_cond1 i = 1#1), ∀ a, (k0_off81 v324) a + S1x8x128.size a ≤ S2129920x8x128.size a)
theorem k0_off81_inb : ∀ (i : grid0.Coords) (v324 : BitVec 32) (k0_hw27 : k0_chk27 i v324), ∀ (k0_h1 : k0_cond1 i = 1#1), ∀ a, (k0_off81 v324) a + S1x8x128.size a ≤ S2129920x8x128.size a := fun i v324 k0_hw27 k0_h1 => k0_hw27 k0_h1

def k0_off82 (k0_t1 : Fin k0_t1_loop.trips) : Fin 3 → Nat :=
  let c0_322 : Index := 0#32
  let c3_323 : Index := 3#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let v331 : Index := Scalar.indexCast v306
  ![0, 3, v331.toNat]
def k0_off83 (k0_t1 : Fin k0_t1_loop.trips) : Fin 5 → Nat :=
  let c0_i32_324 : BitVec 32 := 0#32
  let c3_i32_325 : BitVec 32 := 3#32
  let c0_i32_66 : BitVec 32 := 0#32
  let c1_i32_67 : BitVec 32 := 1#32
  let arg11 : BitVec 32 := Scf.iv c0_i32_66 c1_i32_67 k0_t1
  let c8_i32_294 : BitVec 32 := 8#32
  let v305 : BitVec 32 := Scalar.muli arg11 c8_i32_294
  let c6_i32 : BitVec 32 := 6#32
  let v306 : BitVec 32 := Scalar.addi v305 c6_i32
  let c0_i32_327 : BitVec 32 := 0#32
  let c0_i32_328 : BitVec 32 := 0#32
  ![0, 3, v306.toNat, 0, 0]
def k0_off84 (v332 : BitVec 32) : Fin 3 → Nat :=
  let c0_i32_329 : BitVec 32 := 0#32
  let c0_i32_330 : BitVec 32 := 0#32
  ![v332.toNat, 0, 0]

def k0_chk28 (i : grid0.Coords) (v332 : BitVec 32) : Prop :=
  (∀ (k0_h1 : k0_cond1 i = 1#1), ∀ a, (k0_off84 v332) a + S1x8x128.size a ≤ S2129920x8x128.size a)
theorem k0_off84_inb : ∀ (i : grid0.Coords) (v332 : BitVec 32) (k0_hw28 : k0_chk28 i v332), ∀ (k0_h1 : k0_cond1 i = 1#1), ∀ a, (k0_off84 v332) a + S1x8x128.size a ≤ S2129920x8x128.size a := fun i v332 k0_hw28 k0_h1 => k0_hw28 k0_h1

def k0_off85 (k0_t1 : Fin k0_t1_loop.trips) : Fin 3 → Nat :=
  let c0_332 : Index := 0#32
  let c0_333 : Index := 0#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let v341 : Index := Scalar.indexCast v340
  ![0, 0, v341.toNat]
def k0_off86 (k0_t1 : Fin k0_t1_loop.trips) : Fin 5 → Nat :=
  let c0_i32_334 : BitVec 32 := 0#32
  let c0_i32_335 : BitVec 32 := 0#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let c0_i32_337 : BitVec 32 := 0#32
  let c0_i32_338 : BitVec 32 := 0#32
  ![0, 0, v340.toNat, 0, 0]
def k0_off87 (v342 : BitVec 32) : Fin 3 → Nat :=
  let c0_i32_339 : BitVec 32 := 0#32
  let c0_i32_340 : BitVec 32 := 0#32
  ![v342.toNat, 0, 0]

def k0_chk29 (i : grid0.Coords) (v342 : BitVec 32) : Prop :=
  (∀ (k0_h1 : k0_cond1 i = 1#1), ∀ a, (k0_off87 v342) a + S1x8x128.size a ≤ S2129920x8x128.size a)
theorem k0_off87_inb : ∀ (i : grid0.Coords) (v342 : BitVec 32) (k0_hw29 : k0_chk29 i v342), ∀ (k0_h1 : k0_cond1 i = 1#1), ∀ a, (k0_off87 v342) a + S1x8x128.size a ≤ S2129920x8x128.size a := fun i v342 k0_hw29 k0_h1 => k0_hw29 k0_h1

def k0_off88 (k0_t1 : Fin k0_t1_loop.trips) : Fin 3 → Nat :=
  let c0_341 : Index := 0#32
  let c1_342 : Index := 1#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let v349 : Index := Scalar.indexCast v340
  ![0, 1, v349.toNat]
def k0_off89 (k0_t1 : Fin k0_t1_loop.trips) : Fin 5 → Nat :=
  let c0_i32_343 : BitVec 32 := 0#32
  let c1_i32_344 : BitVec 32 := 1#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let c0_i32_346 : BitVec 32 := 0#32
  let c0_i32_347 : BitVec 32 := 0#32
  ![0, 1, v340.toNat, 0, 0]
def k0_off90 (v350 : BitVec 32) : Fin 3 → Nat :=
  let c0_i32_348 : BitVec 32 := 0#32
  let c0_i32_349 : BitVec 32 := 0#32
  ![v350.toNat, 0, 0]

def k0_chk30 (i : grid0.Coords) (v350 : BitVec 32) : Prop :=
  (∀ (k0_h1 : k0_cond1 i = 1#1), ∀ a, (k0_off90 v350) a + S1x8x128.size a ≤ S2129920x8x128.size a)
theorem k0_off90_inb : ∀ (i : grid0.Coords) (v350 : BitVec 32) (k0_hw30 : k0_chk30 i v350), ∀ (k0_h1 : k0_cond1 i = 1#1), ∀ a, (k0_off90 v350) a + S1x8x128.size a ≤ S2129920x8x128.size a := fun i v350 k0_hw30 k0_h1 => k0_hw30 k0_h1

def k0_off91 (k0_t1 : Fin k0_t1_loop.trips) : Fin 3 → Nat :=
  let c0_350 : Index := 0#32
  let c2_351 : Index := 2#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let v357 : Index := Scalar.indexCast v340
  ![0, 2, v357.toNat]
def k0_off92 (k0_t1 : Fin k0_t1_loop.trips) : Fin 5 → Nat :=
  let c0_i32_352 : BitVec 32 := 0#32
  let c2_i32_353 : BitVec 32 := 2#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let c0_i32_355 : BitVec 32 := 0#32
  let c0_i32_356 : BitVec 32 := 0#32
  ![0, 2, v340.toNat, 0, 0]
def k0_off93 (v358 : BitVec 32) : Fin 3 → Nat :=
  let c0_i32_357 : BitVec 32 := 0#32
  let c0_i32_358 : BitVec 32 := 0#32
  ![v358.toNat, 0, 0]

def k0_chk31 (i : grid0.Coords) (v358 : BitVec 32) : Prop :=
  (∀ (k0_h1 : k0_cond1 i = 1#1), ∀ a, (k0_off93 v358) a + S1x8x128.size a ≤ S2129920x8x128.size a)
theorem k0_off93_inb : ∀ (i : grid0.Coords) (v358 : BitVec 32) (k0_hw31 : k0_chk31 i v358), ∀ (k0_h1 : k0_cond1 i = 1#1), ∀ a, (k0_off93 v358) a + S1x8x128.size a ≤ S2129920x8x128.size a := fun i v358 k0_hw31 k0_h1 => k0_hw31 k0_h1

def k0_off94 (k0_t1 : Fin k0_t1_loop.trips) : Fin 3 → Nat :=
  let c0_359 : Index := 0#32
  let c3_360 : Index := 3#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let v365 : Index := Scalar.indexCast v340
  ![0, 3, v365.toNat]
def k0_off95 (k0_t1 : Fin k0_t1_loop.trips) : Fin 5 → Nat :=
  let c0_i32_361 : BitVec 32 := 0#32
  let c3_i32_362 : BitVec 32 := 3#32
  let c0_i32_66 : BitVec 32 := 0#32
  let c1_i32_67 : BitVec 32 := 1#32
  let arg11 : BitVec 32 := Scf.iv c0_i32_66 c1_i32_67 k0_t1
  let c8_i32_331 : BitVec 32 := 8#32
  let v339 : BitVec 32 := Scalar.muli arg11 c8_i32_331
  let c7_i32 : BitVec 32 := 7#32
  let v340 : BitVec 32 := Scalar.addi v339 c7_i32
  let c0_i32_364 : BitVec 32 := 0#32
  let c0_i32_365 : BitVec 32 := 0#32
  ![0, 3, v340.toNat, 0, 0]
def k0_off96 (v366 : BitVec 32) : Fin 3 → Nat :=
  let c0_i32_366 : BitVec 32 := 0#32
  let c0_i32_367 : BitVec 32 := 0#32
  ![v366.toNat, 0, 0]

def k0_chk32 (i : grid0.Coords) (v366 : BitVec 32) : Prop :=
  (∀ (k0_h1 : k0_cond1 i = 1#1), ∀ a, (k0_off96 v366) a + S1x8x128.size a ≤ S2129920x8x128.size a)
theorem k0_off96_inb : ∀ (i : grid0.Coords) (v366 : BitVec 32) (k0_hw32 : k0_chk32 i v366), ∀ (k0_h1 : k0_cond1 i = 1#1), ∀ a, (k0_off96 v366) a + S1x8x128.size a ≤ S2129920x8x128.size a := fun i v366 k0_hw32 k0_h1 => k0_hw32 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c128_i32 : BitVec 32 := 128#32
  let v14 : BitVec 1 := Scalar.cmpi .slt v13 c128_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_67 : BitVec 32 := 0#32
  let c64_i32 : BitVec 32 := 64#32
  let v101 : BitVec 32 := Scalar.addi c0_i32_67 c64_i32
  let c1_i32_68 : BitVec 32 := 1#32
  ⟨c0_i32_67, v101, c1_i32_68⟩
def k0_off97 (k0_t2 : Fin k0_t2_loop.trips) : Fin 3 → Nat :=
  let c0_71 : Index := 0#32
  let c0_72 : Index := 0#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let v104 : Index := Scalar.indexCast v103
  ![0, 0, v104.toNat]
def k0_off98 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off99 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_73 : BitVec 32 := 0#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let c0_i32_74 : BitVec 32 := 0#32
  let c0_i32_75 : BitVec 32 := 0#32
  ![v100.toNat, 0, v103.toNat, 0, 0]
def k0_off100 (v105 : BitVec 32) : Fin 3 → Nat :=
  let c0_i32_76 : BitVec 32 := 0#32
  let c0_i32_77 : BitVec 32 := 0#32
  ![v105.toNat, 0, 0]

def k0_chk33 (i : grid0.Coords) (v105 : BitVec 32) : Prop :=
  (∀ (k0_h2 : k0_cond2 i = 1#1), ∀ a, (k0_off100 v105) a + S1x8x128.size a ≤ S2129920x8x128.size a)
theorem k0_off100_inb : ∀ (i : grid0.Coords) (v105 : BitVec 32) (k0_hw33 : k0_chk33 i v105), ∀ (k0_h2 : k0_cond2 i = 1#1), ∀ a, (k0_off100 v105) a + S1x8x128.size a ≤ S2129920x8x128.size a := fun i v105 k0_hw33 k0_h2 => k0_hw33 k0_h2

def k0_off101 (k0_t2 : Fin k0_t2_loop.trips) : Fin 3 → Nat :=
  let c0_78 : Index := 0#32
  let c1_79 : Index := 1#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let v112 : Index := Scalar.indexCast v103
  ![0, 1, v112.toNat]
def k0_off102 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off103 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_80 : BitVec 32 := 1#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let c0_i32_81 : BitVec 32 := 0#32
  let c0_i32_82 : BitVec 32 := 0#32
  ![v100.toNat, 1, v103.toNat, 0, 0]
def k0_off104 (v113 : BitVec 32) : Fin 3 → Nat :=
  let c0_i32_83 : BitVec 32 := 0#32
  let c0_i32_84 : BitVec 32 := 0#32
  ![v113.toNat, 0, 0]

def k0_chk34 (i : grid0.Coords) (v113 : BitVec 32) : Prop :=
  (∀ (k0_h2 : k0_cond2 i = 1#1), ∀ a, (k0_off104 v113) a + S1x8x128.size a ≤ S2129920x8x128.size a)
theorem k0_off104_inb : ∀ (i : grid0.Coords) (v113 : BitVec 32) (k0_hw34 : k0_chk34 i v113), ∀ (k0_h2 : k0_cond2 i = 1#1), ∀ a, (k0_off104 v113) a + S1x8x128.size a ≤ S2129920x8x128.size a := fun i v113 k0_hw34 k0_h2 => k0_hw34 k0_h2

def k0_off105 (k0_t2 : Fin k0_t2_loop.trips) : Fin 3 → Nat :=
  let c0_85 : Index := 0#32
  let c2_86 : Index := 2#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let v120 : Index := Scalar.indexCast v103
  ![0, 2, v120.toNat]
def k0_off106 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off107 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_87 : BitVec 32 := 2#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let c0_i32_88 : BitVec 32 := 0#32
  let c0_i32_89 : BitVec 32 := 0#32
  ![v100.toNat, 2, v103.toNat, 0, 0]
def k0_off108 (v121 : BitVec 32) : Fin 3 → Nat :=
  let c0_i32_90 : BitVec 32 := 0#32
  let c0_i32_91 : BitVec 32 := 0#32
  ![v121.toNat, 0, 0]

def k0_chk35 (i : grid0.Coords) (v121 : BitVec 32) : Prop :=
  (∀ (k0_h2 : k0_cond2 i = 1#1), ∀ a, (k0_off108 v121) a + S1x8x128.size a ≤ S2129920x8x128.size a)
theorem k0_off108_inb : ∀ (i : grid0.Coords) (v121 : BitVec 32) (k0_hw35 : k0_chk35 i v121), ∀ (k0_h2 : k0_cond2 i = 1#1), ∀ a, (k0_off108 v121) a + S1x8x128.size a ≤ S2129920x8x128.size a := fun i v121 k0_hw35 k0_h2 => k0_hw35 k0_h2

def k0_off109 (k0_t2 : Fin k0_t2_loop.trips) : Fin 3 → Nat :=
  let c0_92 : Index := 0#32
  let c3_93 : Index := 3#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let v128 : Index := Scalar.indexCast v103
  ![0, 3, v128.toNat]
def k0_off110 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off111 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_94 : BitVec 32 := 3#32
  let c0_i32_67 : BitVec 32 := 0#32
  let c1_i32_68 : BitVec 32 := 1#32
  let arg11 : BitVec 32 := Scf.iv c0_i32_67 c1_i32_68 k0_t2
  let c8_i32 : BitVec 32 := 8#32
  let v102 : BitVec 32 := Scalar.muli arg11 c8_i32
  let c0_i32_70 : BitVec 32 := 0#32
  let v103 : BitVec 32 := Scalar.addi v102 c0_i32_70
  let c0_i32_95 : BitVec 32 := 0#32
  let c0_i32_96 : BitVec 32 := 0#32
  ![v100.toNat, 3, v103.toNat, 0, 0]
def k0_off112 (v129 : BitVec 32) : Fin 3 → Nat :=
  let c0_i32_97 : BitVec 32 := 0#32
  let c0_i32_98 : BitVec 32 := 0#32
  ![v129.toNat, 0, 0]

def k0_chk36 (i : grid0.Coords) (v129 : BitVec 32) : Prop :=
  (∀ (k0_h2 : k0_cond2 i = 1#1), ∀ a, (k0_off112 v129) a + S1x8x128.size a ≤ S2129920x8x128.size a)
theorem k0_off112_inb : ∀ (i : grid0.Coords) (v129 : BitVec 32) (k0_hw36 : k0_chk36 i v129), ∀ (k0_h2 : k0_cond2 i = 1#1), ∀ a, (k0_off112 v129) a + S1x8x128.size a ≤ S2129920x8x128.size a := fun i v129 k0_hw36 k0_h2 => k0_hw36 k0_h2

def k0_off113 (k0_t2 : Fin k0_t2_loop.trips) : Fin 3 → Nat :=
  let c0_101 : Index := 0#32
  let c0_102 : Index := 0#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let v138 : Index := Scalar.indexCast v137
  ![0, 0, v138.toNat]
def k0_off114 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off115 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_103 : BitVec 32 := 0#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let c0_i32_104 : BitVec 32 := 0#32
  let c0_i32_105 : BitVec 32 := 0#32
  ![v100.toNat, 0, v137.toNat, 0, 0]
def k0_off116 (v139 : BitVec 32) : Fin 3 → Nat :=
  let c0_i32_106 : BitVec 32 := 0#32
  let c0_i32_107 : BitVec 32 := 0#32
  ![v139.toNat, 0, 0]

def k0_chk37 (i : grid0.Coords) (v139 : BitVec 32) : Prop :=
  (∀ (k0_h2 : k0_cond2 i = 1#1), ∀ a, (k0_off116 v139) a + S1x8x128.size a ≤ S2129920x8x128.size a)
theorem k0_off116_inb : ∀ (i : grid0.Coords) (v139 : BitVec 32) (k0_hw37 : k0_chk37 i v139), ∀ (k0_h2 : k0_cond2 i = 1#1), ∀ a, (k0_off116 v139) a + S1x8x128.size a ≤ S2129920x8x128.size a := fun i v139 k0_hw37 k0_h2 => k0_hw37 k0_h2

def k0_off117 (k0_t2 : Fin k0_t2_loop.trips) : Fin 3 → Nat :=
  let c0_108 : Index := 0#32
  let c1_109 : Index := 1#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let v146 : Index := Scalar.indexCast v137
  ![0, 1, v146.toNat]
def k0_off118 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off119 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_110 : BitVec 32 := 1#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let c0_i32_111 : BitVec 32 := 0#32
  let c0_i32_112 : BitVec 32 := 0#32
  ![v100.toNat, 1, v137.toNat, 0, 0]
def k0_off120 (v147 : BitVec 32) : Fin 3 → Nat :=
  let c0_i32_113 : BitVec 32 := 0#32
  let c0_i32_114 : BitVec 32 := 0#32
  ![v147.toNat, 0, 0]

def k0_chk38 (i : grid0.Coords) (v147 : BitVec 32) : Prop :=
  (∀ (k0_h2 : k0_cond2 i = 1#1), ∀ a, (k0_off120 v147) a + S1x8x128.size a ≤ S2129920x8x128.size a)
theorem k0_off120_inb : ∀ (i : grid0.Coords) (v147 : BitVec 32) (k0_hw38 : k0_chk38 i v147), ∀ (k0_h2 : k0_cond2 i = 1#1), ∀ a, (k0_off120 v147) a + S1x8x128.size a ≤ S2129920x8x128.size a := fun i v147 k0_hw38 k0_h2 => k0_hw38 k0_h2

def k0_off121 (k0_t2 : Fin k0_t2_loop.trips) : Fin 3 → Nat :=
  let c0_115 : Index := 0#32
  let c2_116 : Index := 2#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let v154 : Index := Scalar.indexCast v137
  ![0, 2, v154.toNat]
def k0_off122 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off123 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_117 : BitVec 32 := 2#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let c0_i32_118 : BitVec 32 := 0#32
  let c0_i32_119 : BitVec 32 := 0#32
  ![v100.toNat, 2, v137.toNat, 0, 0]
def k0_off124 (v155 : BitVec 32) : Fin 3 → Nat :=
  let c0_i32_120 : BitVec 32 := 0#32
  let c0_i32_121 : BitVec 32 := 0#32
  ![v155.toNat, 0, 0]

def k0_chk39 (i : grid0.Coords) (v155 : BitVec 32) : Prop :=
  (∀ (k0_h2 : k0_cond2 i = 1#1), ∀ a, (k0_off124 v155) a + S1x8x128.size a ≤ S2129920x8x128.size a)
theorem k0_off124_inb : ∀ (i : grid0.Coords) (v155 : BitVec 32) (k0_hw39 : k0_chk39 i v155), ∀ (k0_h2 : k0_cond2 i = 1#1), ∀ a, (k0_off124 v155) a + S1x8x128.size a ≤ S2129920x8x128.size a := fun i v155 k0_hw39 k0_h2 => k0_hw39 k0_h2

def k0_off125 (k0_t2 : Fin k0_t2_loop.trips) : Fin 3 → Nat :=
  let c0_122 : Index := 0#32
  let c3_123 : Index := 3#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let v162 : Index := Scalar.indexCast v137
  ![0, 3, v162.toNat]
def k0_off126 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off127 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_124 : BitVec 32 := 3#32
  let c0_i32_67 : BitVec 32 := 0#32
  let c1_i32_68 : BitVec 32 := 1#32
  let arg11 : BitVec 32 := Scf.iv c0_i32_67 c1_i32_68 k0_t2
  let c8_i32_99 : BitVec 32 := 8#32
  let v136 : BitVec 32 := Scalar.muli arg11 c8_i32_99
  let c1_i32_100 : BitVec 32 := 1#32
  let v137 : BitVec 32 := Scalar.addi v136 c1_i32_100
  let c0_i32_125 : BitVec 32 := 0#32
  let c0_i32_126 : BitVec 32 := 0#32
  ![v100.toNat, 3, v137.toNat, 0, 0]
def k0_off128 (v163 : BitVec 32) : Fin 3 → Nat :=
  let c0_i32_127 : BitVec 32 := 0#32
  let c0_i32_128 : BitVec 32 := 0#32
  ![v163.toNat, 0, 0]

def k0_chk40 (i : grid0.Coords) (v163 : BitVec 32) : Prop :=
  (∀ (k0_h2 : k0_cond2 i = 1#1), ∀ a, (k0_off128 v163) a + S1x8x128.size a ≤ S2129920x8x128.size a)
theorem k0_off128_inb : ∀ (i : grid0.Coords) (v163 : BitVec 32) (k0_hw40 : k0_chk40 i v163), ∀ (k0_h2 : k0_cond2 i = 1#1), ∀ a, (k0_off128 v163) a + S1x8x128.size a ≤ S2129920x8x128.size a := fun i v163 k0_hw40 k0_h2 => k0_hw40 k0_h2

def k0_off129 (k0_t2 : Fin k0_t2_loop.trips) : Fin 3 → Nat :=
  let c0_131 : Index := 0#32
  let c0_132 : Index := 0#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let v172 : Index := Scalar.indexCast v171
  ![0, 0, v172.toNat]
def k0_off130 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off131 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_133 : BitVec 32 := 0#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let c0_i32_134 : BitVec 32 := 0#32
  let c0_i32_135 : BitVec 32 := 0#32
  ![v100.toNat, 0, v171.toNat, 0, 0]
def k0_off132 (v173 : BitVec 32) : Fin 3 → Nat :=
  let c0_i32_136 : BitVec 32 := 0#32
  let c0_i32_137 : BitVec 32 := 0#32
  ![v173.toNat, 0, 0]

def k0_chk41 (i : grid0.Coords) (v173 : BitVec 32) : Prop :=
  (∀ (k0_h2 : k0_cond2 i = 1#1), ∀ a, (k0_off132 v173) a + S1x8x128.size a ≤ S2129920x8x128.size a)
theorem k0_off132_inb : ∀ (i : grid0.Coords) (v173 : BitVec 32) (k0_hw41 : k0_chk41 i v173), ∀ (k0_h2 : k0_cond2 i = 1#1), ∀ a, (k0_off132 v173) a + S1x8x128.size a ≤ S2129920x8x128.size a := fun i v173 k0_hw41 k0_h2 => k0_hw41 k0_h2

def k0_off133 (k0_t2 : Fin k0_t2_loop.trips) : Fin 3 → Nat :=
  let c0_138 : Index := 0#32
  let c1_139 : Index := 1#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let v180 : Index := Scalar.indexCast v171
  ![0, 1, v180.toNat]
def k0_off134 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off135 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_140 : BitVec 32 := 1#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let c0_i32_141 : BitVec 32 := 0#32
  let c0_i32_142 : BitVec 32 := 0#32
  ![v100.toNat, 1, v171.toNat, 0, 0]
def k0_off136 (v181 : BitVec 32) : Fin 3 → Nat :=
  let c0_i32_143 : BitVec 32 := 0#32
  let c0_i32_144 : BitVec 32 := 0#32
  ![v181.toNat, 0, 0]

def k0_chk42 (i : grid0.Coords) (v181 : BitVec 32) : Prop :=
  (∀ (k0_h2 : k0_cond2 i = 1#1), ∀ a, (k0_off136 v181) a + S1x8x128.size a ≤ S2129920x8x128.size a)
theorem k0_off136_inb : ∀ (i : grid0.Coords) (v181 : BitVec 32) (k0_hw42 : k0_chk42 i v181), ∀ (k0_h2 : k0_cond2 i = 1#1), ∀ a, (k0_off136 v181) a + S1x8x128.size a ≤ S2129920x8x128.size a := fun i v181 k0_hw42 k0_h2 => k0_hw42 k0_h2

def k0_off137 (k0_t2 : Fin k0_t2_loop.trips) : Fin 3 → Nat :=
  let c0_145 : Index := 0#32
  let c2_146 : Index := 2#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let v188 : Index := Scalar.indexCast v171
  ![0, 2, v188.toNat]
def k0_off138 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off139 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_147 : BitVec 32 := 2#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let c0_i32_148 : BitVec 32 := 0#32
  let c0_i32_149 : BitVec 32 := 0#32
  ![v100.toNat, 2, v171.toNat, 0, 0]
def k0_off140 (v189 : BitVec 32) : Fin 3 → Nat :=
  let c0_i32_150 : BitVec 32 := 0#32
  let c0_i32_151 : BitVec 32 := 0#32
  ![v189.toNat, 0, 0]

def k0_chk43 (i : grid0.Coords) (v189 : BitVec 32) : Prop :=
  (∀ (k0_h2 : k0_cond2 i = 1#1), ∀ a, (k0_off140 v189) a + S1x8x128.size a ≤ S2129920x8x128.size a)
theorem k0_off140_inb : ∀ (i : grid0.Coords) (v189 : BitVec 32) (k0_hw43 : k0_chk43 i v189), ∀ (k0_h2 : k0_cond2 i = 1#1), ∀ a, (k0_off140 v189) a + S1x8x128.size a ≤ S2129920x8x128.size a := fun i v189 k0_hw43 k0_h2 => k0_hw43 k0_h2

def k0_off141 (k0_t2 : Fin k0_t2_loop.trips) : Fin 3 → Nat :=
  let c0_152 : Index := 0#32
  let c3_153 : Index := 3#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let v196 : Index := Scalar.indexCast v171
  ![0, 3, v196.toNat]
def k0_off142 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off143 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_154 : BitVec 32 := 3#32
  let c0_i32_67 : BitVec 32 := 0#32
  let c1_i32_68 : BitVec 32 := 1#32
  let arg11 : BitVec 32 := Scf.iv c0_i32_67 c1_i32_68 k0_t2
  let c8_i32_129 : BitVec 32 := 8#32
  let v170 : BitVec 32 := Scalar.muli arg11 c8_i32_129
  let c2_i32_130 : BitVec 32 := 2#32
  let v171 : BitVec 32 := Scalar.addi v170 c2_i32_130
  let c0_i32_155 : BitVec 32 := 0#32
  let c0_i32_156 : BitVec 32 := 0#32
  ![v100.toNat, 3, v171.toNat, 0, 0]
def k0_off144 (v197 : BitVec 32) : Fin 3 → Nat :=
  let c0_i32_157 : BitVec 32 := 0#32
  let c0_i32_158 : BitVec 32 := 0#32
  ![v197.toNat, 0, 0]

def k0_chk44 (i : grid0.Coords) (v197 : BitVec 32) : Prop :=
  (∀ (k0_h2 : k0_cond2 i = 1#1), ∀ a, (k0_off144 v197) a + S1x8x128.size a ≤ S2129920x8x128.size a)
theorem k0_off144_inb : ∀ (i : grid0.Coords) (v197 : BitVec 32) (k0_hw44 : k0_chk44 i v197), ∀ (k0_h2 : k0_cond2 i = 1#1), ∀ a, (k0_off144 v197) a + S1x8x128.size a ≤ S2129920x8x128.size a := fun i v197 k0_hw44 k0_h2 => k0_hw44 k0_h2

def k0_off145 (k0_t2 : Fin k0_t2_loop.trips) : Fin 3 → Nat :=
  let c0_161 : Index := 0#32
  let c0_162 : Index := 0#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let v206 : Index := Scalar.indexCast v205
  ![0, 0, v206.toNat]
def k0_off146 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off147 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_163 : BitVec 32 := 0#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let c0_i32_164 : BitVec 32 := 0#32
  let c0_i32_165 : BitVec 32 := 0#32
  ![v100.toNat, 0, v205.toNat, 0, 0]
def k0_off148 (v207 : BitVec 32) : Fin 3 → Nat :=
  let c0_i32_166 : BitVec 32 := 0#32
  let c0_i32_167 : BitVec 32 := 0#32
  ![v207.toNat, 0, 0]

def k0_chk45 (i : grid0.Coords) (v207 : BitVec 32) : Prop :=
  (∀ (k0_h2 : k0_cond2 i = 1#1), ∀ a, (k0_off148 v207) a + S1x8x128.size a ≤ S2129920x8x128.size a)
theorem k0_off148_inb : ∀ (i : grid0.Coords) (v207 : BitVec 32) (k0_hw45 : k0_chk45 i v207), ∀ (k0_h2 : k0_cond2 i = 1#1), ∀ a, (k0_off148 v207) a + S1x8x128.size a ≤ S2129920x8x128.size a := fun i v207 k0_hw45 k0_h2 => k0_hw45 k0_h2

def k0_off149 (k0_t2 : Fin k0_t2_loop.trips) : Fin 3 → Nat :=
  let c0_168 : Index := 0#32
  let c1_169 : Index := 1#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let v214 : Index := Scalar.indexCast v205
  ![0, 1, v214.toNat]
def k0_off150 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off151 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_170 : BitVec 32 := 1#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let c0_i32_171 : BitVec 32 := 0#32
  let c0_i32_172 : BitVec 32 := 0#32
  ![v100.toNat, 1, v205.toNat, 0, 0]
def k0_off152 (v215 : BitVec 32) : Fin 3 → Nat :=
  let c0_i32_173 : BitVec 32 := 0#32
  let c0_i32_174 : BitVec 32 := 0#32
  ![v215.toNat, 0, 0]

def k0_chk46 (i : grid0.Coords) (v215 : BitVec 32) : Prop :=
  (∀ (k0_h2 : k0_cond2 i = 1#1), ∀ a, (k0_off152 v215) a + S1x8x128.size a ≤ S2129920x8x128.size a)
theorem k0_off152_inb : ∀ (i : grid0.Coords) (v215 : BitVec 32) (k0_hw46 : k0_chk46 i v215), ∀ (k0_h2 : k0_cond2 i = 1#1), ∀ a, (k0_off152 v215) a + S1x8x128.size a ≤ S2129920x8x128.size a := fun i v215 k0_hw46 k0_h2 => k0_hw46 k0_h2

def k0_off153 (k0_t2 : Fin k0_t2_loop.trips) : Fin 3 → Nat :=
  let c0_175 : Index := 0#32
  let c2_176 : Index := 2#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let v222 : Index := Scalar.indexCast v205
  ![0, 2, v222.toNat]
def k0_off154 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off155 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_177 : BitVec 32 := 2#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let c0_i32_178 : BitVec 32 := 0#32
  let c0_i32_179 : BitVec 32 := 0#32
  ![v100.toNat, 2, v205.toNat, 0, 0]
def k0_off156 (v223 : BitVec 32) : Fin 3 → Nat :=
  let c0_i32_180 : BitVec 32 := 0#32
  let c0_i32_181 : BitVec 32 := 0#32
  ![v223.toNat, 0, 0]

def k0_chk47 (i : grid0.Coords) (v223 : BitVec 32) : Prop :=
  (∀ (k0_h2 : k0_cond2 i = 1#1), ∀ a, (k0_off156 v223) a + S1x8x128.size a ≤ S2129920x8x128.size a)
theorem k0_off156_inb : ∀ (i : grid0.Coords) (v223 : BitVec 32) (k0_hw47 : k0_chk47 i v223), ∀ (k0_h2 : k0_cond2 i = 1#1), ∀ a, (k0_off156 v223) a + S1x8x128.size a ≤ S2129920x8x128.size a := fun i v223 k0_hw47 k0_h2 => k0_hw47 k0_h2

def k0_off157 (k0_t2 : Fin k0_t2_loop.trips) : Fin 3 → Nat :=
  let c0_182 : Index := 0#32
  let c3_183 : Index := 3#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let v230 : Index := Scalar.indexCast v205
  ![0, 3, v230.toNat]
def k0_off158 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off159 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_184 : BitVec 32 := 3#32
  let c0_i32_67 : BitVec 32 := 0#32
  let c1_i32_68 : BitVec 32 := 1#32
  let arg11 : BitVec 32 := Scf.iv c0_i32_67 c1_i32_68 k0_t2
  let c8_i32_159 : BitVec 32 := 8#32
  let v204 : BitVec 32 := Scalar.muli arg11 c8_i32_159
  let c3_i32_160 : BitVec 32 := 3#32
  let v205 : BitVec 32 := Scalar.addi v204 c3_i32_160
  let c0_i32_185 : BitVec 32 := 0#32
  let c0_i32_186 : BitVec 32 := 0#32
  ![v100.toNat, 3, v205.toNat, 0, 0]
def k0_off160 (v231 : BitVec 32) : Fin 3 → Nat :=
  let c0_i32_187 : BitVec 32 := 0#32
  let c0_i32_188 : BitVec 32 := 0#32
  ![v231.toNat, 0, 0]

def k0_chk48 (i : grid0.Coords) (v231 : BitVec 32) : Prop :=
  (∀ (k0_h2 : k0_cond2 i = 1#1), ∀ a, (k0_off160 v231) a + S1x8x128.size a ≤ S2129920x8x128.size a)
theorem k0_off160_inb : ∀ (i : grid0.Coords) (v231 : BitVec 32) (k0_hw48 : k0_chk48 i v231), ∀ (k0_h2 : k0_cond2 i = 1#1), ∀ a, (k0_off160 v231) a + S1x8x128.size a ≤ S2129920x8x128.size a := fun i v231 k0_hw48 k0_h2 => k0_hw48 k0_h2

def k0_off161 (k0_t2 : Fin k0_t2_loop.trips) : Fin 3 → Nat :=
  let c0_190 : Index := 0#32
  let c0_191 : Index := 0#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let v240 : Index := Scalar.indexCast v239
  ![0, 0, v240.toNat]
def k0_off162 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off163 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_192 : BitVec 32 := 0#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let c0_i32_193 : BitVec 32 := 0#32
  let c0_i32_194 : BitVec 32 := 0#32
  ![v100.toNat, 0, v239.toNat, 0, 0]
def k0_off164 (v241 : BitVec 32) : Fin 3 → Nat :=
  let c0_i32_195 : BitVec 32 := 0#32
  let c0_i32_196 : BitVec 32 := 0#32
  ![v241.toNat, 0, 0]

def k0_chk49 (i : grid0.Coords) (v241 : BitVec 32) : Prop :=
  (∀ (k0_h2 : k0_cond2 i = 1#1), ∀ a, (k0_off164 v241) a + S1x8x128.size a ≤ S2129920x8x128.size a)
theorem k0_off164_inb : ∀ (i : grid0.Coords) (v241 : BitVec 32) (k0_hw49 : k0_chk49 i v241), ∀ (k0_h2 : k0_cond2 i = 1#1), ∀ a, (k0_off164 v241) a + S1x8x128.size a ≤ S2129920x8x128.size a := fun i v241 k0_hw49 k0_h2 => k0_hw49 k0_h2

def k0_off165 (k0_t2 : Fin k0_t2_loop.trips) : Fin 3 → Nat :=
  let c0_197 : Index := 0#32
  let c1_198 : Index := 1#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let v248 : Index := Scalar.indexCast v239
  ![0, 1, v248.toNat]
def k0_off166 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off167 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_199 : BitVec 32 := 1#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let c0_i32_200 : BitVec 32 := 0#32
  let c0_i32_201 : BitVec 32 := 0#32
  ![v100.toNat, 1, v239.toNat, 0, 0]
def k0_off168 (v249 : BitVec 32) : Fin 3 → Nat :=
  let c0_i32_202 : BitVec 32 := 0#32
  let c0_i32_203 : BitVec 32 := 0#32
  ![v249.toNat, 0, 0]

def k0_chk50 (i : grid0.Coords) (v249 : BitVec 32) : Prop :=
  (∀ (k0_h2 : k0_cond2 i = 1#1), ∀ a, (k0_off168 v249) a + S1x8x128.size a ≤ S2129920x8x128.size a)
theorem k0_off168_inb : ∀ (i : grid0.Coords) (v249 : BitVec 32) (k0_hw50 : k0_chk50 i v249), ∀ (k0_h2 : k0_cond2 i = 1#1), ∀ a, (k0_off168 v249) a + S1x8x128.size a ≤ S2129920x8x128.size a := fun i v249 k0_hw50 k0_h2 => k0_hw50 k0_h2

def k0_off169 (k0_t2 : Fin k0_t2_loop.trips) : Fin 3 → Nat :=
  let c0_204 : Index := 0#32
  let c2_205 : Index := 2#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let v256 : Index := Scalar.indexCast v239
  ![0, 2, v256.toNat]
def k0_off170 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off171 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_206 : BitVec 32 := 2#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let c0_i32_207 : BitVec 32 := 0#32
  let c0_i32_208 : BitVec 32 := 0#32
  ![v100.toNat, 2, v239.toNat, 0, 0]
def k0_off172 (v257 : BitVec 32) : Fin 3 → Nat :=
  let c0_i32_209 : BitVec 32 := 0#32
  let c0_i32_210 : BitVec 32 := 0#32
  ![v257.toNat, 0, 0]

def k0_chk51 (i : grid0.Coords) (v257 : BitVec 32) : Prop :=
  (∀ (k0_h2 : k0_cond2 i = 1#1), ∀ a, (k0_off172 v257) a + S1x8x128.size a ≤ S2129920x8x128.size a)
theorem k0_off172_inb : ∀ (i : grid0.Coords) (v257 : BitVec 32) (k0_hw51 : k0_chk51 i v257), ∀ (k0_h2 : k0_cond2 i = 1#1), ∀ a, (k0_off172 v257) a + S1x8x128.size a ≤ S2129920x8x128.size a := fun i v257 k0_hw51 k0_h2 => k0_hw51 k0_h2

def k0_off173 (k0_t2 : Fin k0_t2_loop.trips) : Fin 3 → Nat :=
  let c0_211 : Index := 0#32
  let c3_212 : Index := 3#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let v264 : Index := Scalar.indexCast v239
  ![0, 3, v264.toNat]
def k0_off174 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off175 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_213 : BitVec 32 := 3#32
  let c0_i32_67 : BitVec 32 := 0#32
  let c1_i32_68 : BitVec 32 := 1#32
  let arg11 : BitVec 32 := Scf.iv c0_i32_67 c1_i32_68 k0_t2
  let c8_i32_189 : BitVec 32 := 8#32
  let v238 : BitVec 32 := Scalar.muli arg11 c8_i32_189
  let c4_i32 : BitVec 32 := 4#32
  let v239 : BitVec 32 := Scalar.addi v238 c4_i32
  let c0_i32_214 : BitVec 32 := 0#32
  let c0_i32_215 : BitVec 32 := 0#32
  ![v100.toNat, 3, v239.toNat, 0, 0]
def k0_off176 (v265 : BitVec 32) : Fin 3 → Nat :=
  let c0_i32_216 : BitVec 32 := 0#32
  let c0_i32_217 : BitVec 32 := 0#32
  ![v265.toNat, 0, 0]

def k0_chk52 (i : grid0.Coords) (v265 : BitVec 32) : Prop :=
  (∀ (k0_h2 : k0_cond2 i = 1#1), ∀ a, (k0_off176 v265) a + S1x8x128.size a ≤ S2129920x8x128.size a)
theorem k0_off176_inb : ∀ (i : grid0.Coords) (v265 : BitVec 32) (k0_hw52 : k0_chk52 i v265), ∀ (k0_h2 : k0_cond2 i = 1#1), ∀ a, (k0_off176 v265) a + S1x8x128.size a ≤ S2129920x8x128.size a := fun i v265 k0_hw52 k0_h2 => k0_hw52 k0_h2

def k0_off177 (k0_t2 : Fin k0_t2_loop.trips) : Fin 3 → Nat :=
  let c0_219 : Index := 0#32
  let c0_220 : Index := 0#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let v274 : Index := Scalar.indexCast v273
  ![0, 0, v274.toNat]
def k0_off178 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off179 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_221 : BitVec 32 := 0#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let c0_i32_222 : BitVec 32 := 0#32
  let c0_i32_223 : BitVec 32 := 0#32
  ![v100.toNat, 0, v273.toNat, 0, 0]
def k0_off180 (v275 : BitVec 32) : Fin 3 → Nat :=
  let c0_i32_224 : BitVec 32 := 0#32
  let c0_i32_225 : BitVec 32 := 0#32
  ![v275.toNat, 0, 0]

def k0_chk53 (i : grid0.Coords) (v275 : BitVec 32) : Prop :=
  (∀ (k0_h2 : k0_cond2 i = 1#1), ∀ a, (k0_off180 v275) a + S1x8x128.size a ≤ S2129920x8x128.size a)
theorem k0_off180_inb : ∀ (i : grid0.Coords) (v275 : BitVec 32) (k0_hw53 : k0_chk53 i v275), ∀ (k0_h2 : k0_cond2 i = 1#1), ∀ a, (k0_off180 v275) a + S1x8x128.size a ≤ S2129920x8x128.size a := fun i v275 k0_hw53 k0_h2 => k0_hw53 k0_h2

def k0_off181 (k0_t2 : Fin k0_t2_loop.trips) : Fin 3 → Nat :=
  let c0_226 : Index := 0#32
  let c1_227 : Index := 1#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let v282 : Index := Scalar.indexCast v273
  ![0, 1, v282.toNat]
def k0_off182 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off183 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_228 : BitVec 32 := 1#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let c0_i32_229 : BitVec 32 := 0#32
  let c0_i32_230 : BitVec 32 := 0#32
  ![v100.toNat, 1, v273.toNat, 0, 0]
def k0_off184 (v283 : BitVec 32) : Fin 3 → Nat :=
  let c0_i32_231 : BitVec 32 := 0#32
  let c0_i32_232 : BitVec 32 := 0#32
  ![v283.toNat, 0, 0]

def k0_chk54 (i : grid0.Coords) (v283 : BitVec 32) : Prop :=
  (∀ (k0_h2 : k0_cond2 i = 1#1), ∀ a, (k0_off184 v283) a + S1x8x128.size a ≤ S2129920x8x128.size a)
theorem k0_off184_inb : ∀ (i : grid0.Coords) (v283 : BitVec 32) (k0_hw54 : k0_chk54 i v283), ∀ (k0_h2 : k0_cond2 i = 1#1), ∀ a, (k0_off184 v283) a + S1x8x128.size a ≤ S2129920x8x128.size a := fun i v283 k0_hw54 k0_h2 => k0_hw54 k0_h2

def k0_off185 (k0_t2 : Fin k0_t2_loop.trips) : Fin 3 → Nat :=
  let c0_233 : Index := 0#32
  let c2_234 : Index := 2#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let v290 : Index := Scalar.indexCast v273
  ![0, 2, v290.toNat]
def k0_off186 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off187 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_235 : BitVec 32 := 2#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let c0_i32_236 : BitVec 32 := 0#32
  let c0_i32_237 : BitVec 32 := 0#32
  ![v100.toNat, 2, v273.toNat, 0, 0]
def k0_off188 (v291 : BitVec 32) : Fin 3 → Nat :=
  let c0_i32_238 : BitVec 32 := 0#32
  let c0_i32_239 : BitVec 32 := 0#32
  ![v291.toNat, 0, 0]

def k0_chk55 (i : grid0.Coords) (v291 : BitVec 32) : Prop :=
  (∀ (k0_h2 : k0_cond2 i = 1#1), ∀ a, (k0_off188 v291) a + S1x8x128.size a ≤ S2129920x8x128.size a)
theorem k0_off188_inb : ∀ (i : grid0.Coords) (v291 : BitVec 32) (k0_hw55 : k0_chk55 i v291), ∀ (k0_h2 : k0_cond2 i = 1#1), ∀ a, (k0_off188 v291) a + S1x8x128.size a ≤ S2129920x8x128.size a := fun i v291 k0_hw55 k0_h2 => k0_hw55 k0_h2

def k0_off189 (k0_t2 : Fin k0_t2_loop.trips) : Fin 3 → Nat :=
  let c0_240 : Index := 0#32
  let c3_241 : Index := 3#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let v298 : Index := Scalar.indexCast v273
  ![0, 3, v298.toNat]
def k0_off190 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off191 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_242 : BitVec 32 := 3#32
  let c0_i32_67 : BitVec 32 := 0#32
  let c1_i32_68 : BitVec 32 := 1#32
  let arg11 : BitVec 32 := Scf.iv c0_i32_67 c1_i32_68 k0_t2
  let c8_i32_218 : BitVec 32 := 8#32
  let v272 : BitVec 32 := Scalar.muli arg11 c8_i32_218
  let c5_i32 : BitVec 32 := 5#32
  let v273 : BitVec 32 := Scalar.addi v272 c5_i32
  let c0_i32_243 : BitVec 32 := 0#32
  let c0_i32_244 : BitVec 32 := 0#32
  ![v100.toNat, 3, v273.toNat, 0, 0]
def k0_off192 (v299 : BitVec 32) : Fin 3 → Nat :=
  let c0_i32_245 : BitVec 32 := 0#32
  let c0_i32_246 : BitVec 32 := 0#32
  ![v299.toNat, 0, 0]

def k0_chk56 (i : grid0.Coords) (v299 : BitVec 32) : Prop :=
  (∀ (k0_h2 : k0_cond2 i = 1#1), ∀ a, (k0_off192 v299) a + S1x8x128.size a ≤ S2129920x8x128.size a)
theorem k0_off192_inb : ∀ (i : grid0.Coords) (v299 : BitVec 32) (k0_hw56 : k0_chk56 i v299), ∀ (k0_h2 : k0_cond2 i = 1#1), ∀ a, (k0_off192 v299) a + S1x8x128.size a ≤ S2129920x8x128.size a := fun i v299 k0_hw56 k0_h2 => k0_hw56 k0_h2

def k0_off193 (k0_t2 : Fin k0_t2_loop.trips) : Fin 3 → Nat :=
  let c0_248 : Index := 0#32
  let c0_249 : Index := 0#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let v308 : Index := Scalar.indexCast v307
  ![0, 0, v308.toNat]
def k0_off194 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off195 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_250 : BitVec 32 := 0#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let c0_i32_251 : BitVec 32 := 0#32
  let c0_i32_252 : BitVec 32 := 0#32
  ![v100.toNat, 0, v307.toNat, 0, 0]
def k0_off196 (v309 : BitVec 32) : Fin 3 → Nat :=
  let c0_i32_253 : BitVec 32 := 0#32
  let c0_i32_254 : BitVec 32 := 0#32
  ![v309.toNat, 0, 0]

def k0_chk57 (i : grid0.Coords) (v309 : BitVec 32) : Prop :=
  (∀ (k0_h2 : k0_cond2 i = 1#1), ∀ a, (k0_off196 v309) a + S1x8x128.size a ≤ S2129920x8x128.size a)
theorem k0_off196_inb : ∀ (i : grid0.Coords) (v309 : BitVec 32) (k0_hw57 : k0_chk57 i v309), ∀ (k0_h2 : k0_cond2 i = 1#1), ∀ a, (k0_off196 v309) a + S1x8x128.size a ≤ S2129920x8x128.size a := fun i v309 k0_hw57 k0_h2 => k0_hw57 k0_h2

def k0_off197 (k0_t2 : Fin k0_t2_loop.trips) : Fin 3 → Nat :=
  let c0_255 : Index := 0#32
  let c1_256 : Index := 1#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let v316 : Index := Scalar.indexCast v307
  ![0, 1, v316.toNat]
def k0_off198 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off199 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_257 : BitVec 32 := 1#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let c0_i32_258 : BitVec 32 := 0#32
  let c0_i32_259 : BitVec 32 := 0#32
  ![v100.toNat, 1, v307.toNat, 0, 0]
def k0_off200 (v317 : BitVec 32) : Fin 3 → Nat :=
  let c0_i32_260 : BitVec 32 := 0#32
  let c0_i32_261 : BitVec 32 := 0#32
  ![v317.toNat, 0, 0]

def k0_chk58 (i : grid0.Coords) (v317 : BitVec 32) : Prop :=
  (∀ (k0_h2 : k0_cond2 i = 1#1), ∀ a, (k0_off200 v317) a + S1x8x128.size a ≤ S2129920x8x128.size a)
theorem k0_off200_inb : ∀ (i : grid0.Coords) (v317 : BitVec 32) (k0_hw58 : k0_chk58 i v317), ∀ (k0_h2 : k0_cond2 i = 1#1), ∀ a, (k0_off200 v317) a + S1x8x128.size a ≤ S2129920x8x128.size a := fun i v317 k0_hw58 k0_h2 => k0_hw58 k0_h2

def k0_off201 (k0_t2 : Fin k0_t2_loop.trips) : Fin 3 → Nat :=
  let c0_262 : Index := 0#32
  let c2_263 : Index := 2#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let v324 : Index := Scalar.indexCast v307
  ![0, 2, v324.toNat]
def k0_off202 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off203 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_264 : BitVec 32 := 2#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let c0_i32_265 : BitVec 32 := 0#32
  let c0_i32_266 : BitVec 32 := 0#32
  ![v100.toNat, 2, v307.toNat, 0, 0]
def k0_off204 (v325 : BitVec 32) : Fin 3 → Nat :=
  let c0_i32_267 : BitVec 32 := 0#32
  let c0_i32_268 : BitVec 32 := 0#32
  ![v325.toNat, 0, 0]

def k0_chk59 (i : grid0.Coords) (v325 : BitVec 32) : Prop :=
  (∀ (k0_h2 : k0_cond2 i = 1#1), ∀ a, (k0_off204 v325) a + S1x8x128.size a ≤ S2129920x8x128.size a)
theorem k0_off204_inb : ∀ (i : grid0.Coords) (v325 : BitVec 32) (k0_hw59 : k0_chk59 i v325), ∀ (k0_h2 : k0_cond2 i = 1#1), ∀ a, (k0_off204 v325) a + S1x8x128.size a ≤ S2129920x8x128.size a := fun i v325 k0_hw59 k0_h2 => k0_hw59 k0_h2

def k0_off205 (k0_t2 : Fin k0_t2_loop.trips) : Fin 3 → Nat :=
  let c0_269 : Index := 0#32
  let c3_270 : Index := 3#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let v332 : Index := Scalar.indexCast v307
  ![0, 3, v332.toNat]
def k0_off206 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off207 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_271 : BitVec 32 := 3#32
  let c0_i32_67 : BitVec 32 := 0#32
  let c1_i32_68 : BitVec 32 := 1#32
  let arg11 : BitVec 32 := Scf.iv c0_i32_67 c1_i32_68 k0_t2
  let c8_i32_247 : BitVec 32 := 8#32
  let v306 : BitVec 32 := Scalar.muli arg11 c8_i32_247
  let c6_i32 : BitVec 32 := 6#32
  let v307 : BitVec 32 := Scalar.addi v306 c6_i32
  let c0_i32_272 : BitVec 32 := 0#32
  let c0_i32_273 : BitVec 32 := 0#32
  ![v100.toNat, 3, v307.toNat, 0, 0]
def k0_off208 (v333 : BitVec 32) : Fin 3 → Nat :=
  let c0_i32_274 : BitVec 32 := 0#32
  let c0_i32_275 : BitVec 32 := 0#32
  ![v333.toNat, 0, 0]

def k0_chk60 (i : grid0.Coords) (v333 : BitVec 32) : Prop :=
  (∀ (k0_h2 : k0_cond2 i = 1#1), ∀ a, (k0_off208 v333) a + S1x8x128.size a ≤ S2129920x8x128.size a)
theorem k0_off208_inb : ∀ (i : grid0.Coords) (v333 : BitVec 32) (k0_hw60 : k0_chk60 i v333), ∀ (k0_h2 : k0_cond2 i = 1#1), ∀ a, (k0_off208 v333) a + S1x8x128.size a ≤ S2129920x8x128.size a := fun i v333 k0_hw60 k0_h2 => k0_hw60 k0_h2

def k0_off209 (k0_t2 : Fin k0_t2_loop.trips) : Fin 3 → Nat :=
  let c0_277 : Index := 0#32
  let c0_278 : Index := 0#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let v342 : Index := Scalar.indexCast v341
  ![0, 0, v342.toNat]
def k0_off210 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off211 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c0_i32_279 : BitVec 32 := 0#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let c0_i32_280 : BitVec 32 := 0#32
  let c0_i32_281 : BitVec 32 := 0#32
  ![v100.toNat, 0, v341.toNat, 0, 0]
def k0_off212 (v343 : BitVec 32) : Fin 3 → Nat :=
  let c0_i32_282 : BitVec 32 := 0#32
  let c0_i32_283 : BitVec 32 := 0#32
  ![v343.toNat, 0, 0]

def k0_chk61 (i : grid0.Coords) (v343 : BitVec 32) : Prop :=
  (∀ (k0_h2 : k0_cond2 i = 1#1), ∀ a, (k0_off212 v343) a + S1x8x128.size a ≤ S2129920x8x128.size a)
theorem k0_off212_inb : ∀ (i : grid0.Coords) (v343 : BitVec 32) (k0_hw61 : k0_chk61 i v343), ∀ (k0_h2 : k0_cond2 i = 1#1), ∀ a, (k0_off212 v343) a + S1x8x128.size a ≤ S2129920x8x128.size a := fun i v343 k0_hw61 k0_h2 => k0_hw61 k0_h2

def k0_off213 (k0_t2 : Fin k0_t2_loop.trips) : Fin 3 → Nat :=
  let c0_284 : Index := 0#32
  let c1_285 : Index := 1#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let v350 : Index := Scalar.indexCast v341
  ![0, 1, v350.toNat]
def k0_off214 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off215 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c1_i32_286 : BitVec 32 := 1#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let c0_i32_287 : BitVec 32 := 0#32
  let c0_i32_288 : BitVec 32 := 0#32
  ![v100.toNat, 1, v341.toNat, 0, 0]
def k0_off216 (v351 : BitVec 32) : Fin 3 → Nat :=
  let c0_i32_289 : BitVec 32 := 0#32
  let c0_i32_290 : BitVec 32 := 0#32
  ![v351.toNat, 0, 0]

def k0_chk62 (i : grid0.Coords) (v351 : BitVec 32) : Prop :=
  (∀ (k0_h2 : k0_cond2 i = 1#1), ∀ a, (k0_off216 v351) a + S1x8x128.size a ≤ S2129920x8x128.size a)
theorem k0_off216_inb : ∀ (i : grid0.Coords) (v351 : BitVec 32) (k0_hw62 : k0_chk62 i v351), ∀ (k0_h2 : k0_cond2 i = 1#1), ∀ a, (k0_off216 v351) a + S1x8x128.size a ≤ S2129920x8x128.size a := fun i v351 k0_hw62 k0_h2 => k0_hw62 k0_h2

def k0_off217 (k0_t2 : Fin k0_t2_loop.trips) : Fin 3 → Nat :=
  let c0_291 : Index := 0#32
  let c2_292 : Index := 2#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let v358 : Index := Scalar.indexCast v341
  ![0, 2, v358.toNat]
def k0_off218 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off219 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c2_i32_293 : BitVec 32 := 2#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let c0_i32_294 : BitVec 32 := 0#32
  let c0_i32_295 : BitVec 32 := 0#32
  ![v100.toNat, 2, v341.toNat, 0, 0]
def k0_off220 (v359 : BitVec 32) : Fin 3 → Nat :=
  let c0_i32_296 : BitVec 32 := 0#32
  let c0_i32_297 : BitVec 32 := 0#32
  ![v359.toNat, 0, 0]

def k0_chk63 (i : grid0.Coords) (v359 : BitVec 32) : Prop :=
  (∀ (k0_h2 : k0_cond2 i = 1#1), ∀ a, (k0_off220 v359) a + S1x8x128.size a ≤ S2129920x8x128.size a)
theorem k0_off220_inb : ∀ (i : grid0.Coords) (v359 : BitVec 32) (k0_hw63 : k0_chk63 i v359), ∀ (k0_h2 : k0_cond2 i = 1#1), ∀ a, (k0_off220 v359) a + S1x8x128.size a ≤ S2129920x8x128.size a := fun i v359 k0_hw63 k0_h2 => k0_hw63 k0_h2

def k0_off221 (k0_t2 : Fin k0_t2_loop.trips) : Fin 3 → Nat :=
  let c0_298 : Index := 0#32
  let c3_299 : Index := 3#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let v366 : Index := Scalar.indexCast v341
  ![0, 3, v366.toNat]
def k0_off222 (i : grid0.Coords) : Fin 1 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  ![v100.toNat]
def k0_off223 (i : grid0.Coords) (k0_t2 : Fin k0_t2_loop.trips) : Fin 5 → Nat :=
  let c1_i32_66 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : BitVec 32 := Scalar.subi c1_i32_66 v9
  let c3_i32_300 : BitVec 32 := 3#32
  let c0_i32_67 : BitVec 32 := 0#32
  let c1_i32_68 : BitVec 32 := 1#32
  let arg11 : BitVec 32 := Scf.iv c0_i32_67 c1_i32_68 k0_t2
  let c8_i32_276 : BitVec 32 := 8#32
  let v340 : BitVec 32 := Scalar.muli arg11 c8_i32_276
  let c7_i32 : BitVec 32 := 7#32
  let v341 : BitVec 32 := Scalar.addi v340 c7_i32
  let c0_i32_301 : BitVec 32 := 0#32
  let c0_i32_302 : BitVec 32 := 0#32
  ![v100.toNat, 3, v341.toNat, 0, 0]
def k0_off224 (v367 : BitVec 32) : Fin 3 → Nat :=
  let c0_i32_303 : BitVec 32 := 0#32
  let c0_i32_304 : BitVec 32 := 0#32
  ![v367.toNat, 0, 0]

def k0_chk64 (i : grid0.Coords) (v367 : BitVec 32) : Prop :=
  (∀ (k0_h2 : k0_cond2 i = 1#1), ∀ a, (k0_off224 v367) a + S1x8x128.size a ≤ S2129920x8x128.size a)
theorem k0_off224_inb : ∀ (i : grid0.Coords) (v367 : BitVec 32) (k0_hw64 : k0_chk64 i v367), ∀ (k0_h2 : k0_cond2 i = 1#1), ∀ a, (k0_off224 v367) a + S1x8x128.size a ≤ S2129920x8x128.size a := fun i v367 k0_hw64 k0_h2 => k0_hw64 k0_h2

def k0_off225 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off226 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_9 : BitVec 32 := 0#32
  let c0_i32_10 : BitVec 32 := 0#32
  let c0_i32_11 : BitVec 32 := 0#32
  let c0_i32_12 : BitVec 32 := 0#32
  ![v9.toNat, 0, 0, 0, 0]
def k0_off227 (i : grid0.Coords) : Fin 5 → Nat :=
  let c1_i32_7 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v17 : BitVec 32 := Scalar.subi c1_i32_7 v9
  let c0_i32_8 : BitVec 32 := 0#32
  let c0_i32_13 : BitVec 32 := 0#32
  let c0_i32_14 : BitVec 32 := 0#32
  let c0_i32_15 : BitVec 32 := 0#32
  ![v17.toNat, 0, 0, 0, 0]
def k0_off228 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_18 : BitVec 32 := 1#32
  let c0_i32_19 : BitVec 32 := 0#32
  let c0_i32_20 : BitVec 32 := 0#32
  let c0_i32_21 : BitVec 32 := 0#32
  ![v9.toNat, 1, 0, 0, 0]
def k0_off229 (i : grid0.Coords) : Fin 5 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_16 v9
  let c1_i32_17 : BitVec 32 := 1#32
  let c0_i32_22 : BitVec 32 := 0#32
  let c0_i32_23 : BitVec 32 := 0#32
  let c0_i32_24 : BitVec 32 := 0#32
  ![v24.toNat, 1, 0, 0, 0]
def k0_off230 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_27 : BitVec 32 := 2#32
  let c0_i32_28 : BitVec 32 := 0#32
  let c0_i32_29 : BitVec 32 := 0#32
  let c0_i32_30 : BitVec 32 := 0#32
  ![v9.toNat, 2, 0, 0, 0]
def k0_off231 (i : grid0.Coords) : Fin 5 → Nat :=
  let c1_i32_25 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v31 : BitVec 32 := Scalar.subi c1_i32_25 v9
  let c2_i32_26 : BitVec 32 := 2#32
  let c0_i32_31 : BitVec 32 := 0#32
  let c0_i32_32 : BitVec 32 := 0#32
  let c0_i32_33 : BitVec 32 := 0#32
  ![v31.toNat, 2, 0, 0, 0]
def k0_off232 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_35 : BitVec 32 := 3#32
  let c0_i32_36 : BitVec 32 := 0#32
  let c0_i32_37 : BitVec 32 := 0#32
  let c0_i32_38 : BitVec 32 := 0#32
  ![v9.toNat, 3, 0, 0, 0]
def k0_off233 (i : grid0.Coords) : Fin 5 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_34 v9
  let c3_i32 : BitVec 32 := 3#32
  let c0_i32_39 : BitVec 32 := 0#32
  let c0_i32_40 : BitVec 32 := 0#32
  let c0_i32_41 : BitVec 32 := 0#32
  ![v38.toNat, 3, 0, 0, 0]
def k0_off234 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c0_43 : Index := 0#32
  let c0_44 : Index := 0#32
  let c0_45 : Index := 0#32
  let c0_46 : Index := 0#32
  ![v48.toNat, 0, 0, 0, 0]
def k0_off235 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c1 : Index := 1#32
  let c0_47 : Index := 0#32
  let c0_48 : Index := 0#32
  let c0_49 : Index := 0#32
  ![v55.toNat, 1, 0, 0, 0]
def k0_off236 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : Index := Scalar.indexCast v9
  let c2 : Index := 2#32
  let c0_50 : Index := 0#32
  let c0_51 : Index := 0#32
  let c0_52 : Index := 0#32
  ![v63.toNat, 2, 0, 0, 0]
def k0_off237 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v71 : Index := Scalar.indexCast v9
  let c3 : Index := 3#32
  let c0_53 : Index := 0#32
  let c0_54 : Index := 0#32
  let c0_55 : Index := 0#32
  ![v71.toNat, 3, 0, 0, 0]
def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c127_i32_6 : BitVec 32 := 127#32
  let v20 : BitVec 32 := Scalar.minsi v19 c127_i32_6
  let c16_i32_7 : BitVec 32 := 16#32
  let c0_i32_8 : BitVec 32 := 0#32
  let v21 : BitVec 1 := Scalar.cmpi .eq c16_i32_7 c0_i32_8
  let c1_i32_9 : BitVec 32 := 1#32
  let v22 : BitVec 32 := Scalar.select v21 c1_i32_9 c16_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x8x8192 : Shape := ⟨3, ![8, 8, 8192]⟩
abbrev S8x8192x1024 : Shape := ⟨3, ![8, 8192, 1024]⟩
abbrev S8x8192x128 : Shape := ⟨3, ![8, 8192, 128]⟩
abbrev S8x6x1024 : Shape := ⟨3, ![8, 6, 1024]⟩
abbrev S1024 : Shape := ⟨1, ![1024]⟩
abbrev S2129920x8x128 : Shape := ⟨3, ![2129920, 8, 128]⟩
abbrev S2129920x1024 : Shape := ⟨2, ![2129920, 1024]⟩
abbrev S8x4x8192 : Shape := ⟨3, ![8, 4, 8192]⟩
abbrev S8x8192x4 : Shape := ⟨3, ![8, 8192, 4]⟩
abbrev S_ : Shape := ⟨0, ![]⟩
abbrev S8x8192x4x1 : Shape := ⟨4, ![8, 8192, 4, 1]⟩
abbrev S8x8192x4x1024 : Shape := ⟨4, ![8, 8192, 4, 1024]⟩
abbrev S8x1x1024 : Shape := ⟨3, ![8, 1, 1024]⟩
abbrev S8x1024 : Shape := ⟨2, ![8, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x8x8192, .i32⟩
  | .hbm, ⟨1, _⟩ => ⟨S8x8192x1024, .f32⟩
  | .hbm, ⟨2, _⟩ => ⟨S8x8192x128, .f32⟩
  | .hbm, ⟨3, _⟩ => ⟨S8x6x1024, .f32⟩
  | .hbm, ⟨4, _⟩ => ⟨S1024, .f32⟩
  | .hbm, ⟨5, _⟩ => ⟨S2129920x8x128, .f32⟩
  | .hbm, ⟨6, _⟩ => ⟨S2129920x1024, .f32⟩
  | .hbm, ⟨7, _⟩ => ⟨S8x4x8192, .i32⟩
  | .hbm, ⟨8, _⟩ => ⟨S8x8192x4, .i32⟩
  | .hbm, ⟨9, _⟩ => ⟨S_, .i32⟩
  | .hbm, ⟨10, _⟩ => ⟨S8x8192x4, .i32⟩
  | .hbm, ⟨11, _⟩ => ⟨S8x8192x4, .i1⟩
  | .hbm, ⟨12, _⟩ => ⟨S_, .i32⟩
  | .hbm, ⟨13, _⟩ => ⟨S8x8192x4, .i32⟩
  | .hbm, ⟨14, _⟩ => ⟨S8x8192x4, .i32⟩
  | .hbm, ⟨15, _⟩ => ⟨S8x8192x4, .i32⟩
  | .hbm, ⟨16, _⟩ => ⟨S8x8192x4x1, .i32⟩
  | .hbm, ⟨17, _⟩ => ⟨S8x8192x4x1024, .f32⟩
  | .hbm, ⟨18, _⟩ => ⟨S8x8192x4, .f32⟩
  | .hbm, ⟨19, _⟩ => ⟨S8x8192x4x1, .f32⟩
  | .hbm, ⟨20, _⟩ => ⟨S8x8192x4x1024, .f32⟩
  | .hbm, ⟨21, _⟩ => ⟨S8x8192x4x1024, .f32⟩
  | .hbm, ⟨22, _⟩ => ⟨S_, .f32⟩
  | .hbm, ⟨23, _⟩ => ⟨S8x8192x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x8192x1024, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S8x8192x1024, .f32⟩
  | .hbm, ⟨39, _⟩ => ⟨S8x8192x1024, .f32⟩
  | .hbm, ⟨40, _⟩ => ⟨S1x1x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | _, _ => ⟨S8x8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Experts.lean ====
abbrev S548 : Shape := ⟨1, ![548]⟩
abbrev S1 : Shape := ⟨1, ![1]⟩
abbrev S2129920x8x128 : Shape := ⟨3, ![2129920, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x8x128 : Shape := ⟨3, ![512, 8, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 3
  | _ => 0

abbrev bufTy : (tb : Table) → Fin (tcTables nBuf tb) → BufTy
  | .hbm, ⟨0, _⟩ => ⟨S2129920x8x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S2129920x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x8x128, .f32⟩
  | .local _ .vmem, ⟨11, _⟩ => ⟨S512x8x128, .f32⟩
  | .local _ .vmem, ⟨12, _⟩ => ⟨S1024x2048, .bf16⟩
  | .local _ .vmem, ⟨13, _⟩ => ⟨S1024x1024, .bf16⟩
  | .local _ .smem, ⟨0, _⟩ => ⟨S548, .i32⟩
  | .local _ .smem, ⟨1, _⟩ => ⟨S548, .i32⟩
  | .local _ .smem, ⟨2, _⟩ => ⟨S1, .i32⟩
  | _, _ => ⟨S2129920x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![548], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S548.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S548) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S548 : Shape := ⟨1, ![548]⟩
abbrev S1 : Shape := ⟨1, ![1]⟩
abbrev S2129920x8x128 : Shape := ⟨3, ![2129920, 8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x66560x1024 : Shape := ⟨3, ![32, 66560, 1024]⟩
abbrev S32x66560x2048 : Shape := ⟨3, ![32, 66560, 2048]⟩
abbrev S32x1x2048 : Shape := ⟨3, ![32, 1, 2048]⟩
abbrev S_ : Shape := ⟨0, ![]⟩
abbrev S32x1x1024 : Shape := ⟨3, ![32, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S548, .i32⟩
  | .hbm, ⟨1, _⟩ => ⟨S548, .i32⟩
  | .hbm, ⟨2, _⟩ => ⟨S1, .i32⟩
  | .hbm, ⟨3, _⟩ => ⟨S2129920x8x128, .f32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S32x66560x1024, .f32⟩
  | .hbm, ⟨9, _⟩ => ⟨S32x66560x2048, .f32⟩
  | .hbm, ⟨10, _⟩ => ⟨S32x1x2048, .f32⟩
  | .hbm, ⟨11, _⟩ => ⟨S32x66560x2048, .f32⟩
  | .hbm, ⟨12, _⟩ => ⟨S32x66560x2048, .f32⟩
  | .hbm, ⟨13, _⟩ => ⟨S32x66560x1024, .f32⟩
  | .hbm, ⟨14, _⟩ => ⟨S32x66560x1024, .f32⟩
  | .hbm, ⟨15, _⟩ => ⟨S_, .f32⟩
  | .hbm, ⟨16, _⟩ => ⟨S32x66560x1024, .f32⟩
  | .hbm, ⟨17, _⟩ => ⟨S32x66560x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x66560x1024, .f32⟩
  | .hbm, ⟨22, _⟩ => ⟨S32x66560x1024, .f32⟩
  | .hbm, ⟨23, _⟩ => ⟨S_, .f32⟩
  | .hbm, ⟨24, _⟩ => ⟨S32x66560x1024, .f32⟩
  | .hbm, ⟨25, _⟩ => ⟨S32x66560x1024, .f32⟩
  | .hbm, ⟨26, _⟩ => ⟨S_, .f32⟩
  | .hbm, ⟨27, _⟩ => ⟨S32x66560x1024, .f32⟩
  | .hbm, ⟨28, _⟩ => ⟨S32x66560x1024, .f32⟩
  | .hbm, ⟨29, _⟩ => ⟨S_, .f32⟩
  | .hbm, ⟨30, _⟩ => ⟨S32x66560x1024, .f32⟩
  | .hbm, ⟨31, _⟩ => ⟨S32x66560x1024, .f32⟩
  | .hbm, ⟨32, _⟩ => ⟨S32x66560x1024, .f32⟩
  | .hbm, ⟨33, _⟩ => ⟨S32x66560x1024, .f32⟩
  | .hbm, ⟨34, _⟩ => ⟨S_, .f32⟩
  | .hbm, ⟨35, _⟩ => ⟨S32x66560x1024, .f32⟩
  | .hbm, ⟨36, _⟩ => ⟨S32x66560x1024, .f32⟩
  | .hbm, ⟨37, _⟩ => ⟨S_, .f32⟩
  | .hbm, ⟨38, _⟩ => ⟨S32x66560x1024, .f32⟩
  | .hbm, ⟨39, _⟩ => ⟨S32x66560x1024, .f32⟩
  | .hbm, ⟨40, _⟩ => ⟨S32x66560x1024, .f32⟩
  | .hbm, ⟨41, _⟩ => ⟨S32x66560x1024, .f32⟩
  | .hbm, ⟨42, _⟩ => ⟨S32x66560x1024, .f32⟩
  | .hbm, ⟨43, _⟩ => ⟨S32x1x1024, .f32⟩
  | .hbm, ⟨44, _⟩ => ⟨S32x66560x1024, .f32⟩
  | .hbm, ⟨45, _⟩ => ⟨S32x66560x1024, .f32⟩
  | .hbm, ⟨46, _⟩ => ⟨S2129920x8x128, .f32⟩
  | _, _ => ⟨S548, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Attention.lean ====
abbrev S8x8192x8x96 : Shape := ⟨4, ![8, 8192, 8, 96]⟩
abbrev S8x8192x8x64 : Shape := ⟨4, ![8, 8192, 8, 64]⟩
abbrev S_ : Shape := ⟨0, ![]⟩
abbrev S8x8192x8x1 : Shape := ⟨4, ![8, 8192, 8, 1]⟩
abbrev S8x8192x8x65 : Shape := ⟨4, ![8, 8192, 8, 65]⟩
abbrev S8x8192x8x128 : Shape := ⟨4, ![8, 8192, 8, 128]⟩
abbrev S8x8192x1024 : Shape := ⟨3, ![8, 8192, 1024]⟩
abbrev S8x1024x8192 : Shape := ⟨3, ![8, 1024, 8192]⟩
abbrev S1x512x1024 : Shape := ⟨3, ![1, 512, 1024]⟩
abbrev S1x1024x1024 : Shape := ⟨3, ![1, 1024, 1024]⟩
abbrev S8x512 : Shape := ⟨2, ![8, 512]⟩
abbrev S8x128x512 : Shape := ⟨3, ![8, 128, 512]⟩
abbrev S1x1024x128 : Shape := ⟨3, ![1, 1024, 128]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S512x512 : Shape := ⟨2, ![512, 512]⟩

abbrev nBuf : Space → Nat
  | .hbm => 23
  | .vmem => 10
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S_, .f32⟩
  | .hbm, ⟨4, _⟩ => ⟨S8x8192x8x1, .f32⟩
  | .hbm, ⟨5, _⟩ => ⟨S8x8192x8x65, .f32⟩
  | .hbm, ⟨6, _⟩ => ⟨S_, .i32⟩
  | .hbm, ⟨7, _⟩ => ⟨S_, .f32⟩
  | .hbm, ⟨8, _⟩ => ⟨S8x8192x8x128, .f32⟩
  | .hbm, ⟨9, _⟩ => ⟨S8x8192x1024, .f32⟩
  | .hbm, ⟨10, _⟩ => ⟨S8x1024x8192, .f32⟩
  | .hbm, ⟨11, _⟩ => ⟨S_, .i32⟩
  | .hbm, ⟨12, _⟩ => ⟨S_, .f32⟩
  | .hbm, ⟨13, _⟩ => ⟨S8x8192x8x128, .f32⟩
  | .hbm, ⟨14, _⟩ => ⟨S8x8192x1024, .f32⟩
  | .hbm, ⟨15, _⟩ => ⟨S8x8192x1024, .bf16⟩
  | .hbm, ⟨16, _⟩ => ⟨S_, .i32⟩
  | .hbm, ⟨17, _⟩ => ⟨S_, .f32⟩
  | .hbm, ⟨18, _⟩ => ⟨S8x8192x8x128, .f32⟩
  | .hbm, ⟨19, _⟩ => ⟨S8x8192x1024, .f32⟩
  | .hbm, ⟨20, _⟩ => ⟨S8x8192x1024, .bf16⟩
  | .hbm, ⟨21, _⟩ => ⟨S8x1024x8192, .bf16⟩
  | .hbm, ⟨22, _⟩ => ⟨S8x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S8x512, .f32⟩
  | .local _ .vmem, ⟨9, _⟩ => ⟨S8x128x512, .f32⟩
  | _, _ => ⟨S8x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 8], ![false, false, false]⟩

def k0_cond5 (i : grid0.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_24 : BitVec 32 := 0#32
  let v58 : BitVec 1 := Scalar.cmpi .ne v57 c0_i32_24
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, c0_i32_6.toNat, v20.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttentionReferenceIdeal.lean ====
abbrev S8x8192x8x96 : Shape := ⟨4, ![8, 8192, 8, 96]⟩
abbrev S8x8192x8x64 : Shape := ⟨4, ![8, 8192, 8, 64]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8x8192x8192 : Shape := ⟨4, ![8, 8, 8192, 8192]⟩
abbrev S8x8x8192 : Shape := ⟨3, ![8, 8, 8192]⟩
abbrev S8x8x8192x1 : Shape := ⟨4, ![8, 8, 8192, 1]⟩
abbrev S8x8192x8x1 : Shape := ⟨4, ![8, 8192, 8, 1]⟩
abbrev S8x8192x8x65 : Shape := ⟨4, ![8, 8192, 8, 65]⟩
abbrev S8x8192x8x128 : Shape := ⟨4, ![8, 8192, 8, 128]⟩
abbrev S8x8x8192x128 : Shape := ⟨4, ![8, 8, 8192, 128]⟩
abbrev S8x8192x1024 : Shape := ⟨3, ![8, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8x8x8192x8192, .f32⟩
  | .hbm, ⟨13, _⟩ => ⟨S_, .f32⟩
  | .hbm, ⟨14, _⟩ => ⟨S_, .f32⟩
  | .hbm, ⟨15, _⟩ => ⟨S8x8x8192x8192, .i1⟩
  | .hbm, ⟨16, _⟩ => ⟨S8x8x8192x8192, .f32⟩
  | .hbm, ⟨17, _⟩ => ⟨S8x8x8192x8192, .f32⟩
  | .hbm, ⟨18, _⟩ => ⟨S_, .f32⟩
  | .hbm, ⟨19, _⟩ => ⟨S8x8x8192, .f32⟩
  | .hbm, ⟨20, _⟩ => ⟨S8x8x8192x1, .f32⟩
  | .hbm, ⟨21, _⟩ => ⟨S8x8x8192x8192, .f32⟩
  | .hbm, ⟨22, _⟩ => ⟨S8x8x8192x8192, .f32⟩
  | .hbm, ⟨23, _⟩ => ⟨S_, .f32⟩
  | .hbm, ⟨24, _⟩ => ⟨S8x8x8192x8192, .f32⟩
  | .hbm, ⟨25, _⟩ => ⟨S8x8x8192x8192, .f32⟩
  | .hbm, ⟨26, _⟩ => ⟨S_, .f32⟩
  | .hbm, ⟨27, _⟩ => ⟨S8x8192x8x1, .f32⟩
  | .hbm, ⟨28, _⟩ => ⟨S8x8192x8x65, .f32⟩
  | .hbm, ⟨29, _⟩ => ⟨S_, .i32⟩
  | .hbm, ⟨30, _⟩ => ⟨S_, .f32⟩
  | .hbm, ⟨31, _⟩ => ⟨S8x8192x8x128, .f32⟩
  | .hbm, ⟨32, _⟩ => ⟨S8x8x8192x128, .f32⟩
  | .hbm, ⟨33, _⟩ => ⟨S_, .f32⟩
  | .hbm, ⟨34, _⟩ => ⟨S8x8x8192, .f32⟩
  | .hbm, ⟨35, _⟩ => ⟨S8x8x8192x1, .f32⟩
  | .hbm, ⟨36, _⟩ => ⟨S8x8x8192x128, .f32⟩
  | .hbm, ⟨37, _⟩ => ⟨S8x8x8192x128, .f32⟩
  | .hbm, ⟨38, _⟩ => ⟨S8x8192x8x128, .f32⟩
  | .hbm, ⟨39, _⟩ => ⟨S8x8192x1024, .f32⟩
  | .hbm, ⟨40, _⟩ => ⟨S8x8192x1024, .bf16⟩
  | _, _ => ⟨S8x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Copies.lean ====
/-
  The row copies of one trip of the two issue loops, as ONE program run over the copy's number: what the printed parts of
  a loop's region spell copy by copy.
-/
module

public import proofs.«01_k».proof.Proof.Gen.KernelIdeal.Skeleton
public import Idealize.ShloMosaic.Lib.Tactic

@[expose] public section

noncomputable section

namespace Cert.KernelIdeal.Own

open Cert.KernelIdeal Cert.KernelIdeal.Gen
open Idealize.ShloMosaic Idealize.ShloMosaic.TcCoe Idealize.ShloMosaic.Tactic
open Idealize.SL.Sem

variable {F : FTy → Type} [FloatOps F]

/-- The row of the block that copy `j` of a trip fills, the trip's counter `v` at hand. -/
def rowW (v : BitVec 32) (j : ℕ) : BitVec 32 := Scalar.addi (Scalar.muli v 8#32) (BitVec.ofNat 32 (j / 4 % 8))

/-- Where copy `j` reads its destination word, which row of the experts' output it takes, where it puts it, on which cell. -/
def ldOff (v : BitVec 32) (j : ℕ) : Fin 3 → ℕ := ![0, j % 4, (rowW v j).toNat]
def srOff (w : BitVec 32) : Fin 3 → ℕ := ![w.toNat, 0, 0]
def dsOff (sl v : BitVec 32) (j : ℕ) : Fin 5 → ℕ := ![sl.toNat, j % 4, (rowW v j).toNat, 0, 0]
def smOff (sl : BitVec 32) : Fin 1 → ℕ := ![sl.toNat]

/-- What the body assumes of a destination word it has read, under the branch's condition `b`. -/
def okW (b : BitVec 1) (w : BitVec 32) : Prop :=
  ∀ (_ : b = 1#1), ∀ a, (srOff w) a + S1x8x128.size a ≤ S2129920x8x128.size a
instance okW.dec (b : BitVec 1) (w : BitVec 32) : Decidable (okW b w) := decidable_of_iff' _ (Iff.of_eq (okW.eq_1 b w))

/-- Row `w` of the experts' output, the place of copy `j`, the cell of slot `sl`. -/
abbrev srcM (ys : Memref sig .tc .hbm S2129920x8x128 .f32) (w : BitVec 32)
    (h : ∀ a, (srOff w) a + S1x8x128.size a ≤ S2129920x8x128.size a) : Memref sig .tc .hbm S8x128 .f32 :=
  (ys.slice (Rect.unit (s := S2129920x8x128) (srOff w) S1x8x128.size h) (fun _ => rfl)).squeeze S8x128 squeezes_S1x8x128_S8x128
abbrev dstM (gb : Memref sig .tc .vmem S2x4x512x8x128 .f32) (o : Fin 5 → ℕ)
    (h : ∀ a, o a + S1x1x1x8x128.size a ≤ S2x4x512x8x128.size a) : Memref sig .tc .vmem S8x128 .f32 :=
  (gb.slice (Rect.unit (s := S2x4x512x8x128) o S1x1x1x8x128.size h) (fun _ => rfl)).squeeze S8x128 squeezes_S1x1x1x8x128_S8x128
abbrev semM (sems : DmaSems sig S2) (o : Fin 1 → ℕ) (h : ∀ a, o a + S1.size a ≤ S2.size a) : DmaSem sig :=
  ((sems.slice (Rect.unit (s := S2) o S1.size h)).squeeze S_ squeezes_S1_S_).sem

/-- Copy `j`: read the destination word, assume that it names a row, start the copy of that row. -/
def copyP (b : BitVec 1) (hb : b = 1#1) (dw : Memref sig .tc .smem S1x8x512 .i32) (ys : Memref sig .tc .hbm S2129920x8x128 .f32)
    (gb : Memref sig .tc .vmem S2x4x512x8x128 .f32) (sems : DmaSems sig S2) (sl v : BitVec 32)
    (hl : ∀ j a, (ldOff v j) a + S1x1x1.size a ≤ S1x8x512.size a)
    (hd : ∀ j a, (dsOff sl v j) a + S1x1x1x8x128.size a ≤ S2x4x512x8x128.size a)
    (hs : ∀ a, (smOff sl) a + S1.size a ≤ S2.size a) (j : ℕ) : Prog (TpuEff nD τ sig (Elt F) Λ₀ .tc) PUnit := do
  let w : Elt F .i32 ← smemLoad dw (Rect.unit (s := S1x8x512) (ldOff v j) S1x1x1.size (hl j)) numel1_S1x1x1 rfl
  have hw : okW b w := (← Prog.lift (TpuEff.assume (okW b w) (okW.dec b w))).down
  Prog.lift (.enqueueDma (srcM ys w (hw hb)) (.here (dstM gb (dsOff sl v j) (hd j))) (.dma (semM sems (smOff sl) hs))
    ((View.wordExact_bits rfl).reshape _ _) ((View.wordExact_bits rfl).reshape _ _) ⟨Or.inl rfl, trivial⟩)

/-- `n` copies from number `j` on. -/
def copiesP (b : BitVec 1) (hb : b = 1#1) (dw : Memref sig .tc .smem S1x8x512 .i32) (ys : Memref sig .tc .hbm S2129920x8x128 .f32)
    (gb : Memref sig .tc .vmem S2x4x512x8x128 .f32) (sems : DmaSems sig S2) (sl v : BitVec 32)
    (hl : ∀ j a, (ldOff v j) a + S1x1x1.size a ≤ S1x8x512.size a)
    (hd : ∀ j a, (dsOff sl v j) a + S1x1x1x8x128.size a ≤ S2x4x512x8x128.size a)
    (hs : ∀ a, (smOff sl) a + S1.size a ≤ S2.size a) : ℕ → ℕ → Prog (TpuEff nD τ sig (Elt F) Λ₀ .tc) PUnit
  | 0, _ => pure ⟨⟩
  | n + 1, j => do copyP (F := F) b hb dw ys gb sems sl v hl hd hs j; copiesP b hb dw ys gb sems sl v hl hd hs n (j + 1)

/-- The slot that point `i` fills for its successor: the one it does not read. -/
def slotW (i : grid0.Coords) : BitVec 32 :=
  let arg0 : BitVec 32 := BitVec.ofNat 32 (i 0).val
  let v0 : BitVec 1 := Scalar.cmpi .eq (2#32 : BitVec 32) 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2
def otherW (i : grid0.Coords) : BitVec 32 := Scalar.subi 1#32 (slotW i)

theorem ivW (t : Fin 64) : (Scf.iv (0#32 : BitVec 32) 1#32 t).toNat = t.val := by
  revert t; decide +kernel

theorem trips1 : k0_t1_loop.trips = 64 := by decide +kernel
theorem trips2 : k0_t2_loop.trips = 64 := by decide +kernel

theorem rowW_val (v : BitVec 32) (hv : v.toNat < 64) (j : ℕ) : (rowW v j).toNat = 8 * v.toNat + j / 4 % 8 := by
  have := Nat.mod_lt (j / 4) (show 0 < 8 by decide)
  show (v * 8#32 + BitVec.ofNat 32 (j / 4 % 8)).toNat = _
  simp only [BitVec.toNat_add, BitVec.toNat_mul, BitVec.toNat_ofNat]
  omega

theorem ld_inb (v : BitVec 32) (hv : v.toNat < 64) : ∀ j a, (ldOff v j) a + S1x1x1.size a ≤ S1x8x512.size a := by
  intro j a
  have h := rowW_val v hv j
  have := Nat.mod_lt (j / 4) (show 0 < 8 by decide)
  have := Nat.mod_lt j (show 0 < 4 by decide)
  fin_cases a <;> simp [ldOff, Shape.size] <;> omega

theorem ds_inb (sl v : BitVec 32) (hsl : sl.toNat < 2) (hv : v.toNat < 64) :
    ∀ j a, (dsOff sl v j) a + S1x1x1x8x128.size a ≤ S2x4x512x8x128.size a := by
  intro j a
  have h := rowW_val v hv j
  have := Nat.mod_lt (j / 4) (show 0 < 8 by decide)
  have := Nat.mod_lt j (show 0 < 4 by decide)
  fin_cases a <;> simp [dsOff, Shape.size] <;> omega

theorem sm_inb (sl : BitVec 32) (hsl : sl.toNat < 2) : ∀ a, (smOff sl) a + S1.size a ≤ S2.size a := by
  intro a
  fin_cases a; simp [smOff, Shape.size]; omega

set_option maxRecDepth 100000 in
set_option maxHeartbeats 4000000 in
theorem t1_body_eq (i : grid0.Coords) (arg1 : Memref sig .tc .smem S1x8x512 .i32) (harg1 : arg1.IsWhole) (arg2 : Memref sig .tc .smem S1x8x512 .i32) (harg2 : arg2.IsWhole) (arg3 : Memref sig .tc .vmem S512x1024 .f32) (harg3 : arg3.IsWhole) (arg4 : Memref sig .tc .vmem S512x128 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .hbm S2129920x8x128 .f32) (harg7 : arg7.IsWhole) (arg8 : Memref sig .tc .vmem S512x1024 .f32) (harg8 : arg8.IsWhole) (arg9 : Memref sig .tc .vmem S2x4x512x8x128 .f32) (harg9 : arg9.IsWhole) (arg10 : DmaSems sig S2)
    (h1 : k0_cond1 i = 1#1) (t : Fin k0_t1_loop.trips) (hl hd hs) :
    k0_t1_body (F := F) i arg1 harg1 arg2 harg2 arg3 harg3 arg4 harg4 arg5 harg5 arg6 harg6 arg7 harg7 arg8 harg8 arg9 harg9 arg10 h1 t ()
      = copiesP (F := F) (k0_cond1 i) h1 arg1 arg7 arg9 arg10 0#32 (Scf.iv (0#32 : BitVec 32) 1#32 t) hl hd hs 32 0 := rfl

set_option maxRecDepth 100000 in
set_option maxHeartbeats 4000000 in
theorem t2_body_eq (i : grid0.Coords) (arg1 : Memref sig .tc .smem S1x8x512 .i32) (harg1 : arg1.IsWhole) (arg2 : Memref sig .tc .smem S1x8x512 .i32) (harg2 : arg2.IsWhole) (arg3 : Memref sig .tc .vmem S512x1024 .f32) (harg3 : arg3.IsWhole) (arg4 : Memref sig .tc .vmem S512x128 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .hbm S2129920x8x128 .f32) (harg7 : arg7.IsWhole) (arg8 : Memref sig .tc .vmem S512x1024 .f32) (harg8 : arg8.IsWhole) (arg9 : Memref sig .tc .vmem S2x4x512x8x128 .f32) (harg9 : arg9.IsWhole) (arg10 : DmaSems sig S2)
    (h2 : k0_cond2 i = 1#1) (t : Fin k0_t2_loop.trips) (hl hd hs) :
    k0_t2_body (F := F) i arg1 harg1 arg2 harg2 arg3 harg3 arg4 harg4 arg5 harg5 arg6 harg6 arg7 harg7 arg8 harg8 arg9 harg9 arg10 h2 t ()
      = copiesP (F := F) (k0_cond2 i) h2 arg2 arg7 arg9 arg10 (otherW i) (Scf.iv (0#32 : BitVec 32) 1#32 t) hl hd hs 32 0 := rfl

end Cert.KernelIdeal.Own

end
-- ==== Proof.Rows.lean ====
/-
  What one row copy moves and where: the windows of the row scratch, the row of the experts' output, the delivery of a
  copy, and the rule for ONE copy of a trip, then for a trip's copies.
-/
module

public import proofs.«01_k».proof.Proof.Copies
public import proofs.«01_k».proof.Proof.Gen.KernelIdeal.Launch
public import Idealize.ShloMosaic.Lib.Pipeline.FrameBody
public import Idealize.ShloMosaic.Lib.Batch
public import Idealize.ShloMosaic.Lib.Transfers
public import Idealize.ShloMosaic.Lib.ValueIdxCore

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ
local notation "EC₀" => countersEmb (nD := nD) (τ := τ) (sig := sig) (Ix := Unit) (Val := Elt F) (Name := ℕ) (U := Pipeline.UD sig nD τ) (Lvl := ℕ)

abbrev gbM : Memref sig .tc .vmem S2x4x512x8x128 .f32 := Memref.whole cc0_scratch0
abbrev ysM : Memref sig .tc .hbm S2129920x8x128 .f32 := Memref.whole main_arg5

/-! ## The windows of the scratch -/

/-- The elements copy `n` of a block fills in slot `sl`: expert choice `n % 4` of row `n / 4`. -/
def win (sl n : ℕ) : Finset S2x4x512x8x128.Idx := Finset.univ.filter fun x => (x 0).val = sl ∧ 4 * (x 2).val + (x 1).val = n
/-- What is left of slot `sl` for copies `n` on. -/
def rest (sl n : ℕ) : Finset S2x4x512x8x128.Idx := Finset.univ.filter fun x => (x 0).val = sl ∧ n ≤ 4 * (x 2).val + (x 1).val
/-- A slot whole. -/
def slot (sl : ℕ) : Finset S2x4x512x8x128.Idx := Finset.univ.filter fun x => (x 0).val = sl

theorem mem_win {sl n : ℕ} {x : S2x4x512x8x128.Idx} : x ∈ win sl n ↔ (x 0).val = sl ∧ 4 * (x 2).val + (x 1).val = n := by
  simp [win]
theorem mem_rest {sl n : ℕ} {x : S2x4x512x8x128.Idx} : x ∈ rest sl n ↔ (x 0).val = sl ∧ n ≤ 4 * (x 2).val + (x 1).val := by
  simp [rest]
theorem mem_slot {sl : ℕ} {x : S2x4x512x8x128.Idx} : x ∈ slot sl ↔ (x 0).val = sl := by
  simp [slot]

theorem rest_zero (sl : ℕ) : rest sl 0 = slot sl := by
  ext x; simp [mem_rest, mem_slot]
theorem rest_all (sl : ℕ) : rest sl 2048 = ∅ := by
  refine Finset.eq_empty_of_forall_notMem fun x h => ?_
  have h2 : (x 2).val < 512 := (x 2).isLt
  have h1 : (x 1).val < 4 := (x 1).isLt
  rw [mem_rest] at h; omega
theorem win_sub (sl n : ℕ) : win sl n ⊆ rest sl n := fun x h => by
  rw [mem_win] at h; rw [mem_rest]; omega
theorem rest_sdiff (sl n : ℕ) : rest sl n \ win sl n = rest sl (n + 1) := by
  ext x; rw [Finset.mem_sdiff, mem_win, mem_rest, mem_rest]; omega
theorem win_disj (sl : ℕ) : ∀ t ∈ (Finset.univ : Finset (Fin 2048)), ∀ t' ∈ (Finset.univ : Finset (Fin 2048)), t ≠ t' →
    Disjoint (win sl t.val) (win sl t'.val) := fun t _ t' _ hne =>
  Finset.disjoint_left.mpr fun x h h' => hne (Fin.ext (by rw [mem_win] at h h'; omega))
theorem win_cover (sl : ℕ) : (Finset.univ : Finset (Fin 2048)).biUnion (fun t => win sl t.val) = slot sl := by
  ext x
  have h2 : (x 2).val < 512 := (x 2).isLt
  have h1 : (x 1).val < 4 := (x 1).isLt
  simp only [Finset.mem_biUnion, Finset.mem_univ, true_and, mem_win, mem_slot]
  exact ⟨fun ⟨_, h, _⟩ => h, fun h => ⟨⟨4 * (x 2).val + (x 1).val, by omega⟩, h, rfl⟩⟩
theorem slot_compl (sl : ℕ) (h : sl < 2) : Finset.univ \ slot sl = slot (1 - sl) := by
  ext x
  have h0 : (x 0).val < 2 := (x 0).isLt
  simp only [Finset.mem_sdiff, Finset.mem_univ, true_and, mem_slot]; omega

theorem reshape_dst (y : S8x128.Idx) (h : S8x128.numel = S1x1x1x8x128.numel) :
    Shape.reshapeEquiv h y = (ix5 (0 : Fin 1) (0 : Fin 1) (0 : Fin 1) (y 0) (y 1) : S1x1x1x8x128.Idx) :=
  Shape.reshapeEquiv_eq_of_rowMajor h (by
    refine (Shape.rowMajor_val_five (d := ![1, 1, 1, 8, 128]) _).trans (Eq.trans ?_ (Shape.rowMajor_val_two (d := ![8, 128]) y).symm)
    show ((((0 * 1 + 0) * 1 + 0) * 8 + (y 0).val) * 128 + (y 1).val) = (y 0).val * 128 + (y 1).val
    omega)
theorem reshape_src (y : S8x128.Idx) (h : S8x128.numel = S1x8x128.numel) :
    Shape.reshapeEquiv h y = (ix3 (0 : Fin 1) (y 0) (y 1) : S1x8x128.Idx) :=
  Shape.reshapeEquiv_eq_of_rowMajor h (by
    refine (Shape.rowMajor_val_three (d := ![1, 8, 128]) _).trans (Eq.trans ?_ (Shape.rowMajor_val_two (d := ![8, 128]) y).symm)
    show ((0 * 8 + (y 0).val) * 128 + (y 1).val) = (y 0).val * 128 + (y 1).val
    omega)

/-- The element of the scratch that element `y` of a copied row lands at. -/
theorem dst_emb (sl v : BitVec 32) (j : ℕ) (h) (y : S8x128.Idx) (a : Fin 5) :
    (((dstM gbM (dsOff sl v j) h).view.emb y : S2x4x512x8x128.Idx) a).val
      = (![sl.toNat, j % 4, (rowW v j).toNat, (y 0).val, (y 1).val] : Fin 5 → ℕ) a := by
  show ((Rect.unit (s := S2x4x512x8x128) (dsOff sl v j) S1x1x1x8x128.size h).emb (Shape.reshapeEquiv _ y) a).val = _
  rw [reshape_dst]
  show dsOff sl v j a + 1 * ((ix5 (0 : Fin 1) (0 : Fin 1) (0 : Fin 1) (y 0) (y 1) : S1x1x1x8x128.Idx) a).val = _
  fin_cases a <;> simp [dsOff]

theorem src_emb (w : BitVec 32) (h) (y : S8x128.Idx) (a : Fin 3) :
    (((srcM ysM w h).view.emb y : S2129920x8x128.Idx) a).val = (![w.toNat, (y 0).val, (y 1).val] : Fin 3 → ℕ) a := by
  show ((Rect.unit (s := S2129920x8x128) (srOff w) S1x8x128.size h).emb (Shape.reshapeEquiv _ y) a).val = _
  rw [reshape_src]
  show srOff w a + 1 * ((ix3 (0 : Fin 1) (y 0) (y 1) : S1x8x128.Idx) a).val = _
  fin_cases a <;> simp [srOff]

theorem dst_set (sl v : BitVec 32) (j : ℕ) (h) (hv : v.toNat < 64) (hj : j < 32) :
    ((dstM gbM (dsOff sl v j) h).view.set : Finset S2x4x512x8x128.Idx) = win sl.toNat (32 * v.toNat + j) := by
  have hr := rowW_val v hv j
  ext x
  rw [mem_win]
  constructor
  · intro hx
    obtain ⟨y, -, rfl⟩ := Finset.mem_map.mp hx
    have e := dst_emb sl v j h y
    have e0 : _ = sl.toNat := e 0
    have e1 : _ = j % 4 := e 1
    have e2 : _ = (rowW v j).toNat := e 2
    exact ⟨e0, by omega⟩
  · rintro ⟨h0, h1⟩
    have l1 : (x 1).val < 4 := (x 1).isLt
    refine Finset.mem_map.mpr ⟨(ix2 (x 3) (x 4) : S8x128.Idx), Finset.mem_univ _, ?_⟩
    refine funext fun a => Fin.ext ?_
    rw [dst_emb]
    fin_cases a
    · exact h0.symm
    · show j % 4 = (x 1).val; omega
    · show (rowW v j).toNat = (x 2).val; omega
    · rfl
    · rfl

/-! ## What lands -/

/-- The scratch's contents when every copy of a block has landed: for row `r` and choice `k` the row of the experts'
    output that the block's table names. -/
def gat (D : S1x8x512.Idx → BitVec 32) (Y : S2129920x8x128.Idx → F .f32) : S2x4x512x8x128.Idx → F .f32 := fun x =>
  Y (ix3 (⟨(D (ix3 (0 : Fin 1) (⟨(x 1).val, Nat.lt_of_lt_of_le (x 1).isLt (by decide)⟩ : Fin 8) (x 2))).toNat % 2129920, Nat.mod_lt _ (by decide)⟩ : Fin 2129920)
    (x 3) (x 4))

/-- The index of the block's table that copy `n` reads. -/
def tabIx (n : ℕ) : S1x8x512.Idx := ix3 (0 : Fin 1) (⟨n % 4, by omega⟩ : Fin 8) (⟨n / 4 % 512, by omega⟩ : Fin 512)

theorem ld_emb (v : BitVec 32) (j : ℕ) (h) (hv : v.toNat < 64) (hj : j < 32) (y : S1x1x1.Idx) :
    (Rect.unit (s := S1x8x512) (ldOff v j) S1x1x1.size h).emb y = tabIx (32 * v.toNat + j) := by
  have hr := rowW_val v hv j
  refine funext fun a => Fin.ext ?_
  have l0 : (y 0).val < 1 := (y 0).isLt
  have l1 : (y 1).val < 1 := (y 1).isLt
  have l2 : (y 2).val < 1 := (y 2).isLt
  show ldOff v j a + 1 * (y a).val = _
  fin_cases a
  · show 0 + 1 * (y 0).val = 0; omega
  · show j % 4 + 1 * (y 1).val = (32 * v.toNat + j) % 4; omega
  · show (rowW v j).toNat + 1 * (y 2).val = (32 * v.toNat + j) / 4 % 512; omega

variable (c : Dev nD)

/-- What copy `n` of a block in slot `sl` delivers: its window filled, and its read token of the experts' output back. -/
def deliver (sl : ℕ) (q : PosShare TreeShare) (D : S1x8x512.Idx → BitVec 32) (Y : Buf (Elt F) (ysM.view.loc (c : Thread nD τ))) (n : Fin 2048) : sProp 𝕄 :=
  iprop((gbM.view.loc (c : Thread nD τ) ↦[win sl n.val]{fullShare} (gat D Y : Buf (Elt F) (gbM.view.loc (c : Thread nD τ))))
    ∗ (ysM.view.loc (c : Thread nD τ) ↦{shareTokN q n.val} Y))

instance deliver_storable (sl : ℕ) (q D Y n) : Storable (upEmb : UEmb _ 𝕄) (deliver (F := F) c sl q D Y n) := by
  unfold deliver; infer_instance

end Cert.KernelIdeal.Own

end
-- ==== Proof.Issue.lean ====
/-
  The rule for one row copy, for a trip's copies, and for the two issue loops.
-/
module

public import proofs.«01_k».proof.Proof.Rows

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC₀" => countersEmb (nD := nD) (τ := τ) (sig := sig) (Ix := Unit) (Val := Elt F) (Name := ℕ) (U := Pipeline.UD sig nD τ) (Lvl := ℕ)

section Put

variable (𝒱 : Variants) (c : Thread nD τ) {α : Type} {sp sp' : Space} {s : Shape} {e : EltTy} {n : ℕ}

/-- The issue of a batch's next copy whose delivery also holds `put`, resources of the issuer's own. -/
theorem wp_dmaBatch_put {s₀ : Shape} {e₀ : EltTy}
    {src : Memref sig c.2.kind sp s₀ e₀} {via : ReadAs (Elt F) s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {q : PosShare TreeShare} {fs : Buf (Elt F) (src.view.loc c)}
    {fd : Buf (Elt F) (dst.view.loc c)} {D : Fin n → sProp 𝕄} {j u : ℕ} {put : sProp 𝕄} {Q : α → sProp 𝕄}
    (N : ℕ) (hN : dst.view.amount sm = N) (hj : j < n) (hu : u ≤ j * N)
    (hD : iprop(put ∗ ((dst.view.loc c ↦[dst.view.set]{fullShare} (dst.view.write (Elt F) fd (via.apply (src.view.read (Elt F) fs)) Finset.univ))
              ∗ (src.view.loc c ↦[src.view.set]{q} fs))) ⊢ D ⟨j, hj⟩) :
    iprop((src.view.loc c ↦[src.view.set]{q} fs) ∗ (dst.view.loc c ↦[dst.view.set]{fullShare} fd) ∗ put ∗ Batch EC₀ c sm () N D j u)
      ⊢ iprop((Batch EC₀ c sm () N D (j + 1) u -∗ wp frame (wpE defs₀ 𝒱 c none) Set.univ (k ⟨⟩) Q)
          -∗ wp frame (wpE defs₀ 𝒱 c none) Set.univ (.op (.enqueueDmaAs src (.here dst) via sm hsrc hdst hsem) k) Q) := by
  unfold Batch
  iintro ⟨Hs, Hd, Hp, ⟨%γ, %γ₀, %κ, #Hinv, HI, H0, Hcred⟩⟩ Hk
  ihave HI' := (show bigSep (pending j) (fun t => count EC₀ (γ t) 0) ⊢ iprop(count EC₀ (γ ⟨j, hj⟩) 0 ∗ bigSep (pending (j + 1)) (fun t => count EC₀ (γ t) 0))
    from Entails.of_eq (by rw [pending_succ hj, bigSep_insert (not_mem_pending_succ hj)]; rfl)) $$ HI
  icases HI' with ⟨Ht, HI⟩
  iapply (wp_enqueueDmaAs 𝒱 c none Set.univ () N hN) $$ [Hs Hd] [Ht Hp]
  · isplitl [Hs]; · iexact Hs
    iapply (pointsTo_writeUpdate c (subset_refl _)) $$ Hd
  · iapply (batch_creditUpdate_with EC₀ ⟨j, hj⟩ hD)
    isplitr; · iexact Hinv
    isplitl [Ht]; · iexact Ht
    iexact Hp
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

end Put

/-- A copied row's bytes, what one copy counts on its cell. -/
@[irreducible] def rowN : ℕ := (cc0_scratch0 : Ref sig .tc).dmaCredit S8x128 .f32
theorem rowN_eq : (cc0_scratch0 : Ref sig .tc).dmaCredit S8x128 .f32 = rowN := by unfold rowN; rfl

section Copy

variable (c : Dev nD)

/-- A core's state while block `D`'s copies into slot `sl` are being issued, `n` of them so far: the table's staged
    block, the batch, what is left of the slot, and what is left of the share `q` of the experts' output. -/
def issuing (sem : DmaSem sig) (sl : ℕ) (q : PosShare TreeShare) (dw : Memref sig .tc .smem S1x8x512 .i32) (qd : PosShare TreeShare)
    (fD : Buf (Elt F) (dw.view.loc (c : Thread nD τ))) (Y : Buf (Elt F) (ysM.view.loc (c : Thread nD τ)))
    (f : Buf (Elt F) (gbM.view.loc (c : Thread nD τ))) (n : ℕ) : sProp 𝕄 :=
  iprop((dw.view.loc (c : Thread nD τ) ↦[dw.view.set]{qd} fD)
    ∗ Batch EC₀ (c : Thread nD τ) (.dma sem) () rowN (deliver (F := F) c sl q (dw.view.read (Elt F) fD) Y) n 0
    ∗ (gbM.view.loc (c : Thread nD τ) ↦[rest sl n]{fullShare} f)
    ∗ (ysM.view.loc (c : Thread nD τ) ↦{shareDrop q n} Y))

variable {c}

theorem landed (sl : BitVec 32) (D : S1x8x512.Idx → BitVec 32) (Y : Buf (Elt F) (ysM.view.loc (c : Thread nD τ)))
    (f : Buf (Elt F) (gbM.view.loc (c : Thread nD τ))) (v : BitVec 32) (hv : v.toNat < 64) (j : ℕ) (hj : j < 32) (hd) (w : BitVec 32) (hw)
    (e : D (tabIx (32 * v.toNat + j)) = w) :
    ∀ x ∈ win sl.toNat (32 * v.toNat + j),
      (dstM gbM (dsOff sl v j) hd).view.write (Elt F) f (ReadAs.same.apply ((srcM ysM w hw).view.read (Elt F) Y)) Finset.univ x
        = gat (F := F) D Y x := by
  intro x hx
  rw [← dst_set sl v j hd hv hj] at hx
  obtain ⟨y, -, rfl⟩ := Finset.mem_map.mp hx
  refine (View.write_emb_of_mem _ _ (Finset.mem_univ _)).trans ?_
  show Y ((srcM ysM w hw).view.emb y) = _
  unfold gat
  refine congrArg Y (funext fun a => Fin.ext ?_)
  rw [src_emb]
  have e1 := dst_emb sl v j hd y 1
  have e2 := dst_emb sl v j hd y 2
  have e3 := dst_emb sl v j hd y 3
  have e4 := dst_emb sl v j hd y 4
  have hr := rowW_val v hv j
  fin_cases a
  · show w.toNat = (D _).toNat % 2129920
    have hlt : w.toNat < 2129920 := by
      have : (srOff w) 0 + S1x8x128.size 0 ≤ S2129920x8x128.size 0 := hw 0
      have h2 : w.toNat + 1 ≤ 2129920 := this
      omega
    rw [← e] at hlt ⊢
    rw [Nat.mod_eq_of_lt]
    · refine congrArg (fun i => (D i).toNat) (funext fun a => Fin.ext ?_)
      fin_cases a
      · rfl
      · show (32 * v.toNat + j) % 4 = _
        refine Eq.trans ?_ e1.symm
        show _ = j % 4; omega
      · show (32 * v.toNat + j) / 4 % 512 = _
        refine Eq.trans ?_ e2.symm
        show _ = (rowW v j).toNat; omega
    · refine lt_of_eq_of_lt (congrArg (fun i => (D i).toNat) (funext fun a => Fin.ext ?_)) hlt
      fin_cases a
      · rfl
      · show _ = (32 * v.toNat + j) % 4
        refine e1.trans ?_
        show j % 4 = _; omega
      · show _ = (32 * v.toNat + j) / 4 % 512
        refine e2.trans ?_
        show (rowW v j).toNat = _; omega
  · exact e3.symm
  · exact e4.symm

variable (c)

/-- What the transfer hands over is what copy `32 v + j` delivers. -/
theorem deliver_of (sl v : BitVec 32) (hv : v.toNat < 64) (j : ℕ) (hj : j < 32) (hd) (q : PosShare TreeShare) (D : S1x8x512.Idx → BitVec 32)
    (Y : Buf (Elt F) (ysM.view.loc (c : Thread nD τ))) (f : Buf (Elt F) (gbM.view.loc (c : Thread nD τ))) (w : BitVec 32) (hw)
    (e : D (tabIx (32 * v.toNat + j)) = w) (hN : 32 * v.toNat + j < 2048) :
    iprop((ysM.view.loc (c : Thread nD τ) ↦[Finset.univ \ (srcM ysM w hw).view.set]{shareTokN q (32 * v.toNat + j)} Y)
      ∗ (((dstM gbM (dsOff sl v j) hd).view.loc (c : Thread nD τ) ↦[(dstM gbM (dsOff sl v j) hd).view.set]{fullShare}
          ((dstM gbM (dsOff sl v j) hd).view.write (Elt F) f (ReadAs.same.apply ((srcM ysM w hw).view.read (Elt F) Y)) Finset.univ))
        ∗ ((srcM ysM w hw).view.loc (c : Thread nD τ) ↦[(srcM ysM w hw).view.set]{shareTokN q (32 * v.toNat + j)} Y)))
      ⊢ deliver (F := F) c sl.toNat q D Y ⟨32 * v.toNat + j, hN⟩ := by
  have hg := landed (F := F) sl D Y f v hv j hj hd w hw e
  rw [← dst_set sl v j hd hv hj] at hg
  unfold deliver
  iintro ⟨Hyr, Hgw, Hyw⟩
  isplitl [Hgw]
  · rw [← dst_set sl v j hd hv hj]
    iapply (Entails.of_eq (pointsTo_congr hg)) $$ Hgw
  · iapply (pointsTo_split_subset (Finset.subset_univ ((srcM ysM w hw).view.set))).2
    isplitl [Hyw]; · iexact Hyw
    iexact Hyr

/-- ONE copy: number `j` of the trip whose counter reads `v`, from the state at its number in the block to the next. -/
theorem wp_copyP (𝒱 : Variants) (b : BitVec 1) (hb : b = 1#1) (dw : Memref sig .tc .smem S1x8x512 .i32) (sems : DmaSems sig S2)
    (sl v : BitVec 32) (hl) (hd) (hs) (j : ℕ) (hv : v.toNat < 64) (hj : j < 32)
    (sem : DmaSem sig) (hsem : semM sems (smOff sl) hs = sem) (q qd : PosShare TreeShare)
    (fD : Buf (Elt F) (dw.view.loc (c : Thread nD τ))) (Y : Buf (Elt F) (ysM.view.loc (c : Thread nD τ)))
    (f : Buf (Elt F) (gbM.view.loc (c : Thread nD τ)))
    (hrow : (dw.view.read (Elt F) fD (tabIx (32 * v.toNat + j)) : BitVec 32).toNat < 2129920) :
    issuing c sem sl.toNat q dw qd fD Y f (32 * v.toNat + j)
      ⊢ wp frame (wpE defs₀ 𝒱 (c : Thread nD τ) none) Set.univ (copyP (F := F) b hb dw ysM gbM sems sl v hl hd hs j)
          (fun _ => issuing c sem sl.toNat q dw qd fD Y f (32 * v.toNat + j + 1)) := by
  subst hsem
  have hN : (32 * v.toNat + j) < 2048 := by omega
  have hOk : ∀ w : BitVec 32, w.toNat < 2129920 → okW b w := fun w hw _ a => by
    fin_cases a
    · show w.toNat + 1 ≤ 2129920; omega
    · show 0 + 8 ≤ 8; omega
    · show 0 + 128 ≤ 128; omega
  unfold issuing
  iintro ⟨Hw, HB, Hg, Hy⟩
  rw [show copyP (F := F) b hb dw ysM gbM sems sl v hl hd hs j
      = smemLoadElt dw (Rect.unit (s := S1x8x512) (ldOff v j) S1x1x1.size (hl j)) (View.loads_smem_one rfl numel1_S1x1x1)
          (Shape.Idx.first (numel1_S1x1x1.symm ▸ Nat.one_pos)) (fun w => .op (.assume (okW b w) (okW.dec b w)) fun hw =>
            (Prog.op (TpuEff.enqueueDma (srcM ysM w (hw.down hb)) (.here (dstM gbM (dsOff sl v j) (hd j))) (.dma (semM sems (smOff sl) hs))
              ((View.wordExact_bits rfl).reshape _ _) ((View.wordExact_bits rfl).reshape _ _) ⟨Or.inl rfl, trivial⟩) .ret
              : Prog (TpuEff nD τ sig (Elt F) Λ₀ .tc) PUnit)) from rfl]
  iapply (wp_smemLoadElt 𝒱 (c : Thread nD τ) none Set.univ (m := dw) (r := Rect.unit (s := S1x8x512) (ldOff v j) S1x1x1.size (hl j))
    (S := dw.view.set) (q := qd) (f := fD) (by
    intro x hx
    obtain ⟨y, -, rfl⟩ := Finset.mem_map.mp hx
    exact Finset.mem_map.mpr ⟨_, Finset.mem_univ _, rfl⟩)) $$ Hw
  iintro Hw
  generalize hwd : (dw.access (Rect.unit (s := S1x8x512) (ldOff v j) S1x1x1.size (hl j))).read (Elt F) fD
    (Shape.Idx.first (numel1_S1x1x1.symm ▸ Nat.one_pos)) = w
  have hwd' : dw.view.read (Elt F) fD (tabIx (32 * v.toNat + j)) = w := by
    rw [← hwd, ← ld_emb v j (hl j) hv hj (Shape.Idx.first (numel1_S1x1x1.symm ▸ Nat.one_pos))]; rfl
  have hwl : BitVec.toNat (w := 32) w < 2129920 := hwd' ▸ hrow
  iapply (wp_assume 𝒱 (c : Thread nD τ) none Set.univ (hOk w hwl))
  ihave Hg' := (pointsTo_split_subset (win_sub sl.toNat (32 * v.toNat + j))).1 $$ Hg
  icases Hg' with ⟨Hgw, Hgr⟩
  ihave Hy' := (pointsTo_share (PosShare.mem_left_op_right _)).1 $$ Hy
  icases Hy' with ⟨Hyd, Hyt⟩
  ihave Hyt' := (pointsTo_split_subset (Finset.subset_univ ((srcM ysM w (hOk w hwl hb)).view.set))).1 $$ Hyt
  icases Hyt' with ⟨Hyw, Hyr⟩
  rw [← dst_set sl v j (hd j) hv hj]
  have hamt : (dstM gbM (dsOff sl v j) (hd j)).view.amount (.dma (semM sems (smOff sl) hs)) = rowN := rowN_eq
  have hdel : iprop((ysM.view.loc (c : Thread nD τ) ↦[Finset.univ \ (srcM ysM w (hOk w hwl hb)).view.set]{shareTokN q (32 * v.toNat + j)} Y)
      ∗ (((dstM gbM (dsOff sl v j) (hd j)).view.loc (c : Thread nD τ) ↦[(dstM gbM (dsOff sl v j) (hd j)).view.set]{fullShare}
          ((dstM gbM (dsOff sl v j) (hd j)).view.write (Elt F) f (ReadAs.same.apply ((srcM ysM w (hOk w hwl hb)).view.read (Elt F) Y)) Finset.univ))
        ∗ ((srcM ysM w (hOk w hwl hb)).view.loc (c : Thread nD τ) ↦[(srcM ysM w (hOk w hwl hb)).view.set]{shareTokN q (32 * v.toNat + j)} Y)))
      ⊢ deliver (F := F) c sl.toNat q (dw.view.read (Elt F) fD) Y ⟨32 * v.toNat + j, hN⟩ := by
    exact deliver_of c sl v hv j hj (hd j) q _ Y f w (hOk w hwl hb) hwd' hN
  iapply (wp_dmaBatch_put (F := F) 𝒱 (c : Thread nD τ)
    (src := srcM ysM w (hOk w hwl hb)) (via := .same) (dst := dstM gbM (dsOff sl v j) (hd j)) (sm := .dma (semM sems (smOff sl) hs))
    (hsrc := (View.wordExact_bits rfl).reshape _ _) (hdst := (View.wordExact_bits rfl).reshape _ _) (hsem := ⟨Or.inl rfl, trivial⟩) (k := .ret)
    (q := shareTokN q (32 * v.toNat + j)) (fs := Y) (fd := f) (u := 0)
    (D := deliver (F := F) c sl.toNat q (dw.view.read (Elt F) fD) Y) (j := 32 * v.toNat + j) rowN hamt hN (Nat.zero_le _) hdel) $$ [Hyw Hgw Hyr HB]
  · isplitl [Hyw]; · iexact Hyw
    isplitl [Hgw]; · iexact Hgw
    isplitl [Hyr]; · iexact Hyr
    iexact HB
  iintro HB
  rw [wp_ret]
  imodintro
  isplitl [Hw]; · iexact Hw
  isplitl [HB]; · iexact HB
  isplitl [Hgr]
  · rw [← rest_sdiff, ← dst_set sl v j (hd j) hv hj]; iexact Hgr
  iexact Hyd

/-- A trip's copies, from number `j` on. -/
theorem wp_copiesP (𝒱 : Variants) (b : BitVec 1) (hb : b = 1#1) (dw : Memref sig .tc .smem S1x8x512 .i32) (sems : DmaSems sig S2)
    (sl v : BitVec 32) (hl) (hd) (hs) (hv : v.toNat < 64)
    (sem : DmaSem sig) (hsem : semM sems (smOff sl) hs = sem) (q qd : PosShare TreeShare)
    (fD : Buf (Elt F) (dw.view.loc (c : Thread nD τ))) (Y : Buf (Elt F) (ysM.view.loc (c : Thread nD τ)))
    (f : Buf (Elt F) (gbM.view.loc (c : Thread nD τ)))
    (hrow : ∀ n : ℕ, n < 2048 → (dw.view.read (Elt F) fD (tabIx n) : BitVec 32).toNat < 2129920) (n : ℕ) : ∀ j : ℕ, j + n ≤ 32 →
    (issuing c sem sl.toNat q dw qd fD Y f (32 * v.toNat + j)
      ⊢ wp frame (wpE defs₀ 𝒱 (c : Thread nD τ) none) Set.univ (copiesP (F := F) b hb dw ysM gbM sems sl v hl hd hs n j)
          (fun _ => issuing c sem sl.toNat q dw qd fD Y f (32 * v.toNat + (j + n)))) := by
  induction n with
  | zero =>
    intro j _
    rw [show copiesP (F := F) b hb dw ysM gbM sems sl v hl hd hs 0 j = pure ⟨⟩ from rfl, wp_pure]
    iintro H
    imodintro
    iexact H
  | succ n ih =>
    intro j hj
    rw [show copiesP (F := F) b hb dw ysM gbM sems sl v hl hd hs (n + 1) j
      = (copyP (F := F) b hb dw ysM gbM sems sl v hl hd hs j >>= fun _ => copiesP (F := F) b hb dw ysM gbM sems sl v hl hd hs n (j + 1)) from rfl, wp_bind]
    refine (wp_copyP (F := F) c 𝒱 b hb dw sems sl v hl hd hs j hv (by omega) sem hsem q qd fD Y f (hrow _ (by omega))).trans
      (wp_mono _ _ _ fun _ => ?_)
    have h := ih (j + 1) (by omega)
    rw [show j + 1 + n = j + (n + 1) by omega] at h
    exact h

/-- An issue loop: a counted loop of 64 trips whose regions are the trips' copies issues the block's 2048. -/
theorem wp_issueLoop (𝒱 : Variants) (b : BitVec 1) (hb : b = 1#1) (dw : Memref sig .tc .smem S1x8x512 .i32) (sems : DmaSems sig S2)
    (sl : BitVec 32) (hs) (hsl : sl.toNat < 2)
    (sem : DmaSem sig) (hsem : semM sems (smOff sl) hs = sem) (q qd : PosShare TreeShare)
    (fD : Buf (Elt F) (dw.view.loc (c : Thread nD τ))) (Y : Buf (Elt F) (ysM.view.loc (c : Thread nD τ)))
    (f : Buf (Elt F) (gbM.view.loc (c : Thread nD τ)))
    (hrow : ∀ n : ℕ, n < 2048 → (dw.view.read (Elt F) fD (tabIx n) : BitVec 32).toNat < 2129920)
    (lb ub st : BitVec 32) (hok : Scf.OK lb ub st) (htr : Scf.trips lb ub st = 64)
    (body : Fin (Scf.trips lb ub st) → PUnit → Prog (TpuEff nD τ sig (Elt F) Λ₀ .tc) PUnit)
    (hbody : ∀ t hl hd, body t ⟨⟩ = copiesP (F := F) b hb dw ysM gbM sems sl (Scf.iv (0#32 : BitVec 32) 1#32 t) hl hd hs 32 0)
    {β : Type} {kk : PUnit → Prog (TpuEff nD τ sig (Elt F) Λ₀ .tc) β} {Q : β → sProp 𝕄} :
    issuing c sem sl.toNat q dw qd fD Y f 0
      ⊢ iprop((issuing c sem sl.toNat q dw qd fD Y f 2048 -∗ wp frame (wpE defs₀ 𝒱 (c : Thread nD τ) none) Set.univ (kk ⟨⟩) Q)
          -∗ wp frame (wpE defs₀ 𝒱 (c : Thread nD τ) none) Set.univ (Scf.for lb ub st hok ⟨⟩ body >>= kk) Q) := by
  have hstep : ∀ (k : Fin (Scf.trips lb ub st)) (acc : PUnit),
      issuing c sem sl.toNat q dw qd fD Y f (32 * k.val)
        ⊢ wp frame (wpE defs₀ 𝒱 (c : Thread nD τ) none) Set.univ (body k acc)
          (fun _ => issuing c sem sl.toNat q dw qd fD Y f (32 * (k.val + 1))) := fun k acc => by
    have hk : k.val < 64 := htr ▸ k.isLt
    have hv : (Scf.iv (0#32 : BitVec 32) 1#32 k).toNat = k.val := ivW ⟨k.val, hk⟩
    have hlt : (Scf.iv (0#32 : BitVec 32) 1#32 k).toNat < 64 := by rw [hv]; exact hk
    rw [hbody k (ld_inb _ hlt) (ds_inb sl _ hsl hlt)]
    have h := wp_copiesP (F := F) c 𝒱 b hb dw sems sl (Scf.iv (0#32 : BitVec 32) 1#32 k) (ld_inb _ hlt) (ds_inb sl _ hsl hlt) hs hlt
      sem hsem q qd fD Y f hrow 32 0 (by omega)
    rw [hv] at h
    exact h
  have h := Scf.wp_for_bind (M := 𝕄) frame (wpE defs₀ 𝒱 (c : Thread nD τ) none) Set.univ lb ub st hok ⟨⟩ body
    (fun k _ => issuing c sem sl.toNat q dw qd fD Y f (32 * k)) hstep (kk := kk) (Q := Q)
  refine h.trans ?_
  rw [htr]
  iintro H Hk
  iapply H
  iintro %_ HI
  iapply Hk
  iexact HI

end Copy

end Cert.KernelIdeal.Own

end
-- ==== Proof.Drain.lean ====
/-
  The two states of a slot between two points of the grid — at rest, or with a block's copies in flight — and the moves
  between them: start, all issued, waited, collected.
-/
module

public import proofs.«01_k».proof.Proof.Issue

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC₀" => countersEmb (nD := nD) (τ := τ) (sig := sig) (Ix := Unit) (Val := Elt F) (Name := ℕ) (U := Pipeline.UD sig nD τ) (Lvl := ℕ)

/-- The cell of a slot, and the share of the experts' output its copies read through. -/
def semK : ℕ → DmaSem sig
  | 0 => 13
  | _ => 14
def qK : ℕ → PosShare TreeShare
  | 0 => fullShare.left
  | _ => fullShare.right

theorem rowN_pos : 0 < rowN := by rw [← rowN_eq]; decide +kernel
theorem credit512 : (cc0_scratch0 : Ref sig .tc).dmaCredit S512x8x128 .f32 = 512 * rowN := by rw [← rowN_eq]; decide +kernel

theorem semM_eq (sl : BitVec 32) (hsl : sl.toNat < 2) (o : Fin 1 → ℕ) (ho : o = smOff sl) (hs) :
    semM cc0_scratch1 o hs = semK sl.toNat := by
  subst ho
  have h : sl = 0#32 ∨ sl = 1#32 := by
    rcases (by omega : sl.toNat = 0 ∨ sl.toNat = 1) with h | h
    · exact Or.inl (BitVec.eq_of_toNat_eq h)
    · exact Or.inr (BitVec.eq_of_toNat_eq h)
  rcases h with rfl | rfl
  · revert hs; decide +kernel
  · revert hs; decide +kernel

variable (c : Dev nD)

abbrev YBuf : Type := Buf (Elt F) (ysM.view.loc (c : Thread nD τ))

/-- A slot at rest. -/
def idle (sl : ℕ) (Y : YBuf (F := F) c) : sProp 𝕄 :=
  iprop(semVal ((c : Thread nD τ), SemLoc.dma (semK sl)) 0
    ∗ (∃ f, gbM.view.loc (c : Thread nD τ) ↦[slot sl]{fullShare} f)
    ∗ (ysM.view.loc (c : Thread nD τ) ↦{qK sl} Y))

/-- A slot with the copies of the block whose table is `D` in flight, `u` bytes of them waited for. -/
def flying (sl : ℕ) (D : S1x8x512.Idx → BitVec 32) (Y : YBuf (F := F) c) (u : ℕ) : sProp 𝕄 :=
  iprop(Batch EC₀ (c : Thread nD τ) (.dma (semK sl)) () rowN (deliver (F := F) c sl (qK sl) D Y) 2048 u
    ∗ (ysM.view.loc (c : Thread nD τ) ↦{shareDrop (qK sl) 2048} Y))

/-- A slot landed: at rest, with the rows the table names. -/
def full (sl : ℕ) (D : S1x8x512.Idx → BitVec 32) (Y : YBuf (F := F) c) : sProp 𝕄 :=
  iprop(semVal ((c : Thread nD τ), SemLoc.dma (semK sl)) 0
    ∗ (gbM.view.loc (c : Thread nD τ) ↦[slot sl]{fullShare} (gat (F := F) D Y : Buf (Elt F) (gbM.view.loc (c : Thread nD τ))))
    ∗ (ysM.view.loc (c : Thread nD τ) ↦{qK sl} Y))

theorem full_idle (sl : ℕ) (D : S1x8x512.Idx → BitVec 32) (Y : YBuf (F := F) c) : full c sl D Y ⊢ idle c sl Y := by
  unfold full idle
  iintro ⟨Hs, Hg, Hy⟩
  isplitl [Hs]; · iexact Hs
  isplitl [Hg]; · iexists _; iexact Hg
  iexact Hy

theorem start (sl : ℕ) (Y : YBuf (F := F) c) (dw : Memref sig .tc .smem S1x8x512 .i32) (qd : PosShare TreeShare)
    (fD : Buf (Elt F) (dw.view.loc (c : Thread nD τ))) :
    iprop(idle c sl Y ∗ (dw.view.loc (c : Thread nD τ) ↦[dw.view.set]{qd} fD))
      ⊢ (|={Set.univ}=> ∃ f, issuing c (semK sl) sl (qK sl) dw qd fD Y f 0 : sProp 𝕄) := by
  unfold idle issuing
  iintro ⟨⟨Hs, ⟨%f, Hg⟩, Hy⟩, Hd⟩
  imod (batch_alloc' EC₀ (c : Thread nD τ) () rowN (deliver (F := F) c sl (qK sl) (dw.view.read (Elt F) fD) Y) (E := Set.univ)) $$ Hs with HB
  imodintro
  iexists f
  isplitl [Hd]; · iexact Hd
  isplitl [HB]; · iexact HB
  isplitl [Hg]
  · rw [rest_zero]; iexact Hg
  iexact Hy

theorem done (sl : ℕ) (Y : YBuf (F := F) c) (dw : Memref sig .tc .smem S1x8x512 .i32) (qd : PosShare TreeShare)
    (fD : Buf (Elt F) (dw.view.loc (c : Thread nD τ))) (f) :
    issuing c (semK sl) sl (qK sl) dw qd fD Y f 2048
      ⊢ (iprop(flying c sl (dw.view.read (Elt F) fD) Y 0 ∗ (dw.view.loc (c : Thread nD τ) ↦[dw.view.set]{qd} fD)) : sProp 𝕄) := by
  unfold flying issuing
  rw [rest_all, pointsTo_empty]
  iintro ⟨Hd, HB, -, Hy⟩
  isplitr [Hd]
  · isplitl [HB]; · iexact HB
    iexact Hy
  iexact Hd

theorem collect (sl : ℕ) (D : S1x8x512.Idx → BitVec 32) (Y : YBuf (F := F) c) :
    flying c sl D Y (rowN * 2048) ⊢ (|={Set.univ}=> full c sl D Y : sProp 𝕄) := by
  unfold flying full
  iintro ⟨HB, Hy⟩
  imod (batch_collect' EC₀ (c : Thread nD τ) rowN_pos) $$ HB with ⟨HD, Hs⟩
  imodintro
  isplitl [Hs]; · iexact Hs
  ihave HD' := (show bigSep Finset.univ (deliver (F := F) c sl (qK sl) D Y) ⊢ iprop(
      bigSep Finset.univ (fun n : Fin 2048 => (gbM.view.loc (c : Thread nD τ) ↦[win sl n.val]{fullShare} (gat (F := F) D Y : Buf (Elt F) (gbM.view.loc (c : Thread nD τ))) : sProp 𝕄))
      ∗ bigSep Finset.univ (fun n : Fin 2048 => (ysM.view.loc (c : Thread nD τ) ↦{shareTokN (qK sl) n.val} Y : sProp 𝕄)))
    from by unfold deliver; exact Entails.of_eq (BI.bigSep_sep _ _ _)) $$ HD
  icases HD' with ⟨Hg, Ht⟩
  isplitl [Hg]
  · rw [← win_cover sl, pointsTo_biUnion _ _ (win_disj sl)]
    iexact Hg
  iapply (pointsTo_toks_join (qK sl) 2048)
  isplitl [Hy]; · iexact Hy
  iexact Ht

/-- One of the four waits of a slot: 512 copies' bytes. -/
theorem wp_wait512 (𝒱 : Variants) (sl : ℕ) (D : S1x8x512.Idx → BitVec 32) (Y : YBuf (F := F) c) (u : ℕ) (hu : u + 512 * rowN ≤ rowN * 2048)
    (W : Waits sig Unit) (sem : DmaSem sig) (hsem : sem = semK sl)
    {α : Type} {sp' : Space} {s' : Shape} {e' : EltTy} {srcw : Memref sig .tc sp' s' e'} {dstw : Memref sig .tc .vmem S512x8x128 .f32}
    (hb : dstw.view.ref = (cc0_scratch0 : Ref sig .tc))
    {hsrc : srcw.view.WordExact} {hdst : dstw.view.WordExact}
    {k : PUnit → Prog (TpuEff nD τ sig (Elt F) Λ₀ .tc) α} {Q : α → sProp 𝕄} :
    iprop(flying c sl D Y u ∗ owes (c : Thread nD τ) 0 W)
      ⊢ iprop((iprop(flying c sl D Y (u + 512 * rowN) ∗ (∃ W', owes (c : Thread nD τ) 0 W'))
            -∗ wp frame (wpE defs₀ 𝒱 (c : Thread nD τ) none) Set.univ (k ⟨⟩) Q)
          -∗ wp frame (wpE defs₀ 𝒱 (c : Thread nD τ) none) Set.univ (.op (.waitDma2 sem srcw dstw hsrc hdst) k) Q) := by
  subst hsem
  unfold flying
  iintro ⟨⟨HB, Hy⟩, HO⟩ Hk
  iapply (wp_waitBatchMul EC₀ 𝒱 (c : Thread nD τ) none () 512 (show dstw.view.dmaCredit = 512 * rowN by
    rw [← credit512, ← hb]) hu) $$ [HB HO]
  · isplitl [HB]; · iexact HB
    iexact HO
  iintro ⟨HB, HO⟩
  iapply Hk
  isplitr [HO]
  · isplitl [HB]; · iexact HB
    iexact Hy
  iexists _; iexact HO

end Cert.KernelIdeal.Own

end
-- ==== Proof.Body.lean ====
/-
  The body at a point of the grid: its conditions and slots as numbers, the state it finds and leaves, and its run.
-/
module

public import proofs.«01_k».proof.Proof.Drain
public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The points -/

theorem cond1_pt : ∀ t : Fin grid0.N, k0_cond1 (grid0.coords t) = 1#1 ↔ t.val = 0 := by decide +kernel
theorem cond2_pt : ∀ t : Fin grid0.N, k0_cond2 (grid0.coords t) = 1#1 ↔ t.val + 1 < 128 := by decide +kernel
theorem slotW_pt : ∀ t : Fin grid0.N, (slotW (grid0.coords t)).toNat = t.val % 2 := by decide +kernel
theorem otherW_pt : ∀ t : Fin grid0.N, (otherW (grid0.coords t)).toNat = 1 - t.val % 2 := by decide +kernel

/-- The offsets of expert choice `k`'s plane of a slot. -/
def planeOff (sl k : ℕ) : Fin 5 → ℕ := ![sl, k, 0, 0, 0]
theorem off234 (i : grid0.Coords) : k0_off234 i = planeOff (slotW i).toNat 0 := rfl
theorem off235 (i : grid0.Coords) : k0_off235 i = planeOff (slotW i).toNat 1 := rfl
theorem off236 (i : grid0.Coords) : k0_off236 i = planeOff (slotW i).toNat 2 := rfl
theorem off237 (i : grid0.Coords) : k0_off237 i = planeOff (slotW i).toNat 3 := rfl
theorem off225 (i : grid0.Coords) : k0_off225 i = smOff (slotW i) := rfl

theorem trips1' : Scf.trips k0_t1_loop.lb k0_t1_loop.ub k0_t1_loop.st = 64 := trips1
theorem trips2' : Scf.trips k0_t2_loop.lb k0_t2_loop.ub k0_t2_loop.st = 64 := trips2

variable (c : Dev nD)

/-- What is read of expert choice `k` once a block's copies have landed. -/
def gatK (D : S1x8x512.Idx → BitVec 32) (Y : S2129920x8x128.Idx → F .f32) (k : Fin 4) : S1x1x512x8x128.Idx → F .f32 := fun y =>
  Y (ix3 (⟨(D (ix3 (0 : Fin 1) (⟨k.val, Nat.lt_of_lt_of_le k.isLt (by decide)⟩ : Fin 8) (y 2))).toNat % 2129920, Nat.mod_lt _ (by decide)⟩ : Fin 2129920)
    (y 3) (y 4))

/-- The copies' state a point finds: at the first both slots at rest, later the point's own slot in flight. -/
def hold (D : ℕ → S1x8x512.Idx → BitVec 32) (Y : YBuf (F := F) c) (n : ℕ) : sProp 𝕄 :=
  if n = 0 then iprop(idle c 0 Y ∗ idle c 1 Y)
  else if n < 128 then iprop(flying c (n % 2) (D n) Y 0 ∗ idle c (1 - n % 2) Y)
  else iprop(idle c 0 Y ∗ idle c 1 Y)

/-- What it leaves for the point after it, its own slot apart. -/
def ahead (D : ℕ → S1x8x512.Idx → BitVec 32) (Y : YBuf (F := F) c) (n : ℕ) : sProp 𝕄 :=
  if n + 1 < 128 then flying c (1 - n % 2) (D (n + 1)) Y 0 else idle c (1 - n % 2) Y

theorem hold_next (D : ℕ → S1x8x512.Idx → BitVec 32) (Y : YBuf (F := F) c) (n : ℕ) (hn : n < 128) :
    iprop(ahead c D Y n ∗ idle c (n % 2) Y) ⊢ hold c D Y (n + 1) := by
  unfold hold ahead
  rw [if_neg (show ¬ (n + 1 = 0) by omega)]
  by_cases h : n + 1 < 128
  · rw [if_pos h, if_pos h, show (n + 1) % 2 = 1 - n % 2 by omega, show 1 - (1 - n % 2) = n % 2 by omega]
  · rw [if_neg h, if_neg h, show n % 2 = 1 by omega]

/-! ## Loads and the store -/

theorem wp_loadO (𝒱 : Variants) {cs : CoreSpace} {s : Shape} {e : EltTy} (arg : Memref sig .tc cs s e) (q : PosShare TreeShare) (X : s.Idx → Elt F e)
    (r : Rect s) (v : r.toLoadRect.shape.Idx → Elt F e) (hv : v = fun x => X (r.emb x)) {hl : arg.view.LoadsAt r.toLoadRect} {α : Type} {k : (r.toLoadRect.shape.Idx → Elt F e) → Prog (TpuEff nD τ sig (Elt F) Λ₀ .tc) α} {Q : α → sProp 𝕄} :
    owns (c : Thread nD τ) arg q X
      ⊢ iprop((owns (c : Thread nD τ) arg q X -∗ wp frame (wpE defs₀ 𝒱 (c : Thread nD τ) none) Set.univ (k v) Q)
        -∗ wp frame (wpE defs₀ 𝒱 (c : Thread nD τ) none) Set.univ (.op (.load arg r.toLoadRect hl) k) Q) := by
  unfold owns
  iintro ⟨%f, %hf, H⟩ Hk
  iapply (wp_load 𝒱 (c : Thread nD τ) none Set.univ (m := arg) (r := r.toLoadRect) (S := arg.view.set) (q := q) (f := f) (by
    intro x hx
    obtain ⟨y, -, rfl⟩ := Finset.mem_map.mp hx
    exact Finset.mem_map.mpr ⟨_, Finset.mem_univ _, rfl⟩)) $$ H
  iintro H
  subst hf hv
  iapply Hk
  iexists f
  isplitr; · ipureintro; rfl
  iexact H

theorem wp_loadG (𝒱 : Variants) (sl : ℕ) (k : Fin 4) (D : S1x8x512.Idx → BitVec 32) (Y : YBuf (F := F) c)
    (o : Fin 5 → ℕ) (ho : o = planeOff sl k.val) (hin : ∀ a, o a + S1x1x512x8x128.size a ≤ S2x4x512x8x128.size a)
    {hl : gbM.view.LoadsAt (Rect.unit (s := S2x4x512x8x128) o S1x1x512x8x128.size hin).toLoadRect} {α : Type}
    {kk : (S1x1x512x8x128.Idx → Elt F .f32) → Prog (TpuEff nD τ sig (Elt F) Λ₀ .tc) α} {Q : α → sProp 𝕄} :
    (full c sl D Y : sProp 𝕄)
      ⊢ iprop((full c sl D Y -∗ wp frame (wpE defs₀ 𝒱 (c : Thread nD τ) none) Set.univ (kk (gatK D Y k)) Q)
        -∗ wp frame (wpE defs₀ 𝒱 (c : Thread nD τ) none) Set.univ
          (.op (.load gbM (Rect.unit (s := S2x4x512x8x128) o S1x1x512x8x128.size hin).toLoadRect hl) kk) Q) := by
  subst ho
  have hv : gbM.view.readAt (Elt F) (Rect.unit (s := S2x4x512x8x128) (planeOff sl k.val) S1x1x512x8x128.size hin).toLoadRect
      (gat (F := F) D Y : Buf (Elt F) (gbM.view.loc (c : Thread nD τ))) = gatK D Y k := by
    refine funext fun y => ?_
    show gat (F := F) D Y ((Rect.unit (s := S2x4x512x8x128) (planeOff sl k.val) S1x1x512x8x128.size hin).emb y) = _
    have l1 : (y 1).val < 1 := (y 1).isLt
    unfold gat gatK
    refine congrArg Y (funext fun a => Fin.ext ?_)
    fin_cases a
    · show (D _).toNat % 2129920 = (D _).toNat % 2129920
      refine congrArg (fun i => (D i).toNat % 2129920) (funext fun b => Fin.ext ?_)
      fin_cases b
      · rfl
      · show k.val + 1 * (y 1).val = k.val; omega
      · show 0 + 1 * (y 2).val = (y 2).val; omega
    · show 0 + 1 * (y 3).val = (y 3).val; omega
    · show 0 + 1 * (y 4).val = (y 4).val; omega
  unfold full
  iintro ⟨Hs, Hg, Hy⟩ Hk
  iapply (wp_load 𝒱 (c : Thread nD τ) none Set.univ (m := gbM) (r := (Rect.unit (s := S2x4x512x8x128) (planeOff sl k.val) S1x1x512x8x128.size hin).toLoadRect)
    (S := slot sl) (q := fullShare) (f := gat (F := F) D Y) (by
      intro x hx
      obtain ⟨y, hy, rfl⟩ := Finset.mem_map.mp hx
      have h0 := Rect.mem_set_unit.mp hy 0
      have h1 : sl ≤ (y 0).val ∧ (y 0).val < sl + 1 := h0
      rw [mem_slot]
      show (y 0).val = sl
      omega)) $$ Hg
  iintro Hg
  rw [hv]
  iapply Hk
  isplitl [Hs]; · iexact Hs
  isplitl [Hg]; · iexact Hg
  iexact Hy

theorem wp_storeO (𝒱 : Variants) {s : Shape} {e : EltTy} (arg : Memref sig .tc .vmem s e) (w : s.Idx → Elt F e) (o : Fin s.rank → ℕ) (ho : ∀ a, o a = 0)
    (hin : ∀ a, o a + s.size a ≤ s.size a)
    {hx : (arg.access (Rect.unit (s := s) o s.size hin)).Stores Finset.univ}
    {hm : (Finset.univ : Finset (Rect.unit (s := s) o s.size hin).shape.Idx) = Finset.univ ∨ ∀ a, (Rect.unit (s := s) o s.size hin).stride a = 1}
    {α : Type} {k : PUnit → Prog (TpuEff nD τ sig (Elt F) Λ₀ .tc) α} {Q : α → sProp 𝕄} :
    iprop(∃ d, owns (c : Thread nD τ) arg fullShare d)
      ⊢ iprop((owns (c : Thread nD τ) arg fullShare w -∗ wp frame (wpE defs₀ 𝒱 (c : Thread nD τ) none) Set.univ (k ⟨⟩) Q)
        -∗ wp frame (wpE defs₀ 𝒱 (c : Thread nD τ) none) Set.univ
          (.op (.store arg (Rect.unit (s := s) o s.size hin) w Finset.univ hx hm) k) Q) := by
  have hid : ∀ y : s.Idx, (Rect.unit (s := s) o s.size hin).emb y = y := fun y =>
    funext fun a => Fin.ext (by
      show o a + 1 * (y a).val = _
      rw [ho a]; omega)
  unfold owns
  iintro ⟨%d, %f, %hf, H⟩ Hk
  iapply (wp_store 𝒱 (c : Thread nD τ) none Set.univ (m := arg) (r := Rect.unit (s := s) o s.size hin) (w := w)
    (S := arg.view.set) (f := f) (by
      intro x hx
      obtain ⟨y, -, rfl⟩ := Finset.mem_map.mp hx
      exact Finset.mem_map.mpr ⟨_, Finset.mem_univ _, rfl⟩)) $$ H
  iintro H
  iapply Hk
  iexists _
  isplitr
  swap; · iexact H
  ipureintro
  refine funext fun y => ?_
  have h := View.read_write_univ (v := arg.access (Rect.unit (s := s) o s.size hin)) (Val := Elt F) f w
  have he : arg.view.emb y = (arg.access (Rect.unit (s := s) o s.size hin)).emb y := congrArg arg.view.emb (hid y).symm
  refine Eq.trans ?_ (congrFun h y)
  rw [View.read_apply, View.read_apply, he]

end Cert.KernelIdeal.Own

end
-- ==== Proof.Run.lean ====
/-
  The body's run at a point: the two guarded loops, the four waits, the loads and the store.
-/
module

public import proofs.«01_k».proof.Proof.Body

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD) (𝒱 : Variants)

/-- A slot at rest, filled by a loop with the copies of the block staged in `dw`. -/
theorem wp_fill (sl : ℕ) (Y : YBuf (F := F) c) (b : BitVec 1) (hb : b = 1#1) (dw : Memref sig .tc .smem S1x8x512 .i32)
    (slw : BitVec 32) (hslw : slw.toNat = sl) (hsl : sl < 2) (Dn : S1x8x512.Idx → BitVec 32)
    (hrow : ∀ n : ℕ, n < 2048 → (Dn (tabIx n)).toNat < 2129920)
    (lb ub st : BitVec 32) (hok : Scf.OK lb ub st) (htr : Scf.trips lb ub st = 64)
    (body : Fin (Scf.trips lb ub st) → PUnit → Prog (TpuEff nD τ sig (Elt F) Λ₀ .tc) PUnit)
    (hbody : ∀ t hl hd, body t ⟨⟩ = copiesP (F := F) b hb dw ysM gbM cc0_scratch1 slw (Scf.iv (0#32 : BitVec 32) 1#32 t) hl hd (sm_inb slw (hslw ▸ hsl)) 32 0)
    {β : Type} {kk : PUnit → Prog (TpuEff nD τ sig (Elt F) Λ₀ .tc) β} {Q : β → sProp 𝕄} :
    iprop(idle c sl Y ∗ owns (c : Thread nD τ) dw fullShare Dn)
      ⊢ iprop((iprop(flying c sl Dn Y 0 ∗ owns (c : Thread nD τ) dw fullShare Dn) -∗ wp frame (wpE defs₀ 𝒱 (c : Thread nD τ) none) Set.univ (kk ⟨⟩) Q)
          -∗ wp frame (wpE defs₀ 𝒱 (c : Thread nD τ) none) Set.univ (Scf.for lb ub st hok ⟨⟩ body >>= kk) Q) := by
  subst hslw
  unfold owns
  iintro ⟨Hi, ⟨%fD, %hf, Hd⟩⟩ Hk
  subst hf
  imod (start c slw.toNat Y dw fullShare fD) $$ [Hi Hd] with ⟨%f, HI⟩
  · isplitl [Hi]; · iexact Hi
    iexact Hd
  iapply (wp_issueLoop (F := F) c 𝒱 b hb dw cc0_scratch1 slw (sm_inb slw hsl) hsl (semK slw.toNat) (semM_eq slw hsl _ rfl _) (qK slw.toNat) fullShare
    fD Y f hrow lb ub st hok htr body hbody) $$ HI
  iintro HI
  ihave HD := (done c slw.toNat Y dw fullShare fD f) $$ HI
  icases HD with ⟨HF, Hd⟩
  iapply Hk
  isplitl [HF]; · iexact HF
  iexists fD
  isplitr; · ipureintro; rfl
  iexact Hd

variable (D : ℕ → S1x8x512.Idx → BitVec 32) (Y : YBuf (F := F) c)

section Parts

variable (a1 : Memref sig .tc .smem S1x8x512 .i32) (h1 : a1.IsWhole) (a2 : Memref sig .tc .smem S1x8x512 .i32) (h2 : a2.IsWhole)
  (a3 : Memref sig .tc .vmem S512x1024 .f32) (h3 : a3.IsWhole) (a4 : Memref sig .tc .vmem S512x128 .f32) (h4 : a4.IsWhole)
  (a5 : Memref sig .tc .vmem S1x6x1024 .f32) (h5 : a5.IsWhole) (a6 : Memref sig .tc .vmem S1x1024 .f32) (h6 : a6.IsWhole)
  (h7 : ysM.IsWhole) (a8 : Memref sig .tc .vmem S512x1024 .f32) (h8 : a8.IsWhole) (h9 : gbM.IsWhole)

/-- The second guarded loop: the next block's copies into the other slot, at every point but the last. -/
theorem run_next (t : Fin grid0.N) (hrow : ∀ m, m < 128 → ∀ n : ℕ, n < 2048 → (D m (tabIx n)).toNat < 2129920)
    (D2 : S1x8x512.Idx → BitVec 32) (hD2 : t.val + 1 < 128 → D2 = D (t.val + 1)) (A : sProp 𝕄)
    {β : Type} (P : Prog (TpuEff nD τ sig (Elt F) Λ₀ .tc) β) (Q : β → sProp 𝕄)
    (hP : iprop(A ∗ ahead c D Y t.val ∗ owns (c : Thread nD τ) a2 fullShare D2) ⊢ wp frame (wpE defs₀ 𝒱 (c : Thread nD τ) none) Set.univ P Q) :
    iprop(A ∗ idle c (1 - t.val % 2) Y ∗ owns (c : Thread nD τ) a2 fullShare D2)
      ⊢ wp frame (wpE defs₀ 𝒱 (c : Thread nD τ) none) Set.univ
          (if hc2 : k0_cond2 (grid0.coords t) = 1#1 then
            (Scf.Loop.for k0_t2_loop (k0_t2_ok (grid0.coords t) hc2) ⟨⟩ (k0_t2_body (F := F) (grid0.coords t) a1 h1 a2 h2 a3 h3 a4 h4 a5 h5 a6 h6 ysM h7 a8 h8 gbM h9 cc0_scratch1 hc2)
              >>= fun _ => P)
          else P) Q := by
  by_cases hc2 : k0_cond2 (grid0.coords t) = 1#1
  · have hlt : t.val + 1 < 128 := (cond2_pt t).mp hc2
    have ht2 : t.val % 2 < 2 := Nat.mod_lt _ (by decide)
    have e := hD2 hlt
    subst e
    rw [dif_pos hc2]
    iintro ⟨HA, Hi, H2⟩
    iapply (wp_fill (F := F) c 𝒱 (1 - t.val % 2) Y (k0_cond2 (grid0.coords t)) hc2 a2 (otherW (grid0.coords t)) (otherW_pt t) (by omega) (D (t.val + 1))
      (hrow _ hlt) k0_t2_loop.lb k0_t2_loop.ub k0_t2_loop.st (k0_t2_ok (grid0.coords t) hc2) trips2'
      (k0_t2_body (F := F) (grid0.coords t) a1 h1 a2 h2 a3 h3 a4 h4 a5 h5 a6 h6 ysM h7 a8 h8 gbM h9 cc0_scratch1 hc2)
      (fun k hl hd => t2_body_eq (F := F) (grid0.coords t) a1 h1 a2 h2 a3 h3 a4 h4 a5 h5 a6 h6 ysM h7 a8 h8 gbM h9 cc0_scratch1 hc2 k hl hd _)) $$ [Hi H2]
    · isplitl [Hi]; · iexact Hi
      iexact H2
    iintro ⟨HF, H2⟩
    iapply hP
    unfold ahead
    rw [if_pos hlt]
    isplitl [HA]; · iexact HA
    isplitl [HF]; · iexact HF
    iexact H2
  · have hlt : ¬ t.val + 1 < 128 := fun h => hc2 ((cond2_pt t).mpr h)
    rw [dif_neg hc2]
    refine BIBase.Entails.trans ?_ hP
    unfold ahead
    rw [if_neg hlt]

/-- The first part: both loops and the first wait. -/
theorem run20 (t : Fin grid0.N) (hrow : ∀ m, m < 128 → ∀ n : ℕ, n < 2048 → (D m (tabIx n)).toNat < 2129920)
    (D2 : S1x8x512.Idx → BitVec 32) (hD2 : t.val + 1 < 128 → D2 = D (t.val + 1)) :
    iprop(hold c D Y t.val ∗ owns (c : Thread nD τ) a1 fullShare (D t.val) ∗ owns (c : Thread nD τ) a2 fullShare D2 ∗ (∃ W, owes (c : Thread nD τ) 0 W))
      ⊢ wp frame (wpE defs₀ 𝒱 (c : Thread nD τ) none) Set.univ
          (k0_part20 (F := F) (grid0.coords t) a1 h1 a2 h2 a3 h3 a4 h4 a5 h5 a6 h6 ysM h7 a8 h8 gbM h9 cc0_scratch1)
          (fun _ => iprop(flying c (t.val % 2) (D t.val) Y (512 * rowN) ∗ ahead c D Y t.val ∗ owns (c : Thread nD τ) a1 fullShare (D t.val) ∗ owns (c : Thread nD τ) a2 fullShare D2
            ∗ (∃ W, owes (c : Thread nD τ) 0 W))) := by
  have htl : t.val < 128 := t.isLt
  have hP : ∀ {sem : DmaSem sig} (hsem : sem = semK (t.val % 2)) {v : BitVec 32}
      {srcw dstw : Memref sig .tc .vmem S512x8x128 .f32} (hb : dstw.view.ref = (cc0_scratch0 : Ref sig .tc)) {hs : srcw.view.WordExact} {hd : dstw.view.WordExact},
      iprop(iprop(flying c (t.val % 2) (D t.val) Y 0 ∗ owns (c : Thread nD τ) a1 fullShare (D t.val) ∗ (∃ W, owes (c : Thread nD τ) 0 W))
        ∗ ahead c D Y t.val ∗ owns (c : Thread nD τ) a2 fullShare D2)
      ⊢ wp frame (wpE defs₀ 𝒱 (c : Thread nD τ) none) Set.univ
          (Prog.lift (TpuEff.waitDma2 sem srcw dstw hs hd) >>= fun _ => (pure v : Prog (TpuEff nD τ sig (Elt F) Λ₀ .tc) (BitVec 32)))
          (fun _ => iprop(flying c (t.val % 2) (D t.val) Y (512 * rowN) ∗ ahead c D Y t.val ∗ owns (c : Thread nD τ) a1 fullShare (D t.val) ∗ owns (c : Thread nD τ) a2 fullShare D2
            ∗ (∃ W, owes (c : Thread nD τ) 0 W))) := by
    intro sem hsem v srcw dstw hb hs hd
    iintro ⟨⟨HF, Ha1, ⟨%W, HO⟩⟩, HA, Ha2⟩
    iapply (wp_wait512 c 𝒱 (t.val % 2) (D t.val) Y 0 (by have := rowN_pos; omega) W sem hsem hb) $$ [HF HO]
    · isplitl [HF]; · iexact HF
      iexact HO
    rw [Nat.zero_add]
    iintro ⟨HF, HO⟩
    rw [show ((Prog.ret PUnit.unit : Prog (TpuEff nD τ sig (Elt F) Λ₀ .tc) PUnit).bind fun x => (pure v : Prog (TpuEff nD τ sig (Elt F) Λ₀ .tc) (BitVec 32))) = Prog.ret v from rfl, wp_ret]
    imodintro
    isplitl [HF]; · iexact HF
    isplitl [HA]; · iexact HA
    isplitl [Ha1]; · iexact Ha1
    isplitl [Ha2]; · iexact Ha2
    iexact HO
  rw [k0_part20_eq_skeleton]
  unfold k0_part20_skel
  have hsem : semM cc0_scratch1 (k0_off225 (grid0.coords t)) (k0_off225_inb (grid0.coords t)) = semK (t.val % 2) := by
    rw [← slotW_pt t]
    exact semM_eq (slotW (grid0.coords t)) (by rw [slotW_pt t]; omega) _ rfl _
  by_cases hc1 : k0_cond1 (grid0.coords t) = 1#1
  · have ht0 : t.val = 0 := (cond1_pt t).mp hc1
    rw [dif_pos hc1]
    unfold hold
    rw [if_pos ht0]
    iintro ⟨⟨H0, H1⟩, Ha1, Ha2, HO⟩
    iapply (wp_fill (F := F) c 𝒱 0 Y (k0_cond1 (grid0.coords t)) hc1 a1 0#32 rfl (by decide) (D t.val)
      (hrow _ htl) k0_t1_loop.lb k0_t1_loop.ub k0_t1_loop.st (k0_t1_ok (grid0.coords t) hc1) trips1'
      (k0_t1_body (F := F) (grid0.coords t) a1 h1 a2 h2 a3 h3 a4 h4 a5 h5 a6 h6 ysM h7 a8 h8 gbM h9 cc0_scratch1 hc1)
      (fun k hl hd => t1_body_eq (F := F) (grid0.coords t) a1 h1 a2 h2 a3 h3 a4 h4 a5 h5 a6 h6 ysM h7 a8 h8 gbM h9 cc0_scratch1 hc1 k hl hd _)) $$ [H0 Ha1]
    · isplitl [H0]; · iexact H0
      iexact Ha1
    iintro ⟨HF, Ha1⟩
    iapply (run_next c 𝒱 D Y a1 h1 a2 h2 a3 h3 a4 h4 a5 h5 a6 h6 h7 a8 h8 h9 t hrow D2 hD2
      iprop(flying c (t.val % 2) (D t.val) Y 0 ∗ owns (c : Thread nD τ) a1 fullShare (D t.val) ∗ (∃ W, owes (c : Thread nD τ) 0 W)) _ _ (hP hsem rfl))
    isplitl [HF Ha1 HO]
    · isplitl [HF]; · rw [show t.val % 2 = 0 by omega]; iexact HF
      isplitl [Ha1]; · iexact Ha1
      iexact HO
    isplitl [H1]; · rw [show 1 - t.val % 2 = 1 by omega]; iexact H1
    iexact Ha2
  · have ht0 : ¬ t.val = 0 := fun h => hc1 ((cond1_pt t).mpr h)
    rw [dif_neg hc1]
    unfold hold
    rw [if_neg ht0, if_pos htl]
    iintro ⟨⟨HF, Hi⟩, Ha1, Ha2, HO⟩
    iapply (run_next c 𝒱 D Y a1 h1 a2 h2 a3 h3 a4 h4 a5 h5 a6 h6 h7 a8 h8 h9 t hrow D2 hD2
      iprop(flying c (t.val % 2) (D t.val) Y 0 ∗ owns (c : Thread nD τ) a1 fullShare (D t.val) ∗ (∃ W, owes (c : Thread nD τ) 0 W)) _ _ (hP hsem rfl))
    isplitl [HF Ha1 HO]
    · isplitl [HF]; · iexact HF
      isplitl [Ha1]; · iexact Ha1
      iexact HO
    isplitl [Hi]; · iexact Hi
    iexact Ha2

/-- What the loads read of the blocks, as the program names them. -/
abbrev ldX (X : S512x1024.Idx → F .f32) : Vec F S512x1024 .f32 := fun x => X ((Rect.unit (s := S512x1024) ![0, 0] S512x1024.size inb_S512x1024_S512x1024_0_0).emb x)
abbrev ldR (R : S512x128.Idx → F .f32) : Vec F S512x128 .f32 := fun x => R ((Rect.unit (s := S512x128) ![0, 0] S512x128.size inb_S512x128_S512x128_0_0).emb x)
abbrev ldM (M : S1x6x1024.Idx → F .f32) : Vec F S1x1x1024 .f32 := fun x => M ((Rect.unit (s := S1x6x1024) ![0, 5, 0] S1x1x1024.size inb_S1x6x1024_S1x1x1024_0_5_0).emb x)
abbrev ldG (G : S1x1024.Idx → F .f32) : Vec F S1x1024 .f32 := fun x => G ((Rect.unit (s := S1x1024) ![0, 0] S1x1024.size inb_S1x1024_S1x1024_0_0).emb x)

variable (X : S512x1024.Idx → F .f32) (R : S512x128.Idx → F .f32) (M : S1x6x1024.Idx → F .f32) (G : S1x1024.Idx → F .f32)

/-- The second part: the other three waits, the gates and the first choice's rows. -/
theorem run21 (t : Fin grid0.N) (v9 : BitVec 32) (A : sProp 𝕄)
    {Q : (Σ' (v46 : FVec F S512x128 .f32) (v53 : FVec F S512x1024 .f32), FVec F S512x1 .f32) → sProp 𝕄}
    (hQ : iprop(A ∗ full c (t.val % 2) (D t.val) Y ∗ owns (c : Thread nD τ) a4 fullShare R ∗ (∃ W, owes (c : Thread nD τ) 0 W))
      ⊢ Q ⟨k0_pay2 (ldR R), k0_pay3 (ldR R) (gatK (D t.val) Y 0), k0_pay4 (ldR R)⟩) :
    iprop(A ∗ flying c (t.val % 2) (D t.val) Y (512 * rowN) ∗ owns (c : Thread nD τ) a4 fullShare R ∗ (∃ W, owes (c : Thread nD τ) 0 W))
      ⊢ wp frame (wpE defs₀ 𝒱 (c : Thread nD τ) none) Set.univ
          (k0_part21 (F := F) (grid0.coords t) a1 h1 a2 h2 a3 h3 a4 h4 a5 h5 a6 h6 ysM h7 a8 h8 gbM h9 cc0_scratch1 v9) Q := by
  have hsem : semM cc0_scratch1 (k0_off225 (grid0.coords t)) (k0_off225_inb (grid0.coords t)) = semK (t.val % 2) := by
    rw [← slotW_pt t]
    exact semM_eq (slotW (grid0.coords t)) (by rw [slotW_pt t]; omega) _ rfl _
  have hp := rowN_pos
  rw [k0_part21_eq_skeleton]
  unfold k0_part21_skel
  iintro ⟨HA, HF, H4, ⟨%W, HO⟩⟩
  iapply (wp_wait512 c 𝒱 (t.val % 2) (D t.val) Y (512 * rowN) (by omega) W _ hsem rfl) $$ [HF HO]
  · isplitl [HF]; · iexact HF
    iexact HO
  iintro ⟨HF, ⟨%W1, HO⟩⟩
  iapply (wp_wait512 c 𝒱 (t.val % 2) (D t.val) Y (512 * rowN + 512 * rowN) (by omega) W1 _ hsem rfl) $$ [HF HO]
  · isplitl [HF]; · iexact HF
    iexact HO
  iintro ⟨HF, ⟨%W2, HO⟩⟩
  iapply (wp_wait512 c 𝒱 (t.val % 2) (D t.val) Y (512 * rowN + 512 * rowN + 512 * rowN) (by omega) W2 _ hsem rfl) $$ [HF HO]
  · isplitl [HF]; · iexact HF
    iexact HO
  rw [show 512 * rowN + 512 * rowN + 512 * rowN + 512 * rowN = rowN * 2048 by omega]
  iintro ⟨HF, HO⟩
  imod (collect c (t.val % 2) (D t.val) Y) $$ HF with HF
  iapply (wp_loadO c 𝒱 a4 fullShare R (Rect.unit (s := S512x128) ![0, 0] S512x128.size inb_S512x128_S512x128_0_0) (ldR R) rfl) $$ H4
  iintro H4
  iapply (wp_loadG c 𝒱 (t.val % 2) 0 (D t.val) Y (k0_off234 (grid0.coords t)) (by rw [← slotW_pt t]; rfl) (k0_off234_inb (grid0.coords t))) $$ HF
  iintro HF
  iapply (Entails.of_eq (wp_ret (M := 𝕄) frame (wpE defs₀ 𝒱 (c : Thread nD τ) none) Set.univ _ Q).symm)
  imodintro
  iapply hQ
  isplitl [HA]; · iexact HA
  isplitl [HF]; · iexact HF
  isplitl [H4]; · iexact H4
  iexact HO

/-- The third part: the other choices' rows, the activations, the gate row and the norm's gains. -/
theorem run22 (t : Fin grid0.N) (v9 : BitVec 32) (v46 : FVec F S512x128 .f32) (v53 : FVec F S512x1024 .f32) (v54 : FVec F S512x1 .f32) (A : sProp 𝕄)
    {Q : (Σ' (v79 : FVec F S512x1024 .f32), FVec F S512x1024 .f32) → sProp 𝕄}
    (hQ : iprop(A ∗ full c (t.val % 2) (D t.val) Y ∗ owns (c : Thread nD τ) a3 fullShare X ∗ owns (c : Thread nD τ) a5 fullShare M ∗ owns (c : Thread nD τ) a6 fullShare G)
      ⊢ Q ⟨k0_pay5 (ldX X), k0_pay6 v46 v53 v54 (gatK (D t.val) Y 1) (gatK (D t.val) Y 2) (gatK (D t.val) Y 3) (ldM M) (ldG G)⟩) :
    iprop(A ∗ full c (t.val % 2) (D t.val) Y ∗ owns (c : Thread nD τ) a3 fullShare X ∗ owns (c : Thread nD τ) a5 fullShare M ∗ owns (c : Thread nD τ) a6 fullShare G)
      ⊢ wp frame (wpE defs₀ 𝒱 (c : Thread nD τ) none) Set.univ
          (k0_part22 (F := F) (grid0.coords t) a1 h1 a2 h2 a3 h3 a4 h4 a5 h5 a6 h6 ysM h7 a8 h8 gbM h9 cc0_scratch1 v9 v46 v53 v54) Q := by
  rw [k0_part22_eq_skeleton]
  unfold k0_part22_skel
  iintro ⟨HA, HF, H3, H5, H6⟩
  iapply (wp_loadG c 𝒱 (t.val % 2) 1 (D t.val) Y (k0_off235 (grid0.coords t)) (by rw [← slotW_pt t]; rfl) (k0_off235_inb (grid0.coords t))) $$ HF
  iintro HF
  iapply (wp_loadG c 𝒱 (t.val % 2) 2 (D t.val) Y (k0_off236 (grid0.coords t)) (by rw [← slotW_pt t]; rfl) (k0_off236_inb (grid0.coords t))) $$ HF
  iintro HF
  iapply (wp_loadG c 𝒱 (t.val % 2) 3 (D t.val) Y (k0_off237 (grid0.coords t)) (by rw [← slotW_pt t]; rfl) (k0_off237_inb (grid0.coords t))) $$ HF
  iintro HF
  iapply (wp_loadO c 𝒱 a3 fullShare X (Rect.unit (s := S512x1024) ![0, 0] S512x1024.size inb_S512x1024_S512x1024_0_0) (ldX X) rfl) $$ H3
  iintro H3
  iapply (wp_loadO c 𝒱 a5 fullShare M (Rect.unit (s := S1x6x1024) ![0, 5, 0] S1x1x1024.size inb_S1x6x1024_S1x1x1024_0_5_0) (ldM M) rfl) $$ H5
  iintro H5
  iapply (wp_loadO c 𝒱 a6 fullShare G (Rect.unit (s := S1x1024) ![0, 0] S1x1024.size inb_S1x1024_S1x1024_0_0) (ldG G) rfl) $$ H6
  iintro H6
  iapply (Entails.of_eq (wp_ret (M := 𝕄) frame (wpE defs₀ 𝒱 (c : Thread nD τ) none) Set.univ _ Q).symm)
  imodintro
  iapply hQ
  isplitl [HA]; · iexact HA
  isplitl [HF]; · iexact HF
  isplitl [H3]; · iexact H3
  isplitl [H5]; · iexact H5
  iexact H6

/-- The block a point stores, from the blocks it reads and its table. -/
def outV (Dn : S1x8x512.Idx → BitVec 32) (Y : S2129920x8x128.Idx → F .f32) : FVec F S512x1024 .f32 :=
  k0_pay1 (k0_pay5 (ldX X)) (k0_pay6 (k0_pay2 (ldR R)) (k0_pay3 (ldR R) (gatK Dn Y 0)) (k0_pay4 (ldR R))
    (gatK Dn Y 1) (gatK Dn Y 2) (gatK Dn Y 3) (ldM M) (ldG G))

/-- The body at a point. -/
theorem run_body (t : Fin grid0.N) (hrow : ∀ m, m < 128 → ∀ n : ℕ, n < 2048 → (D m (tabIx n)).toNat < 2129920)
    (D2 : S1x8x512.Idx → BitVec 32) (hD2 : t.val + 1 < 128 → D2 = D (t.val + 1)) :
    iprop(hold c D Y t.val ∗ owns (c : Thread nD τ) a1 fullShare (D t.val) ∗ owns (c : Thread nD τ) a2 fullShare D2
        ∗ owns (c : Thread nD τ) a3 fullShare X ∗ owns (c : Thread nD τ) a4 fullShare R ∗ owns (c : Thread nD τ) a5 fullShare M
        ∗ owns (c : Thread nD τ) a6 fullShare G ∗ (∃ d, owns (c : Thread nD τ) a8 fullShare d) ∗ (∃ W, owes (c : Thread nD τ) 0 W))
      ⊢ wp frame (wpE defs₀ 𝒱 (c : Thread nD τ) none) Set.univ
          (cc0_combine (F := F) (grid0.coords t) a1 h1 a2 h2 a3 h3 a4 h4 a5 h5 a6 h6 ysM h7 a8 h8 gbM h9 cc0_scratch1)
          (fun _ => iprop(hold c D Y (t.val + 1) ∗ owns (c : Thread nD τ) a1 fullShare (D t.val) ∗ owns (c : Thread nD τ) a2 fullShare D2
            ∗ owns (c : Thread nD τ) a3 fullShare X ∗ owns (c : Thread nD τ) a4 fullShare R ∗ owns (c : Thread nD τ) a5 fullShare M
            ∗ owns (c : Thread nD τ) a6 fullShare G ∗ owns (c : Thread nD τ) a8 fullShare (outV X R M G (D t.val) Y) ∗ (∃ W, owes (c : Thread nD τ) 0 W))) := by
  have htl : t.val < 128 := t.isLt
  rw [cc0_combine_eq_skeleton]
  unfold cc0_combine_skel
  rw [wp_bind]
  iintro ⟨HH, H1, H2, H3, H4, H5, H6, H8, HO⟩
  iapply (wp_wand frame (wpE defs₀ 𝒱 (c : Thread nD τ) none) Set.univ) $$ [HH H1 H2 HO]
  · iapply (run20 c 𝒱 D Y a1 h1 a2 h2 a3 h3 a4 h4 a5 h5 a6 h6 h7 a8 h8 h9 t hrow D2 hD2)
    isplitl [HH]; · iexact HH
    isplitl [H1]; · iexact H1
    isplitl [H2]; · iexact H2
    iexact HO
  iintro %v9 ⟨HF, HA, H1, H2, HO⟩
  rw [wp_bind]
  iapply (run21 c 𝒱 D Y a1 h1 a2 h2 a3 h3 a4 h4 a5 h5 a6 h6 h7 a8 h8 h9 R t v9
    iprop(ahead c D Y t.val ∗ owns (c : Thread nD τ) a1 fullShare (D t.val) ∗ owns (c : Thread nD τ) a2 fullShare D2
      ∗ owns (c : Thread nD τ) a3 fullShare X ∗ owns (c : Thread nD τ) a5 fullShare M
      ∗ owns (c : Thread nD τ) a6 fullShare G ∗ (∃ d, owns (c : Thread nD τ) a8 fullShare d)) ?_)
  swap
  · isplitl [HA H1 H2 H3 H5 H6 H8]
    · isplitl [HA]; · iexact HA
      isplitl [H1]; · iexact H1
      isplitl [H2]; · iexact H2
      isplitl [H3]; · iexact H3
      isplitl [H5]; · iexact H5
      isplitl [H6]; · iexact H6
      iexact H8
    isplitl [HF]; · iexact HF
    isplitl [H4]; · iexact H4
    iexact HO
  iintro ⟨⟨HA, H1, H2, H3, H5, H6, H8⟩, HF, H4, HO⟩
  rw [wp_bind]
  iapply (run22 c 𝒱 D Y a1 h1 a2 h2 a3 h3 a4 h4 a5 h5 a6 h6 h7 a8 h8 h9 X M G t v9 _ _ _
    iprop(ahead c D Y t.val ∗ owns (c : Thread nD τ) a1 fullShare (D t.val) ∗ owns (c : Thread nD τ) a2 fullShare D2
      ∗ owns (c : Thread nD τ) a4 fullShare R ∗ (∃ d, owns (c : Thread nD τ) a8 fullShare d) ∗ (∃ W, owes (c : Thread nD τ) 0 W)) ?_)
  swap
  · isplitl [HA H1 H2 H4 H8 HO]
    · isplitl [HA]; · iexact HA
      isplitl [H1]; · iexact H1
      isplitl [H2]; · iexact H2
      isplitl [H4]; · iexact H4
      isplitl [H8]; · iexact H8
      iexact HO
    isplitl [HF]; · iexact HF
    isplitl [H3]; · iexact H3
    isplitl [H5]; · iexact H5
    iexact H6
  iintro ⟨⟨HA, H1, H2, H4, ⟨%d8, H8⟩, HO⟩, HF, H3, H5, H6⟩
  iapply (wp_loadO c 𝒱 a8 fullShare d8 (Rect.unit (s := S512x1024) ![0, 0] S512x1024.size inb_S512x1024_S512x1024_0_0) (ldX d8) rfl) $$ H8
  iintro H8
  iapply (wp_storeO c 𝒱 a8 _ ![0, 0] (by decide) inb_S512x1024_S512x1024_0_0) $$ [H8]
  · iexists d8; iexact H8
  iintro H8
  iapply (Entails.of_eq (wp_ret (M := 𝕄) frame (wpE defs₀ 𝒱 (c : Thread nD τ) none) Set.univ _ _).symm)
  imodintro
  isplitl [HA HF]
  · iapply (hold_next c D Y t.val htl)
    isplitl [HA]; · iexact HA
    iapply (full_idle c (t.val % 2) (D t.val) Y) $$ HF
  isplitl [H1]; · iexact H1
  isplitl [H2]; · iexact H2
  isplitl [H3]; · iexact H3
  isplitl [H4]; · iexact H4
  isplitl [H5]; · iexact H5
  isplitl [H6]; · iexact H6
  isplitl [H8]; · iexact H8
  iexact HO

end Parts

end Cert.KernelIdeal.Own

end
-- ==== Proof.Data.lean ====
/-
  The proof data of the kernel's pipeline: the tables, what every staging buffer holds after the body, and what is
  carried from a point to the next.
-/
module

public import proofs.«01_k».proof.Proof.Run
public import proofs.«01_k».proof.Proof.Gen.KernelIdeal.Frame
public import Idealize.ShloMosaic.Lib.Pipeline.ValueKit

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The index maps of the two windows on the destinations -/

theorem index0 : ∀ t : Fin grid0.N, win0_0.index t = ![t.val / 16, 0, t.val % 16] := by
  decide +kernel

theorem index1 : ∀ t : Fin grid0.N, t.val + 1 < 128 →
    win0_1.index t = ![(t.val + 1) / 16, 0, (t.val + 1) % 16] := by
  decide +kernel

variable (m : (ℓ : Loc nD τ sig) → Buf (Elt F) ℓ) (ρ : Dev nD → PrngReg)

/-- The block of destinations of point `n`. -/
def tab (c : Dev nD) (n : ℕ) : S1x8x512.Idx → BitVec 32 := fun y =>
  (m ((c : Thread nD τ).loc main_arg0) :) (ValueIdx.ix3 (⟨n / 16 % 8, Nat.mod_lt _ (by decide)⟩ : Fin 8) (y 1)
    (⟨512 * (n % 16) + (y 2).val, by have h : (y 2).val < 512 := (y 2).isLt; omega⟩ : Fin 8192))

theorem iblk_0 (c : Dev nD) (t : Fin cfg0.N) : iblk m c 0 t = tab m c t.val := by
  have ht : t.val < 128 := t.isLt
  funext y
  unfold tab
  blk_ext [iblk, V_main_arg0, index0 t]

theorem iblk_1 (c : Dev nD) (t : Fin cfg0.N) (h : t.val + 1 < 128) : iblk m c 1 t = tab m c (t.val + 1) := by
  funext y
  unfold tab
  blk_ext [iblk, V_main_arg0, index1 t h]

/-- The experts' rows. -/
abbrev rows (c : Dev nD) : YBuf (F := F) c := m ((c : Thread nD τ).loc main_arg5)

/-- What the body leaves in the result's block. -/
def outAt (c : Dev nD) (t : Fin cfg0.N) : S512x1024.Idx → F .f32 :=
  outV (iblk m c 2 t) (iblk m c 3 t) (iblk m c 4 t) (iblk m c 5 t) (tab m c t.val) (rows m c)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ n := iprop(hold c (tab m c) (rows m c) n.val ∗ (∃ r, prngReg c r))
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

end Cert.KernelIdeal.Own

end
-- ==== Proof.Frame.lean ====
/-
  The kernel's run: what the launch hands over is the carried state of the first point, what the last point leaves is what
  the launch takes back, and every point carries it on.
-/
module

public import proofs.«01_k».proof.Proof.Data

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Entering and leaving -/

/-- The body's own two counters. -/
abbrev osem : Fin 2 → SemLoc sig := fun j => (![SemLoc.dma 13, SemLoc.dma 14] : Fin 2 → SemLoc sig) j

theorem ownSemFacts : Pipeline.OwnSemFacts spec0 osem := by decide

/-- The operand the body reads by its own copies. -/
abbrev H : Finset (Ref sig .tc) := {main_arg5}

theorem H_sub : H ⊆ Pipeline.restRefs sig spec0 := by decide

theorem own_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (semK 0)) 0 ∗ semVal ((c : Thread nD τ), SemLoc.dma (semK 1)) 0) :=
  Pipeline.ownSems0_eq_of_list c osem [0, 1] (by decide) (by decide)

variable (m : (ℓ : Loc nD τ sig) → Buf (Elt F) ℓ) (ρ : Dev nD → PrngReg)

theorem hbm_eq (c : Dev nD) :
    (bigSep H (fun b => (((c.tc : Thread nD τ).loc b) ↦{fullShare} V m c b : sProp 𝕄)))
      = (ysM.view.loc (c : Thread nD τ) ↦{fullShare} rows m c) := by
  rw [BI.bigSep_eq_bigSepL_of_eq [main_arg5] (by decide) (by decide)]
  exact congrArg (fun f => (ysM.view.loc (c : Thread nD τ) ↦{fullShare} f : sProp 𝕄)) (V_main_arg5 m c)

theorem enter (c : Dev nD) :
    Pipeline.ΦD osem spec0 H (fun c b => V m c b) c
      ⊢ (iprop((idle c 0 (rows m c) ∗ idle c 1 (rows m c)) ∗ (∃ r, prngReg c r)) : sProp 𝕄) := by
  rw [Pipeline.ΦD_eq, scopedRest0_eq, own_eq, hbm_eq]
  unfold idle
  iintro ⟨⟨%f, HS⟩, Hg, ⟨Hq0, Hq1⟩, HY⟩
  ihave HS := (pointsTo_split_subset (Finset.subset_univ (slot 0))).1 $$ HS
  icases HS with ⟨HS0, HS1⟩
  rw [slot_compl 0 (by decide)]
  ihave HY := (pointsTo_share (PosShare.mem_left_op_right _)).1 $$ HY
  icases HY with ⟨HY0, HY1⟩
  isplitr [Hg]
  · isplitl [Hq0 HS0 HY0]
    · isplitl [Hq0]; · iexact Hq0
      isplitl [HS0]; · iexists _; iexact HS0
      iexact HY0
    isplitl [Hq1]; · iexact Hq1
    isplitl [HS1]; · iexists _; iexact HS1
    iexact HY1
  iexact Hg

theorem leave (c : Dev nD) :
    (iprop((idle c 0 (rows m c) ∗ idle c 1 (rows m c)) ∗ (∃ r, prngReg c r)) : sProp 𝕄)
      ⊢ Pipeline.ΦD osem spec0 H (fun c b => V m c b) c := by
  rw [Pipeline.ΦD_eq, scopedRest0_eq, own_eq, hbm_eq]
  unfold idle
  iintro ⟨⟨⟨Hq0, ⟨%f0, HS0⟩, HY0⟩, ⟨Hq1, ⟨%f1, HS1⟩, HY1⟩⟩, Hg⟩
  isplitl [HS0 HS1]
  · iexists _
    iapply (pointsTo_join_subset (Finset.subset_univ (slot 0)))
    rw [slot_compl 0 (by decide)]
    isplitl [HS0]; · iexact HS0
    iexact HS1
  isplitl [Hg]; · iexact Hg
  isplitl [Hq0 Hq1]
  · isplitl [Hq0]; · iexact Hq0
    iexact Hq1
  iapply (pointsTo_share (PosShare.mem_left_op_right _)).2
  isplitl [HY0]; · iexact HY0
  iexact HY1

/-! ## The body at a point -/

/-- Every destination of a token names a row. -/
def Named : Prop := ∀ (c : Dev nD) (y : S8x8x8192.Idx), (y 1).val < 4 →
  ((m ((c : Thread nD τ).loc main_arg0) :) y : BitVec 32).toNat < 2129920

abbrev ms (w : Fin cfg0.W) (t : Fin cfg0.N) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms 0 t) fullShare ((dats m 0 c).after 0 t)
    ∗ owns (c : Thread nD τ) (ms 1 t) fullShare ((dats m 0 c).after 1 t)
    ∗ owns (c : Thread nD τ) (ms 2 t) fullShare ((dats m 0 c).after 2 t)
    ∗ owns (c : Thread nD τ) (ms 3 t) fullShare ((dats m 0 c).after 3 t)
    ∗ owns (c : Thread nD τ) (ms 4 t) fullShare ((dats m 0 c).after 4 t)
    ∗ owns (c : Thread nD τ) (ms 5 t) fullShare ((dats m 0 c).after 5 t)
    ∗ owns (c : Thread nD τ) (ms 6 t) fullShare ((dats m 0 c).after 6 t))

theorem sound_body (hm : Named m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6]
  rw [show (dats m 0 c).Φ t.castSucc = iprop(hold c (tab m c) (rows m c) t.val ∗ (∃ r, prngReg c r)) from rfl,
    show (dats m 0 c).Φ t.succ = iprop(hold c (tab m c) (rows m c) (t.val + 1) ∗ (∃ r, prngReg c r)) from rfl]
  unfold Dat.owesAt Pipeline.owesWithin
  rw [show (dats m 0 c).owed t.castSucc = 0 from rfl, show (dats m 0 c).owed t.succ = 0 from rfl]
  rw [iblk_0]
  unfold outAt
  iintro ⟨⟨HH, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (wp_wand frame (wpE defs₀ Variants.none (c : Thread nD τ) none) Set.univ) $$ [HH HW H0 H1 H2 H3 H4 H5 H6]
  · iapply (run_body c Variants.none (tab m c) (rows m c) (ms 0 t) (hstage0_0 _) (ms 1 t) (hstage0_1 _) (ms 2 t) (hstage0_2 _)
      (ms 3 t) (hstage0_3 _) (ms 4 t) (hstage0_4 _) (ms 5 t) (hstage0_5 _) (Memref.isWhole_whole _) (ms 6 t) (hstage0_6 _)
      (Memref.isWhole_whole _) (iblk m c 2 t) (iblk m c 3 t) (iblk m c 4 t) (iblk m c 5 t) t ?_ (iblk m c 1 t) (iblk_1 m c t))
    rotate_left
    · isplitl [HH]; · iexact HH
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists W; iexact HW
    · intro n hn k hk
      exact hm c _ (show k % 4 < 4 by omega)
  iintro %_ ⟨HH, H0, H1, H2, H3, H4, H5, H6, ⟨%W', HW'⟩⟩
  isplitl [HH Hg]
  · isplitl [HH]; · iexact HH
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (hm : Named m) (c : Dev nD) :
    BodyObligation (dats (F := F) m 0 c) (defs₀ (F := F)) Variants.none () Set.univ := fun t => by
  rw [bigSep_W0, bigSep_W0, defs₀_row]
  exact triple_restated (sound_body m hm c t) rfl .rfl fun _ => .rfl

/-! ## The run -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem tail_sub : ∀ ops ∈ ([hostOps1] : List (List (HloOp τ sig (Elt F)))), ∀ op ∈ ops,
    op.bufs ⊆ Pipeline.tailRefsBut sig Pipeline.Prefetch.none spec0 H := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  rw [Finset.mem_singleton] at hb
  subst hb
  rw [StableHlo.reshape_bufs, Finset.mem_insert, Finset.mem_singleton, not_or]
  exact ⟨StableHlo.devRef_ne_of_ne (by decide), StableHlo.devRef_ne_of_ne (by decide)⟩

set_option backward.isDefEq.respectTransparency.types false in
theorem run_main (hm : Named m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem defs₀ Variants.none ownSemFacts H H_sub m ρ main
    (hbody := fun c => (body_obligation m hm c).loose) (hq := fun _ _ _ => rfl)
    (howed := fun _ _ => rfl) (V₀ := V0 m) (opss := [hostOps1]) (hsub := tail_sub) (hfresh := sfx_fresh) (hkeep := sfx_keeps)
    (hmain := hmain m Variants.none) (hA := A_eq m)
    (hin := fun c => enter m c) (hout := fun c => leave m c)

end Cert.KernelIdeal.Own

end
-- ==== Proof.Final.lean ====
/-
  The kernel's run read at its arrays: the result's blocks tile it, and every argument ends as it was.
-/
module

public import proofs.«01_k».proof.Proof.Frame

@[expose] public section

noncomputable section

namespace Cert.KernelIdeal.Own

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-- The result's rows, the batches one after the other: row `i` is in the block of point `i / 512`. -/
def allRows (c : Dev nD) : S65536x1024.Idx → F .f32 := fun i =>
  outAt m c (⟨(i 0).val / 512, by have h : (i 0).val < 65536 := (i 0).isLt; have e : cfg0.N = 128 := rfl; omega⟩ : Fin cfg0.N)
    (ValueIdx.ix2 (⟨(i 0).val % 512, Nat.mod_lt _ (by decide)⟩ : Fin 512) (i 1))

/-- The result. -/
def result (c : Dev nD) : S8x8192x1024.Idx → F .f32 :=
  shapeCast S8x8192x1024 (allRows m c) shapeCasts_S65536x1024_S8x8192x1024

theorem index6 : ∀ t : Fin grid0.N, win0_6.index t = ![t.val, 0] := by decide +kernel

theorem allRows_eq (c : Dev nD) : (dats m 0 c).arrAt 6 cfg0.N = allRows m c := by
  refine (dats m 0 c).arrAt_eq_of_covers 6 _ (by decide +kernel) fun t hf y => ?_
  have ht : t.val < 128 := t.isLt
  blk_simp
  rw [after_6]
  have e : ∀ (t' : Fin cfg0.N) (z z' : S512x1024.Idx), t' = t → z = z' → outAt m c t z' = outAt m c t' z := by
    rintro _ _ _ rfl rfl; rfl
  have hy : (y 0).val < 512 := (y 0).isLt
  refine e _ _ _ (Fin.ext ?_) (funext fun a => Fin.ext ?_)
  · blk_simp [index6 t]
    show (t.val * 512 + (y 0).val) / 512 = t.val
    omega
  · match a with
    | ⟨0, _⟩ =>
      blk_simp [index6 t]
      show (t.val * 512 + (y 0).val) % 512 = (y 0).val
      omega
    | ⟨1, _⟩ =>
      show ((win0_6.blk t).view.emb y 1).val = (y 1).val
      blk_simp [index6 t]

theorem A_shared (c : Dev nD) (w w' : Fin 7) (h : w ≠ w') (e : Pipeline.arrRef spec0 w = Pipeline.arrRef spec0 w') :
    (dats m 0 c).arrAt w cfg0.N = V0 m c (Proc.devRef .tc (Pipeline.arrRef spec0 w)) :=
  (dats m 0 c).arrAt_sharedIn sharedIn0 (V0 m c) (A_eq m c) cfg0.N w w' h e

theorem result_eq (c : Dev nD) :
    Pipeline.afterTail₀ cfgs (dats m) 0 (V0 m) [hostOps1] c main_v4 = result m c := by
  unfold Pipeline.afterTail₀
  rw [show ([hostOps1] : List (List (HloOp τ sig (Elt F)))).flatten = hostOps1 from by simp]
  unfold hostOps1
  after_results
  unfold result
  rw [← allRows_eq m c, ← Pipeline.withArrays_arr_shared spec0 c (V0 m c) (fun w => (dats m 0 c).arrAt w cfg0.N) (A_shared m c) 6]
  rfl

theorem tail_1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem tail_2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem tail_4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem tail_5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The kernel runs, its result is `result`, its arguments end as they were, every counter at zero. -/
theorem run_final (hm : Named m) : θ_run defs (onTc (τ := τ) (main (F := F))) ⟨m, fun _ => 0, ρ⟩ (fun r =>
    (∀ c : Dev nD, r.2.mem ((c.tc : Thread nD τ).loc main_v4) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_v4 (Pipeline.mem_restRefs_of main_v4 (by decide) (by decide))).trans (result_eq m c),
      ((h.1 c).1 1).trans (((dats m 0 c).arrAt_in 1 rfl _).trans ((A_eq m c 1).trans (V_main_arg0 m c))),
      (((h.1 c).2 main_arg1 (Pipeline.mem_restRefs_of main_arg1 (by decide) (by decide))).trans (tail_1 m c)),
      (((h.1 c).2 main_arg2 (Pipeline.mem_restRefs_of main_arg2 (by decide) (by decide))).trans (tail_2 m c)),
      ((h.1 c).1 4).trans (((dats m 0 c).arrAt_in 4 rfl _).trans ((A_eq m c 4).trans (V_main_arg3 m c))),
      (((h.1 c).2 main_arg4 (Pipeline.mem_restRefs_of main_arg4 (by decide) (by decide))).trans (tail_4 m c)),
      (((h.1 c).2 main_arg5 (Pipeline.mem_restRefs_of main_arg5 (by decide) (by decide))).trans (tail_5 m c))⟩, h.2⟩)
    (run_main m ρ hm)

end Cert.KernelIdeal.Own

end
-- ==== Proof.Ref.lean ====
/-
  The reference: its side conditions, its run, and its result as a function of the argument arrays.
-/
module

public import proofs.«01_k».proof.ReferenceIdeal
public import proofs.«01_k».proof.Pre_dest_names_rows
public import Idealize.ShloMosaic.Lib.StableHlo.Run
public import Idealize.ShloMosaic.Adequacy
public import Idealize.ShloMosaic.Init

@[expose] public section

noncomputable section

theorem Cert.Pre_dest_names_rows.facts : Cert.Pre_dest_names_rows.Facts where
  slices_S8x8x8192_S8x4x8192_0_0_0 := by decide
  bcast_S_S8x4x8192 := by decide

namespace Cert.ReferenceIdeal.Own

open Cert.ReferenceIdeal Cert.ReferenceIdeal.Facts₀ Cert.ReferenceIdeal.Facts
open Idealize.ShloMosaic Idealize.ShloMosaic.TcCoe Idealize.ShloMosaic.StableHlo Idealize.SL.Sem

instance facts₀ : Facts₀ where
  shapeCasts_S2129920x8x128_S2129920x1024 := by decide
  slices_S8x8x8192_S8x4x8192_0_0_0 := by decide
  transposes_S8x4x8192_S8x8192x4_0_2_1 := by decide
  bcast_S_S8x8192x4 := by decide
  bcast_S8x8192x4_S8x8192x4x1_0_1_2 := by decide
  slices_S8x8192x128_S8x8192x4_0_0_0 := by decide
  bcast_S8x8192x4x1_S8x8192x4x1024_0_1_2_3 := by decide
  reducesTo_S8x8192x4x1024_S8x8192x1024_d2 := by decide
  h_S_ := by decide
  slices_S8x6x1024_S8x1x1024_0_5_0 := by decide
  shapeCasts_S8x1x1024_S8x1024 := by decide
  bcast_S8x1024_S8x1x1024_0_2 := by decide
  reducesTo_S8x8192x1024_S8x8192_d2 := by decide
  bcast_S8x8192_S8x8192x1_0_1 := by decide
  bcast_S_S8x8192x1 := by decide
  bcast_S8x8192x1_S8x8192x1024_0_1_2 := by decide
  bcast_S1024_S1x1x1024_2 := by decide
  bcast_S1x1x1024_S8x8192x1024_0_1_2 := by decide
  bcast_S8x1x1024_S8x8192x1024_0_1_2 := by decide
  gather_S2129920x1024_S8x8192x4x1_S8x8192x4x1024_3_0_n_n_0_3_11024_wf := by decide

instance facts : Facts where

variable {F : FTy → Type} [FloatOps F]

/-- The lines of the function, in order. -/
abbrev ops : List (HloOp τ sig (Elt F)) :=
  [ reshape main_arg5 main_v0 (rfl : (.f32 : EltTy) = .f32) shapeCasts_S2129920x8x128_S2129920x1024,
    unary main_arg0 main_v1 ((extractStridedSlice S8x4x8192 ![0, 0, 0] · slices_S8x8x8192_S8x4x8192_0_0_0) : (⟨S8x8x8192, .i32⟩ : BufTy).Contents (Elt F) → (⟨S8x4x8192, .i32⟩ : BufTy).Contents (Elt F)),
    unary main_v1 main_v2 ((transpose S8x8192x4 [0, 2, 1] · transposes_S8x4x8192_S8x8192x4_0_2_1) : (⟨S8x4x8192, .i32⟩ : BufTy).Contents (Elt F) → (⟨S8x8192x4, .i32⟩ : BufTy).Contents (Elt F)),
    nullary main_c (constantI S_ 32 0#32),
    unary main_c main_v3 (broadcastInDim S8x8192x4 ![] bcast_S_S8x8192x4 : (⟨S_, .i32⟩ : BufTy).Contents (Elt F) → (⟨S8x8192x4, .i32⟩ : BufTy).Contents (Elt F)),
    binary main_v2 main_v3 main_v4 (cmpi .slt : (⟨S8x8192x4, .i32⟩ : BufTy).Contents (Elt F) → (⟨S8x8192x4, .i32⟩ : BufTy).Contents (Elt F) → (⟨S8x8192x4, .i1⟩ : BufTy).Contents (Elt F)),
    nullary main_c_0 (constantI S_ 32 2129920#32),
    unary main_c_0 main_v5 (broadcastInDim S8x8192x4 ![] bcast_S_S8x8192x4 : (⟨S_, .i32⟩ : BufTy).Contents (Elt F) → (⟨S8x8192x4, .i32⟩ : BufTy).Contents (Elt F)),
    binary main_v2 main_v5 main_v6 (addi : (⟨S8x8192x4, .i32⟩ : BufTy).Contents (Elt F) → (⟨S8x8192x4, .i32⟩ : BufTy).Contents (Elt F) → (⟨S8x8192x4, .i32⟩ : BufTy).Contents (Elt F)),
    ternary main_v4 main_v6 main_v2 main_v7 (select : (⟨S8x8192x4, .i1⟩ : BufTy).Contents (Elt F) → (⟨S8x8192x4, .i32⟩ : BufTy).Contents (Elt F) → (⟨S8x8192x4, .i32⟩ : BufTy).Contents (Elt F) → (⟨S8x8192x4, .i32⟩ : BufTy).Contents (Elt F)),
    unary main_v7 main_v8 (broadcastInDim S8x8192x4x1 ![0, 1, 2] bcast_S8x8192x4_S8x8192x4x1_0_1_2 : (⟨S8x8192x4, .i32⟩ : BufTy).Contents (Elt F) → (⟨S8x8192x4x1, .i32⟩ : BufTy).Contents (Elt F)),
    binary main_v0 main_v8 main_v9 ((fun x i => Host.gather gather_S2129920x1024_S8x8192x4x1_S8x8192x4x1024_3_0_n_n_0_3_11024 x i) : (⟨S2129920x1024, .f32⟩ : BufTy).Contents (Elt F) → (⟨S8x8192x4x1, .i32⟩ : BufTy).Contents (Elt F) → (⟨S8x8192x4x1024, .f32⟩ : BufTy).Contents (Elt F)),
    unary main_arg2 main_v10 ((extractStridedSlice S8x8192x4 ![0, 0, 0] · slices_S8x8192x128_S8x8192x4_0_0_0) : (⟨S8x8192x128, .f32⟩ : BufTy).Contents (Elt F) → (⟨S8x8192x4, .f32⟩ : BufTy).Contents (Elt F)),
    unary main_v10 main_v11 (broadcastInDim S8x8192x4x1 ![0, 1, 2] bcast_S8x8192x4_S8x8192x4x1_0_1_2 : (⟨S8x8192x4, .f32⟩ : BufTy).Contents (Elt F) → (⟨S8x8192x4x1, .f32⟩ : BufTy).Contents (Elt F)),
    unary main_v11 main_v12 (broadcastInDim S8x8192x4x1024 ![0, 1, 2, 3] bcast_S8x8192x4x1_S8x8192x4x1024_0_1_2_3 : (⟨S8x8192x4x1, .f32⟩ : BufTy).Contents (Elt F) → (⟨S8x8192x4x1024, .f32⟩ : BufTy).Contents (Elt F)),
    binary main_v12 main_v9 main_v13 (mulf : (⟨S8x8192x4x1024, .f32⟩ : BufTy).Contents (Elt F) → (⟨S8x8192x4x1024, .f32⟩ : BufTy).Contents (Elt F) → (⟨S8x8192x4x1024, .f32⟩ : BufTy).Contents (Elt F)),
    nullary main_cst (constant S_ .f32 0x00000000#32),
    binary main_v13 main_cst main_v14 ((fun x v => Host.reduceAdd x v reducesTo_S8x8192x4x1024_S8x8192x1024_d2 h_S_) : (⟨S8x8192x4x1024, .f32⟩ : BufTy).Contents (Elt F) → (⟨S_, .f32⟩ : BufTy).Contents (Elt F) → (⟨S8x8192x1024, .f32⟩ : BufTy).Contents (Elt F)),
    unary main_arg3 main_v15 ((extractStridedSlice S8x1x1024 ![0, 5, 0] · slices_S8x6x1024_S8x1x1024_0_5_0) : (⟨S8x6x1024, .f32⟩ : BufTy).Contents (Elt F) → (⟨S8x1x1024, .f32⟩ : BufTy).Contents (Elt F)),
    reshape main_v15 main_v16 (rfl : (.f32 : EltTy) = .f32) shapeCasts_S8x1x1024_S8x1024,
    unary main_v16 main_v17 (broadcastInDim S8x1x1024 ![0, 2] bcast_S8x1024_S8x1x1024_0_2 : (⟨S8x1024, .f32⟩ : BufTy).Contents (Elt F) → (⟨S8x1x1024, .f32⟩ : BufTy).Contents (Elt F)),
    binary main_v14 main_v14 main_v18 (mulf : (⟨S8x8192x1024, .f32⟩ : BufTy).Contents (Elt F) → (⟨S8x8192x1024, .f32⟩ : BufTy).Contents (Elt F) → (⟨S8x8192x1024, .f32⟩ : BufTy).Contents (Elt F)),
    nullary main_cst_1 (constant S_ .f32 0x00000000#32),
    binary main_v18 main_cst_1 main_v19 ((fun x v => Host.reduceAdd x v reducesTo_S8x8192x1024_S8x8192_d2 h_S_) : (⟨S8x8192x1024, .f32⟩ : BufTy).Contents (Elt F) → (⟨S_, .f32⟩ : BufTy).Contents (Elt F) → (⟨S8x8192, .f32⟩ : BufTy).Contents (Elt F)),
    unary main_v19 main_v20 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_2 (constant S_ .f32 0x44800000#32),
    unary main_cst_2 main_v21 (broadcastInDim S8x8192x1 ![] bcast_S_S8x8192x1 : (⟨S_, .f32⟩ : BufTy).Contents (Elt F) → (⟨S8x8192x1, .f32⟩ : BufTy).Contents (Elt F)),
    binary main_v20 main_v21 main_v22 (Host.divf : (⟨S8x8192x1, .f32⟩ : BufTy).Contents (Elt F) → (⟨S8x8192x1, .f32⟩ : BufTy).Contents (Elt F) → (⟨S8x8192x1, .f32⟩ : BufTy).Contents (Elt F)),
    nullary main_cst_3 (constant S_ .f32 0x358637BD#32),
    unary main_cst_3 main_v23 (broadcastInDim S8x8192x1 ![] bcast_S_S8x8192x1 : (⟨S_, .f32⟩ : BufTy).Contents (Elt F) → (⟨S8x8192x1, .f32⟩ : BufTy).Contents (Elt F)),
    binary main_v22 main_v23 main_v24 (addf : (⟨S8x8192x1, .f32⟩ : BufTy).Contents (Elt F) → (⟨S8x8192x1, .f32⟩ : BufTy).Contents (Elt F) → (⟨S8x8192x1, .f32⟩ : BufTy).Contents (Elt F)),
    unary main_v24 main_v25 (Host.rsqrt : (⟨S8x8192x1, .f32⟩ : BufTy).Contents (Elt F) → (⟨S8x8192x1, .f32⟩ : BufTy).Contents (Elt F)),
    unary main_v25 main_v26 (broadcastInDim S8x8192x1024 ![0, 1, 2] bcast_S8x8192x1_S8x8192x1024_0_1_2 : (⟨S8x8192x1, .f32⟩ : BufTy).Contents (Elt F) → (⟨S8x8192x1024, .f32⟩ : BufTy).Contents (Elt F)),
    binary main_v14 main_v26 main_v27 (mulf : (⟨S8x8192x1024, .f32⟩ : BufTy).Contents (Elt F) → (⟨S8x8192x1024, .f32⟩ : BufTy).Contents (Elt F) → (⟨S8x8192x1024, .f32⟩ : BufTy).Contents (Elt F)),
    unary main_arg4 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S8x8192x1024 ![0, 1, 2] bcast_S1x1x1024_S8x8192x1024_0_1_2 : (⟨S1x1x1024, .f32⟩ : BufTy).Contents (Elt F) → (⟨S8x8192x1024, .f32⟩ : BufTy).Contents (Elt F)),
    binary main_v27 main_v29 main_v30 (mulf : (⟨S8x8192x1024, .f32⟩ : BufTy).Contents (Elt F) → (⟨S8x8192x1024, .f32⟩ : BufTy).Contents (Elt F) → (⟨S8x8192x1024, .f32⟩ : BufTy).Contents (Elt F)),
    unary main_v17 main_v31 (broadcastInDim S8x8192x1024 ![0, 1, 2] bcast_S8x1x1024_S8x8192x1024_0_1_2 : (⟨S8x1x1024, .f32⟩ : BufTy).Contents (Elt F) → (⟨S8x8192x1024, .f32⟩ : BufTy).Contents (Elt F)),
    binary main_v31 main_v30 main_v32 (mulf : (⟨S8x8192x1024, .f32⟩ : BufTy).Contents (Elt F) → (⟨S8x8192x1024, .f32⟩ : BufTy).Contents (Elt F) → (⟨S8x8192x1024, .f32⟩ : BufTy).Contents (Elt F)),
    binary main_arg1 main_v32 main_v33 (addf : (⟨S8x8192x1024, .f32⟩ : BufTy).Contents (Elt F) → (⟨S8x8192x1024, .f32⟩ : BufTy).Contents (Elt F) → (⟨S8x8192x1024, .f32⟩ : BufTy).Contents (Elt F)) ]

theorem main_eq (c : Dev nD) : main (F := F) c = seq ops := rfl

section Values

variable (dest : IVec S8x8x8192 32) (x1 : FVec F S8x8192x1024 .f32) (rg : FVec F S8x8192x128 .f32) (md : FVec F S8x6x1024 .f32)
  (g : FVec F S1024 .f32) (ys : FVec F S2129920x8x128 .f32)

/-- The row every choice of a token names. -/
def picked : IVec S8x8192x4 32 :=
  let v1 := extractStridedSlice S8x4x8192 ![0, 0, 0] dest slices_S8x8x8192_S8x4x8192_0_0_0
  let v2 := transpose S8x8192x4 [0, 2, 1] v1 transposes_S8x4x8192_S8x8192x4_0_2_1
  let c := (constantI S_ 32 0#32)
  let v3 := broadcastInDim S8x8192x4 ![] bcast_S_S8x8192x4 c
  let v4 := cmpi .slt v2 v3
  let c_0 := (constantI S_ 32 2129920#32)
  let v5 := broadcastInDim S8x8192x4 ![] bcast_S_S8x8192x4 c_0
  let v6 := addi v2 v5
  let v7 := select v4 v6 v2
  v7
/-- The gated sum of every token. -/
def summed : FVec F S8x8192x1024 .f32 :=
  let v0 := shapeCast S2129920x1024 ys shapeCasts_S2129920x8x128_S2129920x1024
  let v8 := broadcastInDim S8x8192x4x1 ![0, 1, 2] bcast_S8x8192x4_S8x8192x4x1_0_1_2 (picked dest)
  let v9 := Host.gather gather_S2129920x1024_S8x8192x4x1_S8x8192x4x1024_3_0_n_n_0_3_11024 v0 v8
  let v10 := extractStridedSlice S8x8192x4 ![0, 0, 0] rg slices_S8x8192x128_S8x8192x4_0_0_0
  let v11 := broadcastInDim S8x8192x4x1 ![0, 1, 2] bcast_S8x8192x4_S8x8192x4x1_0_1_2 v10
  let v12 := broadcastInDim S8x8192x4x1024 ![0, 1, 2, 3] bcast_S8x8192x4x1_S8x8192x4x1024_0_1_2_3 v11
  let v13 := mulf v12 v9
  let cst := (constant S_ .f32 0x00000000#32)
  let v14 := Host.reduceAdd v13 cst reducesTo_S8x8192x4x1024_S8x8192x1024_d2 h_S_
  v14
/-- The result. -/
def out : FVec F S8x8192x1024 .f32 :=
  let v15 := extractStridedSlice S8x1x1024 ![0, 5, 0] md slices_S8x6x1024_S8x1x1024_0_5_0
  let v16 := shapeCast S8x1024 v15 shapeCasts_S8x1x1024_S8x1024
  let v17 := broadcastInDim S8x1x1024 ![0, 2] bcast_S8x1024_S8x1x1024_0_2 v16
  let v18 := mulf (summed dest rg ys) (summed dest rg ys)
  let cst_1 := (constant S_ .f32 0x00000000#32)
  let v19 := Host.reduceAdd v18 cst_1 reducesTo_S8x8192x1024_S8x8192_d2 h_S_
  let v20 := broadcastInDim S8x8192x1 ![0, 1] bcast_S8x8192_S8x8192x1_0_1 v19
  let cst_2 := (constant S_ .f32 0x44800000#32)
  let v21 := broadcastInDim S8x8192x1 ![] bcast_S_S8x8192x1 cst_2
  let v22 := Host.divf v20 v21
  let cst_3 := (constant S_ .f32 0x358637BD#32)
  let v23 := broadcastInDim S8x8192x1 ![] bcast_S_S8x8192x1 cst_3
  let v24 := addf v22 v23
  let v25 := Host.rsqrt v24
  let v26 := broadcastInDim S8x8192x1024 ![0, 1, 2] bcast_S8x8192x1_S8x8192x1024_0_1_2 v25
  let v27 := mulf (summed dest rg ys) v26
  let v28 := broadcastInDim S1x1x1024 ![2] bcast_S1024_S1x1x1024_2 g
  let v29 := broadcastInDim S8x8192x1024 ![0, 1, 2] bcast_S1x1x1024_S8x8192x1024_0_1_2 v28
  let v30 := mulf v27 v29
  let v31 := broadcastInDim S8x8192x1024 ![0, 1, 2] bcast_S8x1x1024_S8x8192x1024_0_1_2 v17
  let v32 := mulf v31 v30
  let v33 := addf x1 v32
  v33

end Values

theorem out_eq (V : Valuation τ sig (Elt F)) :
    after ops V (main_v33 : DevRef τ sig) = out (F := F) (V (main_arg0 : DevRef τ sig)) (V (main_arg1 : DevRef τ sig)) (V (main_arg2 : DevRef τ sig))
      (V (main_arg3 : DevRef τ sig)) (V (main_arg4 : DevRef τ sig)) (V (main_arg5 : DevRef τ sig)) := by
  after_results
  rfl

theorem arg0_eq (V : Valuation τ sig (Elt F)) :
    after ops V (main_arg0 : DevRef τ sig) = V (main_arg0 : DevRef τ sig) := by
  after_results
theorem arg1_eq (V : Valuation τ sig (Elt F)) :
    after ops V (main_arg1 : DevRef τ sig) = V (main_arg1 : DevRef τ sig) := by
  after_results
theorem arg2_eq (V : Valuation τ sig (Elt F)) :
    after ops V (main_arg2 : DevRef τ sig) = V (main_arg2 : DevRef τ sig) := by
  after_results
theorem arg3_eq (V : Valuation τ sig (Elt F)) :
    after ops V (main_arg3 : DevRef τ sig) = V (main_arg3 : DevRef τ sig) := by
  after_results
theorem arg4_eq (V : Valuation τ sig (Elt F)) :
    after ops V (main_arg4 : DevRef τ sig) = V (main_arg4 : DevRef τ sig) := by
  after_results
theorem arg5_eq (V : Valuation τ sig (Elt F)) :
    after ops V (main_arg5 : DevRef τ sig) = V (main_arg5 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., unary_bufs_sub .., reshape_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- The reference runs, its result is `out` of its arguments, and these end as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v33) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c => ⟨(h c main_v33).trans (out_eq _), (h c main_arg0).trans (arg0_eq _), (h c main_arg1).trans (arg1_eq _),
      (h c main_arg2).trans (arg2_eq _), (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.Own

end
-- ==== Proof.Match.lean ====
/-
  The kernel's result and the reference's at an index, over the extended reals.
-/
module

public import proofs.«01_k».proof.Proof.Final
public import proofs.«01_k».proof.Proof.Ref
public import Idealize.ShloMosaic.Lib.Pointwise

@[expose] public section

set_option maxRecDepth 16384

noncomputable section

namespace Cert.Match

open Idealize.ShloMosaic Idealize.ShloMosaic.TcCoe Idealize.ShloMosaic.Tactic
open Cert.KernelIdeal.Gen Cert.KernelIdeal.Own

/-- A token's row before the norm: its four gates times its four rows. -/
def mix (R : Fin 4 → EReal) (Y : Fin 4 → Fin 1024 → EReal) (l : Fin 1024) : EReal :=
  R 0 * Y 0 l + R 1 * Y 1 l + R 2 * Y 2 l + R 3 * Y 3 l

/-- A token's row of the result. -/
def norm (X : EReal) (M : EReal) (G : EReal) (y : Fin 1024 → EReal) (l : Fin 1024) : EReal :=
  X + M * (y l * Ideal.rsqrt (Ideal.div (∑ x, y x * y x) (Ideal.ofBits FTy.f32 1149239296#32) + Ideal.ofBits FTy.f32 897988541#32) * G)

/-- A lane of a row. -/
def lane (l : Fin 1024) : Fin 8 × Fin 128 := (⟨l.val / 128, by omega⟩, ⟨l.val % 128, by omega⟩)

/-- The row a word names. -/
def rowOf (w : BitVec 32) : Fin 2129920 := ⟨w.toNat % 2129920, Nat.mod_lt _ (by decide)⟩

section Kern

variable (X : Cert.KernelIdeal.S512x1024.Idx → Ideal .f32) (R : Cert.KernelIdeal.S512x128.Idx → Ideal .f32) (M : Cert.KernelIdeal.S1x6x1024.Idx → Ideal .f32)
    (G : Cert.KernelIdeal.S1x1024.Idx → Ideal .f32) (D : Cert.KernelIdeal.S1x8x512.Idx → BitVec 32) (Y : Cert.KernelIdeal.S2129920x8x128.Idx → Ideal .f32)

theorem ldX_eq : ldX X = X := by
  funext x; exact congrArg X (funext fun a => Fin.ext (by rw [ValueKit.rect_emb_unit_val]; fin_cases a <;> exact Nat.zero_add _))
theorem ldR_eq : ldR R = R := by
  funext x; exact congrArg R (funext fun a => Fin.ext (by rw [ValueKit.rect_emb_unit_val]; fin_cases a <;> exact Nat.zero_add _))
theorem ldG_eq : ldG G = G := by
  funext x; exact congrArg G (funext fun a => Fin.ext (by rw [ValueKit.rect_emb_unit_val]; fin_cases a <;> exact Nat.zero_add _))
theorem ldM_at (l : Fin 1024) : ldM M (ix3 0 0 l) = M (ix3 0 5 l) :=
  congrArg M (funext fun a => Fin.ext (by rw [ValueKit.rect_emb_unit_val]; fin_cases a; exacts [rfl, rfl, Nat.zero_add _]))

theorem kern (r : Fin 512) (l : Fin 1024) :
    outV (F := Ideal) X R M G D Y (ix2 r l)
      = norm (X (ix2 r l)) (M (ix3 0 5 l)) (G (ix2 0 l))
          (mix (fun k => R (ix2 r ⟨k.val, by omega⟩)) fun k x => Y (ix3 (rowOf (D (ix3 0 ⟨k.val, by omega⟩ r))) (lane x).1 (lane x).2)) l := by
  unfold outV
  rw [ldX_eq, ldR_eq, ldG_eq, ← ldM_at M l]
  generalize ldM M = M'
  pointwise [k0_pay1, k0_pay2, k0_pay3, k0_pay4, k0_pay5, k0_pay6, gatK]
  rfl

end Kern

section Reference

variable (dest : IVec Cert.ReferenceIdeal.S8x8x8192 32) (x1 : FVec Ideal Cert.ReferenceIdeal.S8x8192x1024 .f32) (rg : FVec Ideal Cert.ReferenceIdeal.S8x8192x128 .f32)
    (md : FVec Ideal Cert.ReferenceIdeal.S8x6x1024 .f32) (g : FVec Ideal Cert.ReferenceIdeal.S1024 .f32) (ys : FVec Ideal Cert.ReferenceIdeal.S2129920x8x128 .f32)
    (b : Fin 8) (s : Fin 8192)

theorem picked_at (k : Fin 4) (h : (dest (ix3 b ⟨k.val, by omega⟩ s)).toNat < 2129920) :
    Cert.ReferenceIdeal.Own.picked dest (ix3 b s k) = dest (ix3 b ⟨k.val, by omega⟩ s) := by
  unfold Cert.ReferenceIdeal.Own.picked
  pointwise
  generalize dest (ix3 b ⟨k.val, _⟩ s) = w at h ⊢
  have e : IntOp.cmpi .slt w 0#32 = 0#1 := by
    show BitVec.ofBool (w.slt 0#32) = 0#1
    rw [BitVec.slt_eq_decide, BitVec.toInt_eq_toNat_of_lt (by omega), BitVec.toInt_zero, decide_eq_false (by omega)]
    rfl
  rw [e]
  rfl

theorem gather_at (x : FVec Ideal Cert.ReferenceIdeal.S2129920x1024 .f32) (ix : IVec Cert.ReferenceIdeal.S8x8192x4x1 32) (k : Fin 4) (l : Fin 1024)
    (h : (ix (ix4 b s k 0)).toNat < 2129920) :
    Host.gather Cert.ReferenceIdeal.gather_S2129920x1024_S8x8192x4x1_S8x8192x4x1024_3_0_n_n_0_3_11024 x ix (ix4 b s k l)
      = x (ix2 (rowOf (ix (ix4 b s k 0))) l) := by
  unfold Host.gather
  congr 1
  funext a
  refine Fin.ext ?_
  show GatherDims.start _ _ ix a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S2129920x1024_S8x8192x4x1_S8x8192x4x1024_3_0_n_n_0_3_11024.startIndexMap from List.mem_singleton.mpr rfl)]
    rw [show Cert.ReferenceIdeal.gather_S2129920x1024_S8x8192x4x1_S8x8192x4x1024_3_0_n_n_0_3_11024.siIdx (ix4 b s k l) ⟨List.idxOf (0 : Fin 2) Cert.ReferenceIdeal.gather_S2129920x1024_S8x8192x4x1_S8x8192x4x1024_3_0_n_n_0_3_11024.startIndexMap,
        List.idxOf_lt_length_iff.2 (List.mem_singleton.mpr rfl)⟩ = ix4 b s k 0 from by
      funext e; refine Fin.ext ?_
      match e with
      | ⟨0, _⟩ => rfl
      | ⟨1, _⟩ => rfl
      | ⟨2, _⟩ => rfl
      | ⟨3, _⟩ => rfl]
    generalize ix (ix4 b s k 0) = w at h ⊢
    show min w.toInt.toNat (2129920 - 1) = w.toNat % 2129920
    rw [BitVec.toInt_eq_toNat_of_lt (by omega), Int.toNat_natCast, Nat.mod_eq_of_lt h]
    omega
  · unfold GatherDims.start
    rw [dif_neg (show (1 : Fin 2) ∉ Cert.ReferenceIdeal.gather_S2129920x1024_S8x8192x4x1_S8x8192x4x1024_3_0_n_n_0_3_11024.startIndexMap from by decide)]
    simp only [Nat.add_zero, Nat.zero_add]
    rfl

theorem summed_at (h : ∀ k : Fin 4, (dest (ix3 b ⟨k.val, by omega⟩ s)).toNat < 2129920) (l : Fin 1024) :
    Cert.ReferenceIdeal.Own.summed (F := Ideal) dest rg ys (ix3 b s l)
      = mix (fun k => rg (ix3 b s ⟨k.val, by omega⟩)) (fun k x => ys (ix3 (rowOf (dest (ix3 b ⟨k.val, by omega⟩ s))) (lane x).1 (lane x).2)) l := by
  have hg (k : Fin 4) : (broadcastInDim Cert.ReferenceIdeal.S8x8192x4x1 ![0, 1, 2] Cert.ReferenceIdeal.Facts₀.bcast_S8x8192x4_S8x8192x4x1_0_1_2 (Cert.ReferenceIdeal.Own.picked dest)) (ix4 b s k 0)
      = dest (ix3 b ⟨k.val, by omega⟩ s) := by
    pointwise
    exact picked_at dest b s k (h k)
  unfold Cert.ReferenceIdeal.Own.summed
  pointwise
  rw [Fin.sum_univ_four]
  rw [gather_at _ _ _ _ 0 _ (by rw [hg]; exact h _), gather_at _ _ _ _ 1 _ (by rw [hg]; exact h _), gather_at _ _ _ _ 2 _ (by rw [hg]; exact h _), gather_at _ _ _ _ 3 _ (by rw [hg]; exact h _),
    hg, hg, hg, hg]
  pointwise
  rfl

theorem out_at (h : ∀ k : Fin 4, (dest (ix3 b ⟨k.val, by omega⟩ s)).toNat < 2129920) (l : Fin 1024) :
    Cert.ReferenceIdeal.Own.out (F := Ideal) dest x1 rg md g ys (ix3 b s l)
      = norm (x1 (ix3 b s l)) (md (ix3 b 5 l)) (g (ix1 l))
          (mix (fun k => rg (ix3 b s ⟨k.val, by omega⟩)) (fun k x => ys (ix3 (rowOf (dest (ix3 b ⟨k.val, by omega⟩ s))) (lane x).1 (lane x).2))) l := by
  unfold Cert.ReferenceIdeal.Own.out
  pointwise
  simp only [summed_at dest rg ys b s h]
  rfl

end Reference

section Blocks

open Cert.KernelIdeal

variable {F : FTy → Type} [FloatOps F] (m : (ℓ : Loc nD τ sig) → Buf (Elt F) ℓ) (c : Dev nD)

theorem V_x1 : V m c main_v1 = shapeCast S65536x1024 (m ((c : Thread nD τ).loc main_arg1)) shapeCasts_S8x8192x1024_S65536x1024 := by
  change StableHlo.after hostOps0 (fun b => m (c, b)) _ = _
  unfold hostOps0
  after_results
  rfl
theorem V_rg : V m c main_v2 = shapeCast S65536x128 (m ((c : Thread nD τ).loc main_arg2)) shapeCasts_S8x8192x128_S65536x128 := by
  change StableHlo.after hostOps0 (fun b => m (c, b)) _ = _
  unfold hostOps0
  after_results
  rfl
theorem V_g : V m c main_v0 = shapeCast S1x1024 (m ((c : Thread nD τ).loc main_arg4)) shapeCasts_S1024_S1x1024 := by
  change StableHlo.after hostOps0 (fun b => m (c, b)) _ = _
  unfold hostOps0
  after_results
  rfl

theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val / 16, 0, 0] := by decide +kernel
theorem index5 : ∀ t : Fin grid0.N, win0_5.index t = ![0, 0] := by decide +kernel

theorem flat1024 {α : Type} (x : S8x8192x1024.Idx → α) (hc) (q : Fin 65536) (l : Fin 1024) (b : Fin 8) (s : Fin 8192) (h : q.val = b.val * 8192 + s.val) :
    shapeCast S65536x1024 x hc (ix2 q l) = x (ix3 b s l) := by
  pointwise
  exact congrArg x (congrArg₂ (fun u v => ix3 u v l) (Fin.ext (show q.val / 8192 = b.val by omega)) (Fin.ext (show q.val % 8192 = s.val by omega)))

theorem flat128 {α : Type} (x : S8x8192x128.Idx → α) (hc) (q : Fin 65536) (l : Fin 128) (b : Fin 8) (s : Fin 8192) (h : q.val = b.val * 8192 + s.val) :
    shapeCast S65536x128 x hc (ix2 q l) = x (ix3 b s l) := by
  pointwise
  exact congrArg x (congrArg₂ (fun u v => ix3 u v l) (Fin.ext (show q.val / 8192 = b.val by omega)) (Fin.ext (show q.val % 8192 = s.val by omega)))

variable (t : Fin cfg0.N) (b : Fin 8) (s : Fin 8192) (r : Fin 512) (h : b.val * 8192 + s.val = t.val * 512 + r.val)

include h in
theorem x1_at (l : Fin 1024) : (iblk m c 2 t : S512x1024.Idx → F .f32) (ix2 r l) = (m ((c : Thread nD τ).loc main_arg1) : S8x8192x1024.Idx → F .f32) (ix3 b s l) := by
  have ht : t.val < 128 := t.isLt
  have e : (iblk m c 2 t : S512x1024.Idx → F .f32) (ix2 r l) = V m c main_v1 (ix2 (⟨t.val * 512 + r.val, by omega⟩ : Fin 65536) l) := by
    blk_ext [iblk, index2 t]
  rw [e, V_x1]
  exact flat1024 _ _ _ l b s h.symm
include h in
theorem rg_at (l : Fin 128) : (iblk m c 3 t : S512x128.Idx → F .f32) (ix2 r l) = (m ((c : Thread nD τ).loc main_arg2) : S8x8192x128.Idx → F .f32) (ix3 b s l) := by
  have ht : t.val < 128 := t.isLt
  have e : (iblk m c 3 t : S512x128.Idx → F .f32) (ix2 r l) = V m c main_v2 (ix2 (⟨t.val * 512 + r.val, by omega⟩ : Fin 65536) l) := by
    blk_ext [iblk, index3 t]
  rw [e, V_rg]
  exact flat128 _ _ _ l b s h.symm
include h in
theorem md_at (l : Fin 1024) : (iblk m c 4 t : S1x6x1024.Idx → F .f32) (ix3 0 5 l) = (m ((c : Thread nD τ).loc main_arg3) : S8x6x1024.Idx → F .f32) (ix3 b 5 l) := by
  have ht : t.val < 128 := t.isLt
  blk_ext! [iblk, V_main_arg3, index4 t]
theorem g_at (l : Fin 1024) : (iblk m c 5 t : S1x1024.Idx → F .f32) (ix2 0 l) = (m ((c : Thread nD τ).loc main_arg4) : S1024.Idx → F .f32) (ix1 l) := by
  have ht : t.val < 128 := t.isLt
  have e : (iblk m c 5 t : S1x1024.Idx → F .f32) (ix2 0 l) = V m c main_v0 (ix2 0 l) := by
    blk_ext [iblk, index5 t]
  rw [e, V_g]
  pointwise
include h in
theorem tab_at (k : Fin 8) : tab m c t.val (ix3 0 k r) = (m ((c : Thread nD τ).loc main_arg0) : S8x8x8192.Idx → BitVec 32) (ix3 b k s) := by
  have ht : t.val < 128 := t.isLt
  unfold tab
  refine congrArg _ (congrArg₂ (fun x y => ix3 x k y) (Fin.ext (show t.val / 16 % 8 = b.val by omega)) (Fin.ext (show 512 * (t.val % 16) + r.val = s.val by omega)))

end Blocks

section Result

open Cert.KernelIdeal

variable (m : (ℓ : Loc nD τ sig) → Buf (Elt Ideal) ℓ)

/-- The kernel's result is the reference's of the same arrays. -/
theorem result_match (hm : Named m) (c : Dev nD) :
    result m c = Cert.ReferenceIdeal.Own.out (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨b, s, l, rfl⟩ : ∃ (b : Fin 8) (s : Fin 8192) (l : Fin 1024), i = ix3 b s l := ⟨i 0, i 1, i 2, eq_ix3 i⟩
  have hn (k : Fin 4) : ((m ((c : Thread nD τ).loc main_arg0) : S8x8x8192.Idx → BitVec 32) (ix3 b ⟨k.val, by omega⟩ s)).toNat < 2129920 := hm c _ k.isLt
  rw [out_at _ _ _ _ _ _ b s hn]
  have hq : (b.val * 8192 + s.val) / 512 < 128 := by omega
  have hr : (b.val * 8192 + s.val) % 512 < 512 := Nat.mod_lt _ (by decide)
  have e : result m c (ix3 b s l) = outAt m c (⟨(b.val * 8192 + s.val) / 512, hq⟩ : Fin cfg0.N) (ix2 (⟨(b.val * 8192 + s.val) % 512, hr⟩ : Fin 512) l) := by
    unfold result
    pointwise
    rfl
  have h : b.val * 8192 + s.val = (b.val * 8192 + s.val) / 512 * 512 + (b.val * 8192 + s.val) % 512 := by omega
  generalize hqq : (⟨(b.val * 8192 + s.val) / 512, hq⟩ : Fin cfg0.N) = t at e
  generalize hrr : (⟨(b.val * 8192 + s.val) % 512, hr⟩ : Fin 512) = r at e
  have h' : b.val * 8192 + s.val = t.val * 512 + r.val := by rw [← hqq, ← hrr]; exact h
  rw [e]
  unfold outAt
  rw [kern, x1_at m c t b s r h', md_at m c t b s r h', g_at m c t]
  simp only [rg_at m c t b s r h', tab_at m c t b s r h']

end Result

end Cert.Match

end
-- ==== Proof.Same.lean ====
/-
  The two printings of the kernel are one program.
-/
module

public import proofs.«01_k».proof.Defs
public import proofs.«01_k».proof.Proof.Gen.Kernel
public import proofs.«01_k».proof.Proof.Gen.KernelIdeal

@[expose] public section

noncomputable section

namespace Cert.Same

open Idealize.ShloMosaic Idealize.ShloMosaic.TcCoe
open Idealize.SL.Sem
attribute [local instance] Cert.Kernel.Gen.facts Cert.KernelIdeal.Gen.facts
set_option maxHeartbeats 20000000
variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun p => funext fun a => ?_)
  match p, a with
  | ⟨0, _⟩, (t, s) => rfl

theorem defs_eq : Cert.Kernel.defs (F := F) = Cert.KernelIdeal.defs (F := F) := congrArg (Pipeline.defs _) defs₀_eq

theorem main_eq : Cert.Kernel.main (F := F) = Cert.KernelIdeal.main (F := F) := funext fun _ => rfl

end Cert.Same

end
-- ==== Proof.ExTab.lean ====
/-
  The experts call: its tables as numbers, the blocks its windows are on, and when its body works.
-/
module

public import proofs.«01_k».proof.Proof.Gen.ExpertsIdeal.Launch
public import proofs.«01_k».proof.Proof.Gen.ExpertsIdeal.Skeleton
public import Idealize.ShloMosaic.Lib.Tactic
public import Idealize.ShloMosaic.Lib.ValueIdx

@[expose] public section

noncomputable section

namespace Cert.ExpertsIdeal.Own

open Cert.ExpertsIdeal Cert.ExpertsIdeal.Gen
open Idealize.ShloMosaic Idealize.ShloMosaic.TcCoe Idealize.ShloMosaic.Tactic Idealize.ShloMosaic.ValueIdx
open Idealize.SL.Sem

variable {F : FTy → Type} [FloatOps F]

/-- The index of entry `n` of a table of 548. -/
def at548 (n : ℕ) : S548.Idx := ix1 (⟨n % 548, Nat.mod_lt _ (by decide)⟩ : Fin 548)

/-- Point `n`'s expert, its block of rows, and the number of blocks in use. -/
def beW (pf : pre0.Contents (Elt F)) (n : ℕ) : BitVec 32 := (show S548.Idx → BitVec 32 from pf 0) (at548 n)
def biW (pf : pre0.Contents (Elt F)) (n : ℕ) : BitVec 32 := (show S548.Idx → BitVec 32 from pf 1) (at548 n)
def nuW (pf : pre0.Contents (Elt F)) : BitVec 32 := (show S1.Idx → BitVec 32 from pf 2) (ix1 (0 : Fin 1))

theorem off1_eq (i : grid0.Coords) : k0_off1 i = ![(i 0).val] := by
  have h : (i 0).val < 548 := (i 0).isLt
  unfold k0_off1
  funext a
  fin_cases a
  show (BitVec.ofNat 32 (i 0).val).toNat = (i 0).val
  rw [BitVec.toNat_ofNat]
  omega

theorem word_at (o : Fin 1 → ℕ) (h : ∀ a, o a + S1.size a ≤ S548.size a) (n : ℕ) (hn : n < 548) (ho : o 0 = n) (x : S1.Idx) :
    (Rect.unit (s := S548) o S1.size h).emb x = at548 n := by
  have hx : (x 0).val < 1 := (x 0).isLt
  funext a
  fin_cases a
  refine Fin.ext ?_
  show o 0 + 1 * (x 0).val = n % 548
  rw [ho, Nat.mod_eq_of_lt hn]
  omega

theorem coords0 : ∀ t : Fin grid0.N, (grid0.coords t 0).val = t.val := by decide +kernel

section Maps
variable (pf : pre0.Contents (Elt F)) (i : grid0.Coords)

theorem tr_bi : pf.at 1 (Rect.unit (s := S548) (k0_off1 i) S1.size (k0_off1_inb i)) numel1_S1 = biW pf (i 0).val :=
  congrArg (show S548.Idx → BitVec 32 from pf 1) (word_at _ _ _ (i 0).isLt (congrFun (off1_eq i) 0) _)
theorem tr_be : pf.at 0 (Rect.unit (s := S548) (k0_off1 i) S1.size (k0_off1_inb i)) numel1_S1 = beW pf (i 0).val :=
  congrArg (show S548.Idx → BitVec 32 from pf 0) (word_at _ _ _ (i 0).isLt (congrFun (off1_eq i) 0) _)

theorem tr0 : cc0_transform_0 k0_off1_inb numel1_S1 pf i = ![(biW pf (i 0).val).toNat, 0, 0] :=
  congrArg (fun b : BitVec 32 => (![b.toNat, 0, 0] : Fin 3 → ℕ)) (tr_bi pf i)
theorem tr1 : cc0_transform_1 k0_off1_inb numel1_S1 pf i = ![(beW pf (i 0).val).toNat, 0, 0] :=
  congrArg (fun b : BitVec 32 => (![b.toNat, 0, 0] : Fin 3 → ℕ)) (tr_be pf i)
theorem tr2 : cc0_transform_2 k0_off1_inb numel1_S1 pf i = ![(beW pf (i 0).val).toNat, 0, 0] :=
  congrArg (fun b : BitVec 32 => (![b.toNat, 0, 0] : Fin 3 → ℕ)) (tr_be pf i)
theorem tr3 : cc0_transform_3 k0_off1_inb numel1_S1 pf i = ![(beW pf (i 0).val).toNat, 0, 0] :=
  congrArg (fun b : BitVec 32 => (![b.toNat, 0, 0] : Fin 3 → ℕ)) (tr_be pf i)
theorem tr4 : cc0_transform_4 k0_off1_inb numel1_S1 pf i = ![(beW pf (i 0).val).toNat, 0, 0] :=
  congrArg (fun b : BitVec 32 => (![b.toNat, 0, 0] : Fin 3 → ℕ)) (tr_be pf i)
theorem tr5 : cc0_transform_5 k0_off1_inb numel1_S1 pf i = ![(biW pf (i 0).val).toNat, 0, 0] :=
  congrArg (fun b : BitVec 32 => (![b.toNat, 0, 0] : Fin 3 → ℕ)) (tr_bi pf i)
end Maps

/-- What the precondition says of the tables: every point's block lies in its expert's region, the blocks in use come
    in increasing order, and the points after them repeat the last. -/
structure Good (pf : pre0.Contents (Elt F)) : Prop where
  be : ∀ n, n < 548 → (beW pf n).toNat < 32
  lo : ∀ n, n < 548 → 130 * (beW pf n).toNat ≤ (biW pf n).toNat
  hi : ∀ n, n < 548 → (biW pf n).toNat < 130 * (beW pf n).toNat + 130
  pos : 0 < (nuW pf).toNat
  small : (nuW pf).toNat < 2 ^ 31
  stay : ∀ n, n + 1 < 548 → ¬ n + 1 < (nuW pf).toNat → biW pf (n + 1) = biW pf n

namespace Good
variable {pf : pre0.Contents (Elt F)} (g : Good pf)
include g

theorem be_div (n : ℕ) (hn : n < 548) : (beW pf n).toNat = (biW pf n).toNat / 130 := by
  have h1 := g.lo n hn
  have h2 := g.hi n hn
  omega

theorem bi (n : ℕ) (hn : n < 548) : (biW pf n).toNat < 4160 := by
  have h1 := g.be n hn
  have h2 := g.hi n hn
  omega

theorem stay_be (n : ℕ) (hn : n + 1 < 548) (h : ¬ n + 1 < (nuW pf).toNat) : beW pf (n + 1) = beW pf n :=
  BitVec.eq_of_toNat_eq (by rw [g.be_div _ hn, g.be_div n (by omega), g.stay n hn h])

theorem ok : ok0 pf := by
  have p3 : ∀ (s t : Fin 3 → ℕ) (b : ℕ), (b + 1) * s 0 ≤ t 0 → s 1 ≤ t 1 → s 2 ≤ t 2 →
      ∀ a, ((![b, 0, 0] : Fin 3 → ℕ) a + 1) * s a ≤ t a := by
    intro s t b h0 h1 h2 a
    fin_cases a
    · exact h0
    · show (0 + 1) * s 1 ≤ t 1; omega
    · show (0 + 1) * s 2 ≤ t 2; omega
  refine ⟨fun i => ?_, fun i => ?_, fun i => ?_, fun i => ?_, fun i => ?_, fun i => ?_⟩
  · refine ⟨?_, .inl rfl⟩
    rw [tr0]
    have h := g.bi _ (i 0).isLt
    exact p3 _ _ _ (show (_ + 1) * 512 ≤ 2129920 by omega) (by decide) (by decide)
  · refine ⟨?_, .inl rfl⟩
    rw [tr1]
    have h := g.be _ (i 0).isLt
    exact p3 _ _ _ (show (_ + 1) * 1 ≤ 32 by omega) (by decide) (by decide)
  · refine ⟨?_, .inl rfl⟩
    rw [tr2]
    have h := g.be _ (i 0).isLt
    exact p3 _ _ _ (show (_ + 1) * 1 ≤ 32 by omega) (by decide) (by decide)
  · refine ⟨?_, .inl rfl⟩
    rw [tr3]
    have h := g.be _ (i 0).isLt
    exact p3 _ _ _ (show (_ + 1) * 1 ≤ 32 by omega) (by decide) (by decide)
  · refine ⟨?_, .inl rfl⟩
    rw [tr4]
    have h := g.be _ (i 0).isLt
    exact p3 _ _ _ (show (_ + 1) * 1 ≤ 32 by omega) (by decide) (by decide)
  · refine ⟨?_, .inl rfl⟩
    rw [tr5]
    have h := g.bi _ (i 0).isLt
    exact p3 _ _ _ (show (_ + 1) * 512 ≤ 2129920 by omega) (by decide) (by decide)

theorem cond (i : grid0.Coords) : k0_cond1 i (nuW pf) = 1#1 ↔ (i 0).val < (nuW pf).toNat := by
  have hi : (i 0).val < 548 := (i 0).isLt
  have hs := g.small
  have e : (k0_cond1 i (nuW pf) = 1#1) ↔ (BitVec.ofNat 32 (i 0).val).slt (nuW pf) = true := by
    unfold k0_cond1
    show (Scalar.cmpi .ne (Scalar.extui (Scalar.cmpi .slt (BitVec.ofNat 32 (i 0).val) (nuW pf))) (0#32) : BitVec 1) = 1#1 ↔ _
    generalize BitVec.ofNat 32 (i 0).val = x
    generalize nuW pf = y
    show (BitVec.ofBool ((BitVec.ofBool (x.slt y)).setWidth 32 != 0#32)) = 1#1 ↔ _
    cases x.slt y <;> decide
  rw [e, BitVec.slt_iff_toInt_lt, BitVec.toInt_eq_toNat_cond, BitVec.toInt_eq_toNat_cond, BitVec.toNat_ofNat]
  rw [if_pos (by omega), if_pos (by omega)]
  omega

end Good

end Cert.ExpertsIdeal.Own

end
-- ==== Proof.ExBody.lean ====
/-
  The experts call: its body at a point in use — the weights cast again where the expert changes, the block's rows put
  through the expert — and at a point past them.
-/
module

public import proofs.«01_k».proof.Proof.ExTab
public import Idealize.ShloMosaic.Lib.Pipeline.FrameBody

@[expose] public section

noncomputable section

namespace Cert.ExpertsIdeal.Own

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (𝒱 : Variants)

/-! ## Loads and stores of whole buffers, and words of the tables -/

theorem zero_emb {s : Shape} (o : Fin s.rank → ℕ) (ho : ∀ a, o a = 0) (hin : ∀ a, o a + s.size a ≤ s.size a) (y : s.Idx) :
    (Rect.unit (s := s) o s.size hin).emb y = y :=
  funext fun a => Fin.ext (by
    show o a + 1 * (y a).val = _
    rw [ho a]; omega)

theorem wp_whole {cs : CoreSpace} {s : Shape} {e : EltTy} (arg : Memref sig .tc cs s e) (q : PosShare TreeShare) (X : s.Idx → Elt F e)
    (o : Fin s.rank → ℕ) (ho : ∀ a, o a = 0) (hin : ∀ a, o a + s.size a ≤ s.size a)
    {hl : arg.view.LoadsAt (Rect.unit (s := s) o s.size hin).toLoadRect} {α : Type}
    {k : (s.Idx → Elt F e) → Prog (TpuEff nD τ sig (Elt F) Λ₀ .tc) α} {Q : α → sProp 𝕄} :
    owns (c : Thread nD τ) arg q X
      ⊢ iprop((owns (c : Thread nD τ) arg q X -∗ wp frame (wpE defs₀ 𝒱 (c : Thread nD τ) none) Set.univ (k X) Q)
        -∗ wp frame (wpE defs₀ 𝒱 (c : Thread nD τ) none) Set.univ (.op (.load arg (Rect.unit (s := s) o s.size hin).toLoadRect hl) k) Q) := by
  unfold owns
  iintro ⟨%f, %hf, H⟩ Hk
  iapply (wp_load 𝒱 (c : Thread nD τ) none Set.univ (m := arg) (r := (Rect.unit (s := s) o s.size hin).toLoadRect) (S := arg.view.set) (q := q) (f := f) (by
    intro x hx
    obtain ⟨y, -, rfl⟩ := Finset.mem_map.mp hx
    exact Finset.mem_map.mpr ⟨_, Finset.mem_univ _, rfl⟩)) $$ H
  iintro H
  have hv : arg.view.readAt (Elt F) (Rect.unit (s := s) o s.size hin).toLoadRect f = X := by
    subst hf
    refine funext fun y => ?_
    show arg.view.read (Elt F) f ((Rect.unit (s := s) o s.size hin).emb y) = _
    rw [zero_emb o ho hin y]
  rw [hv]
  iapply Hk
  iexists f
  isplitr; · ipureintro; exact hf
  iexact H

theorem wp_put {s : Shape} {e : EltTy} (arg : Memref sig .tc .vmem s e) (w : s.Idx → Elt F e) (o : Fin s.rank → ℕ) (ho : ∀ a, o a = 0)
    (hin : ∀ a, o a + s.size a ≤ s.size a)
    {hx : (arg.access (Rect.unit (s := s) o s.size hin)).Stores Finset.univ}
    {hm : (Finset.univ : Finset (Rect.unit (s := s) o s.size hin).shape.Idx) = Finset.univ ∨ ∀ a, (Rect.unit (s := s) o s.size hin).stride a = 1}
    {α : Type} {k : PUnit → Prog (TpuEff nD τ sig (Elt F) Λ₀ .tc) α} {Q : α → sProp 𝕄} (d : s.Idx → Elt F e) :
    owns (c : Thread nD τ) arg fullShare d
      ⊢ iprop((owns (c : Thread nD τ) arg fullShare w -∗ wp frame (wpE defs₀ 𝒱 (c : Thread nD τ) none) Set.univ (k ⟨⟩) Q)
        -∗ wp frame (wpE defs₀ 𝒱 (c : Thread nD τ) none) Set.univ
          (.op (.store arg (Rect.unit (s := s) o s.size hin) w Finset.univ hx hm) k) Q) := by
  unfold owns
  iintro ⟨%f, %hf, H⟩ Hk
  iapply (wp_store 𝒱 (c : Thread nD τ) none Set.univ (m := arg) (r := Rect.unit (s := s) o s.size hin) (w := w)
    (S := arg.view.set) (f := f) (by
      intro x hx
      obtain ⟨y, -, rfl⟩ := Finset.mem_map.mp hx
      exact Finset.mem_map.mpr ⟨_, Finset.mem_univ _, rfl⟩)) $$ H
  iintro H
  iapply Hk
  iexists _
  isplitr
  swap; · iexact H
  ipureintro
  refine funext fun y => ?_
  have h := View.read_write_univ (v := arg.access (Rect.unit (s := s) o s.size hin)) (Val := Elt F) f w
  have he : arg.view.emb y = (arg.access (Rect.unit (s := s) o s.size hin)).emb y := congrArg arg.view.emb (zero_emb o ho hin y).symm
  refine Eq.trans ?_ (congrFun h y)
  rw [View.read_apply, View.read_apply, he]

/-- The tables in scalar memory, half of each. -/
def tabs (pf : pre0.Contents (Elt F)) : sProp 𝕄 :=
  iprop((((c : Thread nD τ).loc main_arg0) ↦{fullShare.right} (show Buf (Elt F) ((c : Thread nD τ).loc main_arg0) from pf 0))
    ∗ (((c : Thread nD τ).loc main_arg1) ↦{fullShare.right} (show Buf (Elt F) ((c : Thread nD τ).loc main_arg1) from pf 1))
    ∗ (((c : Thread nD τ).loc main_arg2) ↦{fullShare.right} (show Buf (Elt F) ((c : Thread nD τ).loc main_arg2) from pf 2)))

theorem tabs_eq (pf : pre0.Contents (Elt F)) : (Pipeline.ΦT pre0 pf c : sProp 𝕄) = tabs c pf := by
  unfold Pipeline.ΦT Pipeline.prefHeld tabs
  exact bigSep_univ_eq_bigSepL [(0 : Fin 3), (1 : Fin 3), (2 : Fin 3)] (by decide) (by decide) _

theorem wp_be (pf : pre0.Contents (Elt F)) (o : Fin 1 → ℕ) (h : ∀ a, o a + S1.size a ≤ S548.size a) (n : ℕ) (hn : n < 548) (ho : o 0 = n)
    {hp} {α : Type} {k : BitVec 32 → Prog (TpuEff nD τ sig (Elt F) Λ₀ .tc) α} {Q : α → sProp 𝕄} :
    (tabs c pf : sProp 𝕄)
      ⊢ iprop((tabs c pf -∗ wp frame (wpE defs₀ 𝒱 (c : Thread nD τ) none) Set.univ (k (beW pf n)) Q)
        -∗ wp frame (wpE defs₀ 𝒱 (c : Thread nD τ) none) Set.univ
          (smemLoad (Memref.whole main_arg0) (Rect.unit (s := S548) o S1.size h) numel1_S1 hp >>= k) Q) := by
  unfold smemLoad
  rw [smemLoadElt_bind]
  unfold tabs
  iintro ⟨H0, H1, H2⟩ Hk
  iapply (wp_smemLoadElt 𝒱 (c : Thread nD τ) none Set.univ (m := Memref.whole main_arg0) (r := Rect.unit (s := S548) o S1.size h)
    (x := Shape.Idx.first (numel1_S1.symm ▸ Nat.one_pos)) (S := Finset.univ) (q := fullShare.right) (f := pf 0) (Finset.subset_univ _)) $$ H0
  iintro H0
  have e : ((Memref.whole main_arg0).access (Rect.unit (s := S548) o S1.size h)).read (Elt F) (pf 0) (Shape.Idx.first (numel1_S1.symm ▸ Nat.one_pos)) = beW pf n :=
    congrArg (show S548.Idx → BitVec 32 from pf 0) (word_at o h n hn ho _)
  rw [e]
  iapply Hk
  isplitl [H0]; · iexact H0
  isplitl [H1]; · iexact H1
  iexact H2

theorem wp_nu (pf : pre0.Contents (Elt F)) (h : ∀ a, (![0] : Fin 1 → ℕ) a + S1.size a ≤ S1.size a)
    {hp} {α : Type} {k : BitVec 32 → Prog (TpuEff nD τ sig (Elt F) Λ₀ .tc) α} {Q : α → sProp 𝕄} :
    (tabs c pf : sProp 𝕄)
      ⊢ iprop((tabs c pf -∗ wp frame (wpE defs₀ 𝒱 (c : Thread nD τ) none) Set.univ (k (nuW pf)) Q)
        -∗ wp frame (wpE defs₀ 𝒱 (c : Thread nD τ) none) Set.univ
          (smemLoad (Memref.whole main_arg2) (Rect.unit (s := S1) ![0] S1.size h) numel1_S1 hp >>= k) Q) := by
  unfold smemLoad
  rw [smemLoadElt_bind]
  unfold tabs
  iintro ⟨H0, H1, H2⟩ Hk
  iapply (wp_smemLoadElt 𝒱 (c : Thread nD τ) none Set.univ (m := Memref.whole main_arg2) (r := Rect.unit (s := S1) ![0] S1.size h)
    (x := Shape.Idx.first (numel1_S1.symm ▸ Nat.one_pos)) (S := Finset.univ) (q := fullShare.right) (f := pf 2) (Finset.subset_univ _)) $$ H2
  iintro H2
  have e : ((Memref.whole main_arg2).access (Rect.unit (s := S1) ![0] S1.size h)).read (Elt F) (pf 2) (Shape.Idx.first (numel1_S1.symm ▸ Nat.one_pos)) = nuW pf :=
    congrArg (show S1.Idx → BitVec 32 from pf 2) (funext fun a => Fin.ext (by fin_cases a; rfl))
  rw [e]
  iapply Hk
  isplitl [H0]; · iexact H0
  isplitl [H1]; · iexact H1
  iexact H2

/-! ## The conditions -/

/-- The body's test of the expert: the first point, or another expert than the point before's. -/
def turn (a x y : BitVec 32) : BitVec 1 := Scalar.cmpi .ne (Scalar.extui (Scalar.ori (Scalar.cmpi .eq a 0#32) (Scalar.cmpi .ne x y)) : BitVec 32) 0#32

theorem turn_iff (a x y : BitVec 32) : turn a x y = 1#1 ↔ a = 0#32 ∨ x ≠ y := by
  unfold turn
  show (BitVec.ofBool ((BitVec.ofBool (a == 0#32) ||| BitVec.ofBool (x != y)).setWidth 32 != 0#32)) = 1#1 ↔ _
  have h1 : (a == 0#32) = true ↔ a = 0#32 := beq_iff_eq
  have h2 : (x != y) = true ↔ x ≠ y := bne_iff_ne
  rw [← h1, ← h2]
  generalize (a == 0#32) = p
  generalize (x != y) = q
  cases p <;> cases q <;> decide

theorem off2_eq (i : grid0.Coords) : k0_off2 i 0 = (i 0).val := congrFun (off1_eq i) 0

theorem off3_pt : ∀ t : Fin grid0.N, k0_off3 (grid0.coords t) 0 = t.val - 1 := by decide +kernel

/-! ## The body -/

abbrev wsM : Memref sig .tc .vmem S1024x2048 .bf16 := Memref.whole cc0_scratch0
abbrev dsM : Memref sig .tc .vmem S1024x1024 .bf16 := Memref.whole cc0_scratch1

/-- What a block of rows comes out as. -/
def outB (X : S512x8x128.Idx → F .f32) (W : S1x1024x2048.Idx → F .f32) (B : S1x1x2048.Idx → F .f32) (D : S1x1024x1024.Idx → F .f32)
    (E : S1x1x1024.Idx → F .f32) : S512x8x128.Idx → F .f32 :=
  k0_pay1 (k0_pay4 X (k0_pay2 W) B (k0_pay3 D)) E

section
variable (a4 : Memref sig .tc .vmem S512x8x128 .f32) (h4 : a4.IsWhole) (a5 : Memref sig .tc .vmem S1x1024x2048 .f32) (h5 : a5.IsWhole)
  (a6 : Memref sig .tc .vmem S1x1x2048 .f32) (h6 : a6.IsWhole) (a7 : Memref sig .tc .vmem S1x1024x1024 .f32) (h7 : a7.IsWhole)
  (a8 : Memref sig .tc .vmem S1x1x1024 .f32) (h8 : a8.IsWhole) (a9 : Memref sig .tc .vmem S512x8x128 .f32) (h9 : a9.IsWhole)
  (h1 : (Memref.whole main_arg0 : Memref sig .tc .smem S548 .i32).IsWhole) (h2 : (Memref.whole main_arg1 : Memref sig .tc .smem S548 .i32).IsWhole)
  (h3 : (Memref.whole main_arg2 : Memref sig .tc .smem S1 .i32).IsWhole) (h10 : wsM.IsWhole) (h11 : dsM.IsWhole)
  (X : S512x8x128.Idx → F .f32) (W : S1x1024x2048.Idx → F .f32) (B : S1x1x2048.Idx → F .f32) (D : S1x1024x1024.Idx → F .f32)
  (E : S1x1x1024.Idx → F .f32) (pf : pre0.Contents (Elt F)) (t : Fin grid0.N)

/-- The part of the body up to the second product. -/
theorem run_part (fw : S1024x2048.Idx → F .bf16) (fd : S1024x1024.Idx → F .bf16)
    (hf : t.val ≠ 0 → beW pf t.val = beW pf (t.val - 1) → fw = k0_pay2 W ∧ fd = k0_pay3 D) :
    iprop(tabs c pf ∗ owns (c : Thread nD τ) a4 fullShare X ∗ owns (c : Thread nD τ) a5 fullShare W ∗ owns (c : Thread nD τ) a6 fullShare B
        ∗ owns (c : Thread nD τ) a7 fullShare D ∗ owns (c : Thread nD τ) wsM fullShare fw ∗ owns (c : Thread nD τ) dsM fullShare fd)
      ⊢ wp frame (wpE defs₀ 𝒱 (c : Thread nD τ) none) Set.univ
          (k0_part1 (F := F) (grid0.coords t) (Memref.whole main_arg0) h1 (Memref.whole main_arg1) h2 (Memref.whole main_arg2) h3 a4 h4 a5 h5 a6 h6 a7 h7 a8 h8 a9 h9
            wsM h10 dsM h11 (BitVec.ofNat 32 (grid0.coords t 0).val))
          (fun v => iprop(⌜v = k0_pay4 X (k0_pay2 W) B (k0_pay3 D)⌝ ∗ tabs c pf ∗ owns (c : Thread nD τ) a4 fullShare X ∗ owns (c : Thread nD τ) a5 fullShare W
            ∗ owns (c : Thread nD τ) a6 fullShare B ∗ owns (c : Thread nD τ) a7 fullShare D
            ∗ owns (c : Thread nD τ) wsM fullShare (k0_pay2 W) ∗ owns (c : Thread nD τ) dsM fullShare (k0_pay3 D))) := by
  have htl : t.val < 548 := t.isLt
  rw [k0_part1_eq_skeleton]
  unfold k0_part1_skel
  iintro ⟨HT, H4, H5, H6, H7, Hw, Hd⟩
  iapply (wp_be c 𝒱 pf (k0_off2 (grid0.coords t)) (k0_off2_inb (grid0.coords t)) t.val htl ((off2_eq _).trans (coords0 t))) $$ HT
  iintro HT
  iapply (wp_be c 𝒱 pf (k0_off3 (grid0.coords t)) (k0_off3_inb (grid0.coords t)) (t.val - 1) (by omega) (off3_pt t)) $$ HT
  iintro HT
  dsimp only
  by_cases ht : turn (BitVec.ofNat 32 (grid0.coords t 0).val) (beW pf t.val) (beW pf (t.val - 1)) = 1#1
  · have ht' := ht
    unfold turn at ht'
    rw [if_pos ht']
    iapply (wp_whole c 𝒱 a5 fullShare W ![0, 0, 0] (by decide) inb_S1x1024x2048_S1x1024x2048_0_0_0) $$ H5
    iintro H5
    iapply (wp_whole c 𝒱 wsM fullShare fw ![0, 0] (by decide) inb_S1024x2048_S1024x2048_0_0) $$ Hw
    iintro Hw
    iapply (wp_put c 𝒱 wsM (k0_pay2 W) ![0, 0] (by decide) inb_S1024x2048_S1024x2048_0_0 fw) $$ Hw
    iintro Hw
    iapply (wp_whole c 𝒱 a7 fullShare D ![0, 0, 0] (by decide) inb_S1x1024x1024_S1x1024x1024_0_0_0) $$ H7
    iintro H7
    iapply (wp_whole c 𝒱 dsM fullShare fd ![0, 0] (by decide) inb_S1024x1024_S1024x1024_0_0) $$ Hd
    iintro Hd
    iapply (wp_put c 𝒱 dsM (k0_pay3 D) ![0, 0] (by decide) inb_S1024x1024_S1024x1024_0_0 fd) $$ Hd
    iintro Hd
    iapply (wp_whole c 𝒱 a4 fullShare X ![0, 0, 0] (by decide) inb_S512x8x128_S512x8x128_0_0_0) $$ H4
    iintro H4
    iapply (wp_whole c 𝒱 wsM fullShare (k0_pay2 W) ![0, 0] (by decide) inb_S1024x2048_S1024x2048_0_0) $$ Hw
    iintro Hw
    iapply (wp_whole c 𝒱 a6 fullShare B ![0, 0, 0] (by decide) inb_S1x1x2048_S1x1x2048_0_0_0) $$ H6
    iintro H6
    iapply (wp_whole c 𝒱 dsM fullShare (k0_pay3 D) ![0, 0] (by decide) inb_S1024x1024_S1024x1024_0_0) $$ Hd
    iintro Hd
    iapply (Entails.of_eq (wp_ret (M := 𝕄) frame (wpE defs₀ 𝒱 (c : Thread nD τ) none) Set.univ _ _).symm)
    imodintro
    isplitr; · ipureintro; rfl
    isplitl [HT]; · iexact HT
    isplitl [H4]; · iexact H4
    isplitl [H5]; · iexact H5
    isplitl [H6]; · iexact H6
    isplitl [H7]; · iexact H7
    isplitl [Hw]; · iexact Hw
    iexact Hd
  · have ht' := ht
    unfold turn at ht'
    rw [if_neg ht']
    rw [turn_iff, not_or, not_not] at ht
    have h0 : t.val ≠ 0 := fun h => ht.1 (by rw [coords0, h])
    obtain ⟨rfl, rfl⟩ := hf h0 ht.2
    iapply (wp_whole c 𝒱 a4 fullShare X ![0, 0, 0] (by decide) inb_S512x8x128_S512x8x128_0_0_0) $$ H4
    iintro H4
    iapply (wp_whole c 𝒱 wsM fullShare (k0_pay2 W) ![0, 0] (by decide) inb_S1024x2048_S1024x2048_0_0) $$ Hw
    iintro Hw
    iapply (wp_whole c 𝒱 a6 fullShare B ![0, 0, 0] (by decide) inb_S1x1x2048_S1x1x2048_0_0_0) $$ H6
    iintro H6
    iapply (wp_whole c 𝒱 dsM fullShare (k0_pay3 D) ![0, 0] (by decide) inb_S1024x1024_S1024x1024_0_0) $$ Hd
    iintro Hd
    iapply (Entails.of_eq (wp_ret (M := 𝕄) frame (wpE defs₀ 𝒱 (c : Thread nD τ) none) Set.univ _ _).symm)
    imodintro
    isplitr; · ipureintro; rfl
    isplitl [HT]; · iexact HT
    isplitl [H4]; · iexact H4
    isplitl [H5]; · iexact H5
    isplitl [H6]; · iexact H6
    isplitl [H7]; · iexact H7
    isplitl [Hw]; · iexact Hw
    iexact Hd

/-- The body at a point in use. -/
theorem run_used (g : Good pf) (hu : t.val < (nuW pf).toNat) (fw : S1024x2048.Idx → F .bf16) (fd : S1024x1024.Idx → F .bf16)
    (hf : t.val ≠ 0 → beW pf t.val = beW pf (t.val - 1) → fw = k0_pay2 W ∧ fd = k0_pay3 D) :
    iprop(tabs c pf ∗ owns (c : Thread nD τ) a4 fullShare X ∗ owns (c : Thread nD τ) a5 fullShare W ∗ owns (c : Thread nD τ) a6 fullShare B
        ∗ owns (c : Thread nD τ) a7 fullShare D ∗ owns (c : Thread nD τ) a8 fullShare E ∗ (∃ d, owns (c : Thread nD τ) a9 fullShare d)
        ∗ owns (c : Thread nD τ) wsM fullShare fw ∗ owns (c : Thread nD τ) dsM fullShare fd)
      ⊢ wp frame (wpE defs₀ 𝒱 (c : Thread nD τ) none) Set.univ
          (cc0_experts (F := F) (grid0.coords t) (Memref.whole main_arg0) h1 (Memref.whole main_arg1) h2 (Memref.whole main_arg2) h3 a4 h4 a5 h5 a6 h6 a7 h7 a8 h8 a9 h9
            wsM h10 dsM h11)
          (fun _ => iprop(tabs c pf ∗ owns (c : Thread nD τ) a4 fullShare X ∗ owns (c : Thread nD τ) a5 fullShare W
            ∗ owns (c : Thread nD τ) a6 fullShare B ∗ owns (c : Thread nD τ) a7 fullShare D ∗ owns (c : Thread nD τ) a8 fullShare E
            ∗ owns (c : Thread nD τ) a9 fullShare (outB X W B D E)
            ∗ owns (c : Thread nD τ) wsM fullShare (k0_pay2 W) ∗ owns (c : Thread nD τ) dsM fullShare (k0_pay3 D))) := by
  rw [cc0_experts_eq_skeleton]
  unfold cc0_experts_skel
  iintro ⟨HT, H4, H5, H6, H7, H8, ⟨%d9, H9⟩, Hw, Hd⟩
  iapply (wp_nu c 𝒱 pf inb_S1_S1_0) $$ HT
  iintro HT
  rw [dif_pos ((g.cond (grid0.coords t)).mpr (by rw [coords0]; exact hu))]
  rw [wp_bind]
  iapply (wp_wand frame (wpE defs₀ 𝒱 (c : Thread nD τ) none) Set.univ) $$ [HT H4 H5 H6 H7 Hw Hd]
  · iapply (run_part c 𝒱 a4 h4 a5 h5 a6 h6 a7 h7 a8 h8 a9 h9 h1 h2 h3 h10 h11 X W B D pf t fw fd hf)
    isplitl [HT]; · iexact HT
    isplitl [H4]; · iexact H4
    isplitl [H5]; · iexact H5
    isplitl [H6]; · iexact H6
    isplitl [H7]; · iexact H7
    isplitl [Hw]; · iexact Hw
    iexact Hd
  iintro %v ⟨%hv, HT, H4, H5, H6, H7, Hw, Hd⟩
  subst hv
  iapply (wp_whole c 𝒱 a8 fullShare E ![0, 0, 0] (by decide) inb_S1x1x1024_S1x1x1024_0_0_0) $$ H8
  iintro H8
  iapply (wp_whole c 𝒱 a9 fullShare d9 ![0, 0, 0] (by decide) inb_S512x8x128_S512x8x128_0_0_0) $$ H9
  iintro H9
  iapply (wp_put c 𝒱 a9 (outB X W B D E) ![0, 0, 0] (by decide) inb_S512x8x128_S512x8x128_0_0_0 d9) $$ H9
  iintro H9
  iapply (Entails.of_eq (wp_ret (M := 𝕄) frame (wpE defs₀ 𝒱 (c : Thread nD τ) none) Set.univ _ _).symm)
  imodintro
  isplitl [HT]; · iexact HT
  isplitl [H4]; · iexact H4
  isplitl [H5]; · iexact H5
  isplitl [H6]; · iexact H6
  isplitl [H7]; · iexact H7
  isplitl [H8]; · iexact H8
  isplitl [H9]; · iexact H9
  isplitl [Hw]; · iexact Hw
  iexact Hd

/-- The body at a point past them: it reads their number, and nothing else. -/
theorem run_idle (g : Good pf) (hu : ¬ t.val < (nuW pf).toNat) (P : sProp 𝕄) :
    iprop(tabs c pf ∗ P)
      ⊢ wp frame (wpE defs₀ 𝒱 (c : Thread nD τ) none) Set.univ
          (cc0_experts (F := F) (grid0.coords t) (Memref.whole main_arg0) h1 (Memref.whole main_arg1) h2 (Memref.whole main_arg2) h3 a4 h4 a5 h5 a6 h6 a7 h7 a8 h8 a9 h9
            wsM h10 dsM h11)
          (fun _ => iprop(tabs c pf ∗ P)) := by
  rw [cc0_experts_eq_skeleton]
  unfold cc0_experts_skel
  iintro ⟨HT, HP⟩
  iapply (wp_nu c 𝒱 pf inb_S1_S1_0) $$ HT
  iintro HT
  rw [dif_neg (fun h => hu (by have h' := (g.cond (grid0.coords t)).mp h; rwa [coords0] at h'))]
  iapply (Entails.of_eq (wp_ret (M := 𝕄) frame (wpE defs₀ 𝒱 (c : Thread nD τ) none) Set.univ _ _).symm)
  imodintro
  isplitl [HT]; · iexact HT
  iexact HP
end

end Cert.ExpertsIdeal.Own

end
-- ==== Proof.ExData.lean ====
/-
  The experts call: what the region finds, the blocks of its windows as functions of the tables' entries, and what the
  body carries from a point to the next.
-/
module

public import proofs.«01_k».proof.Proof.ExBody
public import Idealize.ShloMosaic.Lib.Pipeline.ValueKit
public import Idealize.ShloMosaic.Lib.Pipeline.TableIdle
public import Idealize.ShloMosaic.Lib.Pointwise

@[expose] public section

noncomputable section

namespace Cert.ExpertsIdeal.Own

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region finds -/

/-- Core `c`'s buffers as the region finds them: the two biases reshaped, the others as launched. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables' contents at launch. -/
def tbl : pre0.Contents (Elt F) := fun k => m (((0 : Dev nD) : Thread nD τ).loc (pre0.ref k))

theorem V_pre (c : Dev nD) (k : Fin pre0.K) : V m c (pre0.ref k) = tbl m k := by
  obtain rfl : c = 0 := Subsingleton.elim _ _
  exact V_of m 0 _ (by revert k; decide) (by revert k; decide)

variable (g : Good (tbl m))

/-- The tables as the region admits them. -/
abbrev adm (g : Good (tbl m)) : (pcfg0 (F := F)).Adm := ⟨tbl m, g.ok⟩
abbrev cfgE (g : Good (tbl m)) : Cfg sig Λ₀ := cfg0 (adm m g)

/-! ## The blocks -/

theorem index_0 (t : Fin (cfgE m g).N) : ((cfgE m g).win 0).index t = ![(biW (tbl m) t.val).toNat, 0, 0] :=
  (tr0 (tbl m) (grid0.coords t)).trans (by rw [coords0])
theorem index_1 (t : Fin (cfgE m g).N) : ((cfgE m g).win 1).index t = ![(beW (tbl m) t.val).toNat, 0, 0] :=
  (tr1 (tbl m) (grid0.coords t)).trans (by rw [coords0])
theorem index_2 (t : Fin (cfgE m g).N) : ((cfgE m g).win 2).index t = ![(beW (tbl m) t.val).toNat, 0, 0] :=
  (tr2 (tbl m) (grid0.coords t)).trans (by rw [coords0])
theorem index_3 (t : Fin (cfgE m g).N) : ((cfgE m g).win 3).index t = ![(beW (tbl m) t.val).toNat, 0, 0] :=
  (tr3 (tbl m) (grid0.coords t)).trans (by rw [coords0])
theorem index_4 (t : Fin (cfgE m g).N) : ((cfgE m g).win 4).index t = ![(beW (tbl m) t.val).toNat, 0, 0] :=
  (tr4 (tbl m) (grid0.coords t)).trans (by rw [coords0])
theorem index_5 (t : Fin (cfgE m g).N) : ((cfgE m g).win 5).index t = ![(biW (tbl m) t.val).toNat, 0, 0] :=
  (tr5 (tbl m) (grid0.coords t)).trans (by rw [coords0])

/-- Block `b` of the rows. -/
def xB (c : Dev nD) (b : ℕ) : S512x8x128.Idx → F .f32 := fun y =>
  (V m c main_arg3 :) (ValueIdx.ix3 (⟨(512 * b + (y 0).val) % 2129920, Nat.mod_lt _ (by decide)⟩ : Fin 2129920) (y 1) (y 2))
/-- Expert `e`'s weights and biases. -/
def wB (c : Dev nD) (e : ℕ) : S1x1024x2048.Idx → F .f32 := fun y =>
  (V m c main_arg4 :) (ValueIdx.ix3 (⟨e % 32, Nat.mod_lt _ (by decide)⟩ : Fin 32) (y 1) (y 2))
def bB (c : Dev nD) (e : ℕ) : S1x1x2048.Idx → F .f32 := fun y =>
  (V m c main_v0 :) (ValueIdx.ix3 (⟨e % 32, Nat.mod_lt _ (by decide)⟩ : Fin 32) (y 1) (y 2))
def dB (c : Dev nD) (e : ℕ) : S1x1024x1024.Idx → F .f32 := fun y =>
  (V m c main_arg6 :) (ValueIdx.ix3 (⟨e % 32, Nat.mod_lt _ (by decide)⟩ : Fin 32) (y 1) (y 2))
def eB (c : Dev nD) (e : ℕ) : S1x1x1024.Idx → F .f32 := fun y =>
  (V m c main_v1 :) (ValueIdx.ix3 (⟨e % 32, Nat.mod_lt _ (by decide)⟩ : Fin 32) (y 1) (y 2))

/-- The numbers of a point's block and expert. -/
abbrev bi (n : ℕ) : ℕ := (biW (tbl m) n).toNat
abbrev be (n : ℕ) : ℕ := (beW (tbl m) n).toNat

/-- What block `b` of expert `e` comes out as. -/
def resB (c : Dev nD) (b e : ℕ) : S512x8x128.Idx → F .f32 := outB (xB m c b) (wB m c e) (bB m c e) (dB m c e) (eB m c e)

/-- The proof data. -/
def dats (p : Fin 1) (c : Dev nD) : Dat τ (Elt F) Unit ℕ (UR sig nD τ) ℕ (Pipeline.pin (pcfgs (F := F)) (fun _ => adm m g) p) c where
  A w := V m c (Pipeline.arrRef spec0 w)
  after w t := match w with
    | ⟨0, _⟩ => xB m c (bi m t.val)
    | ⟨1, _⟩ => wB m c (be m t.val)
    | ⟨2, _⟩ => bB m c (be m t.val)
    | ⟨3, _⟩ => dB m c (be m t.val)
    | ⟨4, _⟩ => eB m c (be m t.val)
    | ⟨5, _⟩ => resB m c (bi m t.val) (be m t.val)
  Φ n := iprop(tabs c (tbl m)
    ∗ (∃ fw fd, ⌜n.val ≠ 0 → fw = k0_pay2 (wB m c (be m (n.val - 1))) ∧ fd = k0_pay3 (dB m c (be m (n.val - 1)))⌝
        ∗ owns (c : Thread nD τ) wsM fullShare fw ∗ owns (c : Thread nD τ) dsM fullShare fd)
    ∗ (∃ r, prngReg c r))
  q _ := fullShare
  owed _ := 0

variable (c : Dev nD)

theorem A_eq (w : Fin (cfgE m g).W) : (dats m g 0 c).A w = V m c (Pipeline.arrRef spec0 w) := by dsimp only [dats]
theorem after_0 (t : Fin (cfgE m g).N) : (dats m g 0 c).after 0 t = xB m c (bi m t.val) := by dsimp only [dats]; rfl
theorem after_1 (t : Fin (cfgE m g).N) : (dats m g 0 c).after 1 t = wB m c (be m t.val) := by dsimp only [dats]; rfl
theorem after_2 (t : Fin (cfgE m g).N) : (dats m g 0 c).after 2 t = bB m c (be m t.val) := by dsimp only [dats]; rfl
theorem after_3 (t : Fin (cfgE m g).N) : (dats m g 0 c).after 3 t = dB m c (be m t.val) := by dsimp only [dats]; rfl
theorem after_4 (t : Fin (cfgE m g).N) : (dats m g 0 c).after 4 t = eB m c (be m t.val) := by dsimp only [dats]; rfl
theorem after_5 (t : Fin (cfgE m g).N) : (dats m g 0 c).after 5 t = resB m c (bi m t.val) (be m t.val) := by dsimp only [dats]; rfl

/-- Window `w`'s block at point `t`. -/
def iblk (w : Fin (cfgE m g).W) (t : Fin (cfgE m g).N) : (((cfgE m g).win w).xblock ((cfgE m g).grid.coords t)).Idx → Elt F ((cfgE m g).win w).elt :=
  (((cfgE m g).win w).blk t).view.read (Elt F) (V m c (Pipeline.arrRef spec0 w))

theorem iblk_0 (t : Fin (cfgE m g).N) : iblk m g c 0 t = xB m c (bi m t.val) := by
  have ht : t.val < 548 := t.isLt
  have hb := g.bi t.val ht
  funext y
  unfold xB bi
  blk_ext [iblk, index_0 m g t]
  all_goals omega
theorem iblk_1 (t : Fin (cfgE m g).N) : iblk m g c 1 t = wB m c (be m t.val) := by
  have ht : t.val < 548 := t.isLt
  have hb := g.be t.val ht
  funext y
  unfold wB be
  blk_ext [iblk, index_1 m g t]
  all_goals omega
theorem iblk_2 (t : Fin (cfgE m g).N) : iblk m g c 2 t = bB m c (be m t.val) := by
  have ht : t.val < 548 := t.isLt
  have hb := g.be t.val ht
  funext y
  unfold bB be
  blk_ext [iblk, index_2 m g t]
  all_goals omega
theorem iblk_3 (t : Fin (cfgE m g).N) : iblk m g c 3 t = dB m c (be m t.val) := by
  have ht : t.val < 548 := t.isLt
  have hb := g.be t.val ht
  funext y
  unfold dB be
  blk_ext [iblk, index_3 m g t]
  all_goals omega
theorem iblk_4 (t : Fin (cfgE m g).N) : iblk m g c 4 t = eB m c (be m t.val) := by
  have ht : t.val < 548 := t.isLt
  have hb := g.be t.val ht
  funext y
  unfold eB be
  blk_ext [iblk, index_4 m g t]
  all_goals omega

theorem before_0 (t : Fin (cfgE m g).N) (d) : (dats m g 0 c).before 0 t d = (dats m g 0 c).after 0 t :=
  ((dats m g 0 c).before_in_eq_fetched 0 rfl (fun _ => rfl) (fun _ _ _ => rfl)
    (fun t => by rw [after_0, ← iblk_0]; unfold Dat.blockOf iblk; rw [A_eq]; try rfl) t d).trans
    (by rw [after_0, ← iblk_0]; unfold Dat.fetched Dat.blockOf iblk; rw [A_eq]; try rfl)
theorem before_1 (t : Fin (cfgE m g).N) (d) : (dats m g 0 c).before 1 t d = (dats m g 0 c).after 1 t :=
  ((dats m g 0 c).before_in_eq_fetched 1 rfl (fun _ => rfl) (fun _ _ _ => rfl)
    (fun t => by rw [after_1, ← iblk_1]; unfold Dat.blockOf iblk; rw [A_eq]; try rfl) t d).trans
    (by rw [after_1, ← iblk_1]; unfold Dat.fetched Dat.blockOf iblk; rw [A_eq]; try rfl)
theorem before_2 (t : Fin (cfgE m g).N) (d) : (dats m g 0 c).before 2 t d = (dats m g 0 c).after 2 t :=
  ((dats m g 0 c).before_in_eq_fetched 2 rfl (fun _ => rfl) (fun _ _ _ => rfl)
    (fun t => by rw [after_2, ← iblk_2]; unfold Dat.blockOf iblk; rw [A_eq]; try rfl) t d).trans
    (by rw [after_2, ← iblk_2]; unfold Dat.fetched Dat.blockOf iblk; rw [A_eq]; try rfl)
theorem before_3 (t : Fin (cfgE m g).N) (d) : (dats m g 0 c).before 3 t d = (dats m g 0 c).after 3 t :=
  ((dats m g 0 c).before_in_eq_fetched 3 rfl (fun _ => rfl) (fun _ _ _ => rfl)
    (fun t => by rw [after_3, ← iblk_3]; unfold Dat.blockOf iblk; rw [A_eq]; try rfl) t d).trans
    (by rw [after_3, ← iblk_3]; unfold Dat.fetched Dat.blockOf iblk; rw [A_eq]; try rfl)
theorem before_4 (t : Fin (cfgE m g).N) (d) : (dats m g 0 c).before 4 t d = (dats m g 0 c).after 4 t :=
  ((dats m g 0 c).before_in_eq_fetched 4 rfl (fun _ => rfl) (fun _ _ _ => rfl)
    (fun t => by rw [after_4, ← iblk_4]; unfold Dat.blockOf iblk; rw [A_eq]; try rfl) t d).trans
    (by rw [after_4, ← iblk_4]; unfold Dat.fetched Dat.blockOf iblk; rw [A_eq]; try rfl)

/-! ## The output at the points that compute nothing -/

theorem atD_nu (pf : pre0.Contents (Elt F)) : pf.atD 2 ![0] = nuW pf := by
  refine (dif_pos fun a => (by decide : ∀ a : Fin 1, (![0] : Fin 1 → ℕ) a + 1 ≤ (![1] : Fin 1 → ℕ) a) a).trans ?_
  unfold nuW
  refine congrArg (pf 2) (funext fun (a : Fin 1) => ?_)
  obtain rfl : a = 0 := Subsingleton.elim a 0
  rfl

theorem idle_5 (t : Fin (cfgE m g).N) : (cfgE m g).idle 5 ((cfgE m g).grid.coords t) = true ↔ ¬ t.val < (nuW (tbl m)).toNat := by
  rw [← coords0 t, ← g.cond (grid0.coords t)]
  rw [← atD_nu]
  show (!(k0_cond1 (grid0.coords t) ((tbl m).atD 2 ![0]) == 1#1)) = true ↔ _
  rw [Bool.not_eq_true', beq_eq_false_iff_ne]

theorem flush_5 (n : ℕ) (h : n + 1 < 548) (hu : ¬ n + 1 < (nuW (tbl m)).toNat) :
    ((cfgE m g).win 5).flush ⟨n, Nat.lt_of_succ_lt h⟩ = false := by
  unfold Window.flush
  rw [Bool.and_eq_false_iff]
  right
  rw [Bool.or_eq_false_iff]
  refine ⟨decide_eq_false (Nat.ne_of_lt h), decide_eq_false ?_⟩
  rintro ⟨h', hne⟩
  apply hne
  rw [index_5, index_5, g.stay n h hu]

theorem fresh_5 : ∀ n, n < 548 → ¬ n < (nuW (tbl m)).toNat → (cfgE m g).fresh 5 n = false
  | 0, _, hu => absurd g.pos hu
  | n + 1, h, hu => by
    rw [Cfg.fresh_succ (cfgE m g) 5 n (show n < 548 from Nat.lt_of_succ_lt h), flush_5 m g n h hu, Bool.false_or, Bool.and_eq_false_iff]
    by_cases hn : n < (nuW (tbl m)).toNat
    · left
      rw [← Bool.not_eq_true, idle_5]
      exact not_not_intro hn
    · right
      exact fresh_5 n (Nat.lt_of_succ_lt h) hn

theorem after_5_idle (t : Fin (cfgE m g).N) (h0 : t.val ≠ 0) (hu : ¬ t.val < (nuW (tbl m)).toNat) :
    (dats m g 0 c).after 5 t = (dats m g 0 c).after 5 ⟨t.val - 1, Nat.lt_of_le_of_lt (Nat.sub_le _ _) t.isLt⟩ := by
  have ht : t.val < 548 := t.isLt
  obtain ⟨n, hn⟩ : ∃ n, t.val = n + 1 := ⟨t.val - 1, by omega⟩
  rw [after_5, after_5]
  show resB m c (biW (tbl m) t.val).toNat (beW (tbl m) t.val).toNat = resB m c (biW (tbl m) (t.val - 1)).toNat (beW (tbl m) (t.val - 1)).toNat
  rw [hn, Nat.add_sub_cancel, g.stay n (by omega) (by omega), g.stay_be n (by omega) (by omega)]

theorem before_5 (t : Fin (cfgE m g).N) (hu : ¬ t.val < (nuW (tbl m)).toNat) (d) :
    (dats m g 0 c).before 5 t d = (dats m g 0 c).after 5 t := by
  have ht : t.val < 548 := t.isLt
  have h0 : t.val ≠ 0 := fun h => hu (h ▸ g.pos)
  rw [(dats m g 0 c).before_out_traj 5 rfl (fun _ _ => rfl)
    (fun t h0 hi _ => after_5_idle m g c t h0 ((idle_5 m g t).mp hi)) t.val t rfl d, fresh_5 m g t.val ht hu]
  exact (after_5_idle m g c t h0 hu).symm

end Cert.ExpertsIdeal.Own

end
-- ==== Proof.ExFrame.lean ====
/-
  The experts call's run: every point carries the two scratch buffers on, and the launch.
-/
module

public import proofs.«01_k».proof.Proof.ExData
public import Idealize.ShloMosaic.Lib.Pipeline.Frame

@[expose] public section

noncomputable section

namespace Cert.ExpertsIdeal.Own

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (g : Good (tbl m)) (c : Dev nD)

/-- What the body carries: before point `n` the scratch buffers hold the casts of the weights of point `n - 1`. -/
def scr (n : ℕ) : sProp 𝕄 :=
  iprop(∃ fw fd, ⌜n ≠ 0 → fw = k0_pay2 (wB m c (be m (n - 1))) ∧ fd = k0_pay3 (dB m c (be m (n - 1)))⌝
    ∗ owns (c : Thread nD τ) wsM fullShare fw ∗ owns (c : Thread nD τ) dsM fullShare fd)

theorem Φ_eq (n : Fin ((cfgE m g).N + 1)) :
    (dats m g 0 c).Φ n = iprop(tabs c (tbl m) ∗ scr m c n.val ∗ (∃ r, prngReg c r)) := by
  dsimp only [dats]; rfl

/-! ## The body at a point -/

abbrev ms (w : Fin (cfgE m g).W) (t : Fin (cfgE m g).N) := ((cfgE m g).win w).stage ((cfgE m g).slots t w)

abbrev bodyAt (t : Fin (cfgE m g).N) : Prog (TpuEff nD τ sig (Elt F) Λ₀ .tc) PUnit :=
  cc0_experts (F := F) (grid0.coords t) (Memref.whole main_arg0) (Memref.isWhole_whole _) (Memref.whole main_arg1) (Memref.isWhole_whole _)
    (Memref.whole main_arg2) (Memref.isWhole_whole _)
    (ms m g 0 t) (stage_whole0 0 _) (ms m g 1 t) (stage_whole0 1 _) (ms m g 2 t) (stage_whole0 2 _) (ms m g 3 t) (stage_whole0 3 _)
    (ms m g 4 t) (stage_whole0 4 _) (ms m g 5 t) (stage_whole0 5 _) wsM (Memref.isWhole_whole _) dsM (Memref.isWhole_whole _)

def bodyPre (t : Fin (cfgE m g).N) : sProp 𝕄 :=
  iprop((dats m g 0 c).Φ t.castSucc ∗ (dats m g 0 c).owesAt () t.castSucc
    ∗ (∃ d, owns (c : Thread nD τ) (ms m g 0 t) fullShare ((dats m g 0 c).before 0 t d))
    ∗ (∃ d, owns (c : Thread nD τ) (ms m g 1 t) fullShare ((dats m g 0 c).before 1 t d))
    ∗ (∃ d, owns (c : Thread nD τ) (ms m g 2 t) fullShare ((dats m g 0 c).before 2 t d))
    ∗ (∃ d, owns (c : Thread nD τ) (ms m g 3 t) fullShare ((dats m g 0 c).before 3 t d))
    ∗ (∃ d, owns (c : Thread nD τ) (ms m g 4 t) fullShare ((dats m g 0 c).before 4 t d))
    ∗ (∃ d, owns (c : Thread nD τ) (ms m g 5 t) fullShare ((dats m g 0 c).before 5 t d)))
def bodyPost (t : Fin (cfgE m g).N) : sProp 𝕄 :=
  iprop((dats m g 0 c).Φ t.succ ∗ (dats m g 0 c).owesAt () t.succ
    ∗ owns (c : Thread nD τ) (ms m g 0 t) fullShare ((dats m g 0 c).after 0 t)
    ∗ owns (c : Thread nD τ) (ms m g 1 t) fullShare ((dats m g 0 c).after 1 t)
    ∗ owns (c : Thread nD τ) (ms m g 2 t) fullShare ((dats m g 0 c).after 2 t)
    ∗ owns (c : Thread nD τ) (ms m g 3 t) fullShare ((dats m g 0 c).after 3 t)
    ∗ owns (c : Thread nD τ) (ms m g 4 t) fullShare ((dats m g 0 c).after 4 t)
    ∗ owns (c : Thread nD τ) (ms m g 5 t) fullShare ((dats m g 0 c).after 5 t))

/-- At a point that computes nothing the state carried is the same. -/
theorem scr_idle (t : Fin (cfgE m g).N) (hu : ¬ t.val < (nuW (tbl m)).toNat) : scr m c t.val ⊢ (scr m c (t.val + 1) : sProp 𝕄) := by
  have ht : t.val < 548 := t.isLt
  have h0 : t.val ≠ 0 := fun h => hu (h ▸ g.pos)
  have e : be m (t.val + 1 - 1) = be m (t.val - 1) := by
    obtain ⟨n, hn⟩ : ∃ n, t.val = n + 1 := ⟨t.val - 1, by omega⟩
    show (beW (tbl m) (t.val + 1 - 1)).toNat = (beW (tbl m) (t.val - 1)).toNat
    rw [hn, Nat.add_sub_cancel, Nat.add_sub_cancel, g.stay_be n (by omega) (by omega)]
  unfold scr
  iintro ⟨%fw, %fd, %h, H⟩
  iexists fw, fd
  isplitr
  · ipureintro
    intro _
    rw [e]
    exact h h0
  iexact H

theorem sound_used (t : Fin (cfgE m g).N) (hu : t.val < (nuW (tbl m)).toNat) :
    bodyPre m g c t ⊢ wp frame (wpE (defs₀ (F := F)) Variants.none c none) Set.univ (bodyAt m g t) (fun _ => bodyPost m g c t) := by
  unfold bodyPre bodyPost bodyAt
  simp only [before_0, before_1, before_2, before_3, before_4]
  rw [after_0, after_1, after_2, after_3, after_4, after_5]
  rw [Φ_eq, Φ_eq, show (t.castSucc).val = t.val from rfl, show (t.succ).val = t.val + 1 from rfl]
  unfold Dat.owesAt Pipeline.owesWithin
  rw [show (dats m g 0 c).owed t.castSucc = 0 from rfl, show (dats m g 0 c).owed t.succ = 0 from rfl]
  unfold scr
  iintro ⟨⟨HT, ⟨%fw, %fd, %hf, Hw, Hd⟩, Hg⟩, ⟨%W, -, HW⟩, ⟨%d0, H0⟩, ⟨%d1, H1⟩, ⟨%d2, H2⟩, ⟨%d3, H3⟩, ⟨%d4, H4⟩, ⟨%d5, H5⟩⟩
  iapply (wp_wand frame (wpE defs₀ Variants.none (c : Thread nD τ) none) Set.univ) $$ [HT Hw Hd H0 H1 H2 H3 H4 H5]
  · iapply (run_used c Variants.none (ms m g 0 t) (stage_whole0 0 _) (ms m g 1 t) (stage_whole0 1 _) (ms m g 2 t) (stage_whole0 2 _)
      (ms m g 3 t) (stage_whole0 3 _) (ms m g 4 t) (stage_whole0 4 _) (ms m g 5 t) (stage_whole0 5 _)
      (Memref.isWhole_whole _) (Memref.isWhole_whole _) (Memref.isWhole_whole _) (Memref.isWhole_whole _) (Memref.isWhole_whole _)
      (xB m c (bi m t.val)) (wB m c (be m t.val)) (bB m c (be m t.val)) (dB m c (be m t.val)) (eB m c (be m t.val)) (tbl m) t g hu fw fd ?_)
    rotate_left
    · isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [Hw]; · iexact Hw
      iexact Hd
    · intro h0 he
      have := hf h0
      unfold be at this ⊢
      rw [he]
      exact this
  iintro %_ ⟨HT, H0, H1, H2, H3, H4, H5, Hw, Hd⟩
  isplitl [HT Hw Hd Hg]
  · isplitl [HT]; · iexact HT
    isplitr [Hg]
    · iexists _, _
      isplitr
      rotate_left
      · isplitl [Hw]; · iexact Hw
        iexact Hd
      · ipureintro
        intro _
        rw [Nat.add_sub_cancel]
        exact ⟨rfl, rfl⟩
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem sound_idle (t : Fin (cfgE m g).N) (hu : ¬ t.val < (nuW (tbl m)).toNat) :
    bodyPre m g c t ⊢ wp frame (wpE (defs₀ (F := F)) Variants.none c none) Set.univ (bodyAt m g t) (fun _ => bodyPost m g c t) := by
  unfold bodyPre bodyPost bodyAt
  simp only [before_0, before_1, before_2, before_3, before_4, before_5 m g c t hu]
  rw [Φ_eq, Φ_eq, show (t.castSucc).val = t.val from rfl, show (t.succ).val = t.val + 1 from rfl]
  unfold Dat.owesAt Pipeline.owesWithin
  rw [show (dats m g 0 c).owed t.castSucc = 0 from rfl, show (dats m g 0 c).owed t.succ = 0 from rfl]
  iintro ⟨⟨HT, Hs, Hg⟩, ⟨%W, -, HW⟩, ⟨%d0, H0⟩, ⟨%d1, H1⟩, ⟨%d2, H2⟩, ⟨%d3, H3⟩, ⟨%d4, H4⟩, ⟨%d5, H5⟩⟩
  ihave Hs := (scr_idle m g c t hu) $$ Hs
  iapply (wp_wand frame (wpE defs₀ Variants.none (c : Thread nD τ) none) Set.univ) $$ [HT]
  · iapply (run_idle c Variants.none (ms m g 0 t) (stage_whole0 0 _) (ms m g 1 t) (stage_whole0 1 _) (ms m g 2 t) (stage_whole0 2 _)
      (ms m g 3 t) (stage_whole0 3 _) (ms m g 4 t) (stage_whole0 4 _) (ms m g 5 t) (stage_whole0 5 _)
      (Memref.isWhole_whole _) (Memref.isWhole_whole _) (Memref.isWhole_whole _) (Memref.isWhole_whole _) (Memref.isWhole_whole _)
      (tbl m) t g hu iprop(emp))
    isplitl [HT]; · iexact HT
    iempintro
  iintro %_ ⟨HT, -⟩
  isplitl [HT Hs Hg]
  · isplitl [HT]; · iexact HT
    isplitl [Hs]; · iexact Hs
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem sound_body (t : Fin (cfgE m g).N) :
    bodyPre m g c t ⊢ wp frame (wpE (defs₀ (F := F)) Variants.none c none) Set.univ (bodyAt m g t) (fun _ => bodyPost m g c t) := by
  by_cases hu : t.val < (nuW (tbl m)).toNat
  · exact sound_used m g c t hu
  · exact sound_idle m g c t hu

theorem defs₀_row (t : Fin (cfgE m g).N) :
    defs₀ (F := F) .tc (cfgE m g).body ((cfgE m g).bodyArgs t ((cfgE m g).slots t)) = bodyAt m g t := by
  unfold defs₀; rw [Defs.onTc_tc]; rfl

theorem post5 (t : Fin (cfgE m g).N) :
    owns (c : Thread nD τ) (ms m g 5 t) fullShare ((dats m g 0 c).after 5 t)
      ⊢ (match (cfgE m g).idle 5 ((cfgE m g).grid.coords t) with
          | true =>
            match ((cfgE m g).win 5).flush t with
            | false => iprop(∃ d, owns (c : Thread nD τ) (ms m g 5 t) fullShare ((dats m g 0 c).before 5 t d))
            | true => owns (c : Thread nD τ) (ms m g 5 t) fullShare ((dats m g 0 c).after 5 t)
          | false => owns (c : Thread nD τ) (ms m g 5 t) fullShare ((dats m g 0 c).after 5 t) : sProp 𝕄) := by
  cases hi : (cfgE m g).idle 5 ((cfgE m g).grid.coords t)
  · exact .rfl
  cases hfl : ((cfgE m g).win 5).flush t
  · iintro H
    iexists (dats m g 0 c).after 5 t
    rw [before_5 m g c t ((idle_5 m g t).mp hi)]
    iexact H
  · exact .rfl

theorem body_obligation : BodyObligation (dats (F := F) m g 0 c) (defs₀ (F := F)) Variants.none () Set.univ := fun t => by
  rw [bigSep_W0, bigSep_W0]
  exact triple_restated (sound_body m g c t) (congrArg _ (defs₀_row m g t).symm) .rfl fun _ =>
    sep_mono .rfl (sep_mono .rfl (sep_mono .rfl (sep_mono .rfl (sep_mono .rfl (sep_mono .rfl (sep_mono .rfl (post5 m g c t)))))))

/-! ## The launch -/

theorem enter : iprop(Pipeline.ΦA spec0 c ∗ Pipeline.ΦT pre0 (tbl m) c) ⊢ ((dats m g 0 c).Φ 0 : sProp 𝕄) := by
  rw [Φ_eq, tabs_eq]
  unfold Pipeline.ΦA scr
  rw [scopedRest0_eq]
  iintro ⟨⟨⟨⟨%f0, H0⟩, ⟨%f1, H1⟩⟩, Hg⟩, HT⟩
  isplitl [HT]; · iexact HT
  isplitr [Hg]
  · iexists f0, f1
    isplitr
    · ipureintro; exact fun h => absurd rfl h
    rw [show wsM = Memref.whole cc0_scratch0 from rfl, show dsM = Memref.whole cc0_scratch1 from rfl, owns_whole, owns_whole]
    isplitl [H0]; · iexact H0
    iexact H1
  iexact Hg

theorem leave : (dats m g 0 c).Φ (Fin.last (cfgE m g).N) ⊢ (Pipeline.ΦA spec0 c : sProp 𝕄) := by
  rw [Φ_eq]
  unfold Pipeline.ΦA scr
  rw [scopedRest0_eq]
  have e0 : ∀ f, (owns (c : Thread nD τ) wsM fullShare f : sProp 𝕄) = (((c : Thread nD τ).loc cc0_scratch0) ↦{fullShare} f) :=
    fun f => owns_whole (c : Thread nD τ) cc0_scratch0 fullShare f
  have e1 : ∀ f, (owns (c : Thread nD τ) dsM fullShare f : sProp 𝕄) = (((c : Thread nD τ).loc cc0_scratch1) ↦{fullShare} f) :=
    fun f => owns_whole (c : Thread nD τ) cc0_scratch1 fullShare f
  simp only [e0, e1]
  iintro ⟨-, ⟨%f0, %f1, -, H0, H1⟩, Hg⟩
  isplitr [Hg]
  · isplitl [H0]; · iexists f0; iexact H0
    iexists f1; iexact H1
  iexact Hg

set_option backward.isDefEq.respectTransparency.types false in
theorem run_main : θ_run defs (onTc (τ := τ) (main (F := F))) (s₀ m ρ)
    (fun r => Pipeline.FramePost (Pipeline.pin (pcfgs (F := F)) (fun _ => adm m g)) (dats m g) 0 (V m) r ∧ r.2.sem = fun _ => 0) :=
  Pipeline.θ_run_frameP_track (Q' := _) pcfgs (fun _ => adm m g) (dats m g) (0 : Fin 1) launch0 defs₀ Variants.none m ρ main
    (hbody := fun c => (body_obligation m g c).loose) (hshare := fun c w => by unfold Dat.share; split <;> rfl)
    (howed := fun _ _ => rfl) (V := V m)
    (hmain := Pipeline.hmainP_prefix pcfgs (0 : Fin 1) defs₀ Variants.none m main hostOps0 hostOps0_sub hostOps0_fresh main_chain)
    (hA := fun c w => A_eq m g c w) (hpf := fun c k => V_pre m c k)
    (hin := fun c => enter m g c) (hout := fun c => leave m g c)

end Cert.ExpertsIdeal.Own

end
-- ==== Proof.ExFinal.lean ====
/-
  The experts call's result: the array's elements in a block that the table names.
-/
module

public import proofs.«01_k».proof.Proof.ExFrame
public import Idealize.ShloMosaic.Lib.Pipeline.Value

@[expose] public section

noncomputable section

namespace Cert.ExpertsIdeal.Own

open Cert.ExpertsIdeal Cert.ExpertsIdeal.Gen
open Idealize.ShloMosaic Idealize.ShloMosaic.TcCoe Idealize.ShloMosaic.Tactic Idealize.ShloMosaic.ValueIdx
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg) (g : Good (tbl m)) (c : Dev nD)

/-- Every row through its expert. -/
def resAll : S2129920x8x128.Idx → F .f32 := fun i =>
  resB m c ((i 0).val / 512) ((i 0).val / 512 / 130)
    (ValueIdx.ix3 (⟨(i 0).val % 512, Nat.mod_lt _ (by decide)⟩ : Fin 512) (i 1) (i 2))

/-- Where an element of a point's block sits. -/
def emb5 (t : Fin (cfgE m g).N) (y : S512x8x128.Idx) : S2129920x8x128.Idx := (((cfgE m g).win 5).rect t).emb y

theorem emb5_val (t : Fin (cfgE m g).N) (y : S512x8x128.Idx) (a : Fin 3) :
    (emb5 m g t y a).val = (![(biW (tbl m) t.val).toNat, 0, 0] : Fin 3 → ℕ) a * (![512, 8, 128] : Fin 3 → ℕ) a + (y a).val := by
  have h := ((cfgE m g).win 5).rect_emb_val t y a
  rw [index_5] at h
  exact h

theorem emb5_0 (t : Fin (cfgE m g).N) (y : S512x8x128.Idx) : (emb5 m g t y 0).val = (biW (tbl m) t.val).toNat * 512 + (y 0).val := emb5_val m g t y 0
theorem emb5_1 (t : Fin (cfgE m g).N) (y : S512x8x128.Idx) : (emb5 m g t y 1).val = (y 1).val := by
  refine (emb5_val m g t y 1).trans ?_; show 0 * 8 + (y 1).val = (y 1).val; omega
theorem emb5_2 (t : Fin (cfgE m g).N) (y : S512x8x128.Idx) : (emb5 m g t y 2).val = (y 2).val := by
  refine (emb5_val m g t y 2).trans ?_; show 0 * 128 + (y 2).val = (y 2).val; omega

theorem out_block (t : Fin (cfgE m g).N) :
    (dats m g 0 c).flushed 5 t = (((cfgE m g).win 5).blk t).view.read (Elt F) (resAll m c) := by
  have ht : t.val < 548 := t.isLt
  have hb := g.bi t.val ht
  have he := g.be_div t.val ht
  refine Eq.trans (b := resB m c (bi m t.val) (be m t.val)) ?_ ?_
  · exact after_5 m g c t
  refine funext fun (y : S512x8x128.Idx) => ?_
  have hy : (y 0).val < 512 := (y 0).isLt
  have e0 := emb5_0 m g t y
  show resB m c (biW (tbl m) t.val).toNat (beW (tbl m) t.val).toNat y = resAll m c (emb5 m g t y)
  unfold resAll
  rw [show (emb5 m g t y 0).val / 512 = (biW (tbl m) t.val).toNat by omega, ← he]
  refine congrArg _ (funext fun a => Fin.ext ?_)
  match a with
  | ⟨0, _⟩ => show (y 0).val = (emb5 m g t y 0).val % 512; omega
  | ⟨1, _⟩ => exact (emb5_1 m g t y).symm
  | ⟨2, _⟩ => exact (emb5_2 m g t y).symm

/-- Some point with a given block writes it back: the last of a stretch. -/
theorem flushes : ∀ (k n : ℕ) (_ : n + k = 547), ∃ t : Fin (cfgE m g).N, ((cfgE m g).win 5).flush t = true
    ∧ biW (tbl m) t.val = biW (tbl m) n
  | 0, n, h => ⟨⟨n, show n < 548 by omega⟩, by
      unfold Window.flush
      have e : n + 1 = (cfgE m g).grid.N := by show n + 1 = grid0.N; rw [N_0]; omega
      simp only [e, decide_true, Bool.true_or, Bool.and_true]
      rfl, rfl⟩
  | k + 1, n, h => by
    by_cases hb : biW (tbl m) (n + 1) = biW (tbl m) n
    · obtain ⟨t, h1, h2⟩ := flushes k (n + 1) (by omega)
      exact ⟨t, h1, h2.trans hb⟩
    · refine ⟨⟨n, show n < 548 by omega⟩, ?_, rfl⟩
      unfold Window.flush
      rw [Bool.and_eq_true, Bool.or_eq_true]
      refine ⟨rfl, Or.inr (decide_eq_true ⟨show n + 1 < 548 by omega, fun he => hb ?_⟩)⟩
      rw [index_5, index_5] at he
      exact BitVec.eq_of_toNat_eq (congrFun he 0)

theorem final (i : S2129920x8x128.Idx) (n : ℕ) (hn : n < 548) (hi : (biW (tbl m) n).toNat = (i 0).val / 512) :
    (dats m g 0 c).arrAt 5 (cfgE m g).N i = resAll m c i := by
  obtain ⟨t, hf, hb⟩ := flushes m g (547 - n) n (by omega)
  refine (dats m g 0 c).arrAt_apply_of_mem 5 (resAll m c) (fun t _ => out_block m g c t) (cfgE m g).N t i t.isLt hf ?_
  let y : S512x8x128.Idx := ValueIdx.ix3 (⟨(i 0).val % 512, Nat.mod_lt _ (by decide)⟩ : Fin 512) (i 1) (i 2)
  have hm := (((cfgE m g).win 5).blk t).view.emb_mem_set y
  have e : emb5 m g t y = i := funext fun a => Fin.ext (by
    match a with
    | ⟨0, _⟩ =>
      refine (emb5_0 m g t y).trans ?_
      rw [hb, hi]
      show (i 0).val / 512 * 512 + (i 0).val % 512 = (i 0).val
      omega
    | ⟨1, _⟩ => exact emb5_1 m g t y
    | ⟨2, _⟩ => exact emb5_2 m g t y)
  rw [← e]
  exact hm

theorem run_final (g : Good (tbl m)) : θ_run defs (onTc (τ := τ) (main (F := F))) ⟨m, fun _ => 0, ρ⟩ (fun r =>
    (∀ c : Dev nD, (∀ i, (∃ n, n < 548 ∧ (biW (tbl m) n).toNat = (i 0).val / 512) →
          (show S2129920x8x128.Idx → F .f32 from r.2.mem ((c.tc : Thread nD τ).loc main_v2)) i = resAll m c i)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  (θ_run defs _ _).mono (fun _ h => ⟨fun c =>
    ⟨fun i ⟨n, hn, hi⟩ => (congrFun ((h.1 c).1 5) i).trans (final m g c i n hn hi),
      ((h.1 c).2 main_arg0 (Pipeline.mem_restRefs_of (win := spec0) main_arg0 (by decide) (by decide))).trans (V_of m c main_arg0 (by decide) (by decide)),
      ((h.1 c).2 main_arg1 (Pipeline.mem_restRefs_of (win := spec0) main_arg1 (by decide) (by decide))).trans (V_of m c main_arg1 (by decide) (by decide)),
      ((h.1 c).2 main_arg2 (Pipeline.mem_restRefs_of (win := spec0) main_arg2 (by decide) (by decide))).trans (V_of m c main_arg2 (by decide) (by decide)),
      ((h.1 c).1 0).trans (((dats m g 0 c).arrAt_in 0 rfl _).trans ((A_eq m g c 0).trans (V_of m c main_arg3 (by decide) (by decide)))),
      ((h.1 c).1 1).trans (((dats m g 0 c).arrAt_in 1 rfl _).trans ((A_eq m g c 1).trans (V_of m c main_arg4 (by decide) (by decide)))),
      ((h.1 c).2 main_arg5 (Pipeline.mem_restRefs_of (win := spec0) main_arg5 (by decide) (by decide))).trans (V_of m c main_arg5 (by decide) (by decide)),
      ((h.1 c).1 3).trans (((dats m g 0 c).arrAt_in 3 rfl _).trans ((A_eq m g c 3).trans (V_of m c main_arg6 (by decide) (by decide)))),
      ((h.1 c).2 main_arg7 (Pipeline.mem_restRefs_of (win := spec0) main_arg7 (by decide) (by decide))).trans (V_of m c main_arg7 (by decide) (by decide))⟩, h.2⟩)
    (run_main m ρ g)

end Cert.ExpertsIdeal.Own

end
-- ==== Proof.ExRef.lean ====
/-
  The experts call's reference: its result as a function of the arrays, in pieces.
-/
module

public import proofs.«01_k».proof.Proof.Gen.ExpertsReferenceIdeal.Run

@[expose] public section

noncomputable section

namespace Cert.ExpertsReferenceIdeal.Own

open Cert.ExpertsReferenceIdeal Cert.ExpertsReferenceIdeal.Gen
open Idealize.ShloMosaic Idealize.ShloMosaic.TcCoe Idealize.SL.Sem

variable {F : FTy → Type} [FloatOps F]
variable (xs : FVec F S2129920x8x128 .f32) (w : FVec F S32x1024x2048 .f32) (b : FVec F S32x2048 .f32) (d : FVec F S32x1024x1024 .f32) (e : FVec F S32x1024 .f32)

/-- The first layer. -/
def gateUp : FVec F S32x66560x2048 .f32 :=
  addf (Host.dotGeneral dot_S32x66560x1024_S32x1024x2048_S32x66560x2048_2_1_1_2_0_0 none (shapeCast S32x66560x1024 xs shapeCasts_S2129920x8x128_S32x66560x1024) w) (broadcastInDim S32x66560x2048 ![0, 1, 2] bcast_S32x1x2048_S32x66560x2048_0_1_2 (broadcastInDim S32x1x2048 ![0, 2] bcast_S32x2048_S32x1x2048_0_2 b))

/-- The gate, cut off above. -/
def gate : FVec F S32x66560x1024 .f32 :=
  minimumf (extractStridedSlice S32x66560x1024 ![0, 0, 0] (gateUp xs w b) slices_S32x66560x2048_S32x66560x1024_0_0_0) (broadcastInDim S32x66560x1024 ![] bcast_S_S32x66560x1024 (constant S_ .f32 0x40E00000#32))

/-- The second layer's input. -/
def acted : FVec F S32x66560x1024 .f32 :=
  mulf (addf (minimumf (broadcastInDim S32x66560x1024 ![] bcast_S_S32x66560x1024 (id (constant S_ .f32 0x40E00000#32))) (maximumf (broadcastInDim S32x66560x1024 ![] bcast_S_S32x66560x1024 (id (constant S_ .f32 0xC0E00000#32))) (extractStridedSlice S32x66560x1024 ![0, 0, 1024] (gateUp xs w b) slices_S32x66560x2048_S32x66560x1024_0_0_1024))) (broadcastInDim S32x66560x1024 ![] bcast_S_S32x66560x1024 (constant S_ .f32 0x3F800000#32))) (mulf (gate xs w b) (Host.divf (broadcastInDim S32x66560x1024 ![] bcast_S_S32x66560x1024 (constant S_ .f32 0x3F800000#32)) (addf (broadcastInDim S32x66560x1024 ![] bcast_S_S32x66560x1024 (constant S_ .f32 0x3F800000#32)) (Host.exp (Host.negf (mulf (broadcastInDim S32x66560x1024 ![] bcast_S_S32x66560x1024 (constant S_ .f32 0x3FD9DB23#32)) (gate xs w b)))))))

/-- The result. -/
def out : FVec F S2129920x8x128 .f32 :=
  shapeCast S2129920x8x128 (addf (Host.dotGeneral dot_S32x66560x1024_S32x1024x1024_S32x66560x1024_2_1_1_2_0_0 none (acted xs w b) d) (broadcastInDim S32x66560x1024 ![0, 1, 2] bcast_S32x1x1024_S32x66560x1024_0_1_2 (broadcastInDim S32x1x1024 ![0, 2] bcast_S32x1024_S32x1x1024_0_2 e))) shapeCasts_S32x66560x1024_S2129920x8x128

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v26) = out (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  unfold out acted gate gateUp
  exact Cert.ExpertsReferenceIdeal.Value.run m ρ

end Cert.ExpertsReferenceIdeal.Own

end
-- ==== Proof.ExMatch.lean ====
/-
  The experts call's result and its reference's at an index, over the extended reals.
-/
module

public import proofs.«01_k».proof.Proof.ExFinal
public import proofs.«01_k».proof.Proof.ExRef
public import Idealize.ShloMosaic.Lib.Pointwise

@[expose] public section

set_option maxRecDepth 16384

noncomputable section

namespace Cert.ExpertsMatch

open Idealize.ShloMosaic Idealize.ShloMosaic.TcCoe Idealize.ShloMosaic.Tactic
open Cert.ExpertsIdeal.Gen Cert.ExpertsIdeal.Own

/-- A row of the first layer. -/
def first (x : Fin 1024 → EReal) (w : Fin 1024 → Fin 2048 → EReal) (b : Fin 2048 → EReal) (f : Fin 2048) : EReal := ∑ d, x d * w d f + b f

/-- What the second layer takes of a gate and the other half. -/
def act (g u : EReal) : EReal :=
  (min (Ideal.ofBits FTy.f32 1088421888#32) (max (Ideal.ofBits FTy.f32 3235905536#32) u) + 1)
    * (min g (Ideal.ofBits FTy.f32 1088421888#32) * Ideal.logistic (Ideal.ofBits FTy.f32 1071242019#32 * min g (Ideal.ofBits FTy.f32 1088421888#32)))

/-- A row through both layers. -/
def row (x : Fin 1024 → EReal) (w : Fin 1024 → Fin 2048 → EReal) (b : Fin 2048 → EReal) (d : Fin 1024 → Fin 1024 → EReal) (e : Fin 1024 → EReal)
    (l : Fin 1024) : EReal :=
  ∑ f : Fin 1024, act (first x w b ⟨f.val, by omega⟩) (first x w b ⟨1024 + f.val, by omega⟩) * d f l + e l

/-- A lane of a row. -/
def lane (l : Fin 1024) : Fin 8 × Fin 128 := (⟨l.val / 128, by omega⟩, ⟨l.val % 128, by omega⟩)

theorem kern (X : Cert.ExpertsIdeal.S512x8x128.Idx → Ideal .f32) (W : Cert.ExpertsIdeal.S1x1024x2048.Idx → Ideal .f32) (B : Cert.ExpertsIdeal.S1x1x2048.Idx → Ideal .f32)
    (D : Cert.ExpertsIdeal.S1x1024x1024.Idx → Ideal .f32) (E : Cert.ExpertsIdeal.S1x1x1024.Idx → Ideal .f32) (r : Fin 512) (a : Fin 8) (b : Fin 128) :
    outB (F := Ideal) X W B D E (ix3 r a b)
      = row (fun l => X (ix3 r (lane l).1 (lane l).2)) (fun k f => W (ix3 0 k f)) (fun f => B (ix3 0 0 f)) (fun f l => D (ix3 0 f l))
          (fun l => E (ix3 0 0 l)) ⟨a.val * 128 + b.val, by omega⟩ := by
  unfold outB
  pointwise [k0_pay1, k0_pay2, k0_pay3, k0_pay4]
  rfl

section Reference

variable (xs : FVec Ideal Cert.ExpertsReferenceIdeal.S2129920x8x128 .f32) (w : FVec Ideal Cert.ExpertsReferenceIdeal.S32x1024x2048 .f32)
    (b : FVec Ideal Cert.ExpertsReferenceIdeal.S32x2048 .f32) (d : FVec Ideal Cert.ExpertsReferenceIdeal.S32x1024x1024 .f32)
    (e : FVec Ideal Cert.ExpertsReferenceIdeal.S32x1024 .f32)

theorem gateUp_at (q : Fin 32) (r : Fin 66560) (f : Fin 2048) :
    Cert.ExpertsReferenceIdeal.Own.gateUp xs w b (ix3 q r f)
      = first (fun l => xs (ix3 ⟨q.val * 66560 + r.val, by omega⟩ (lane l).1 (lane l).2)) (fun k f => w (ix3 q k f)) (fun f => b (ix2 q f)) f := by
  unfold Cert.ExpertsReferenceIdeal.Own.gateUp
  pointwise
  rfl

theorem acted_at (q : Fin 32) (r : Fin 66560) (f : Fin 1024) :
    Cert.ExpertsReferenceIdeal.Own.acted xs w b (ix3 q r f)
      = act (Cert.ExpertsReferenceIdeal.Own.gateUp xs w b (ix3 q r ⟨f.val, by omega⟩)) (Cert.ExpertsReferenceIdeal.Own.gateUp xs w b (ix3 q r ⟨1024 + f.val, by omega⟩)) := by
  unfold Cert.ExpertsReferenceIdeal.Own.acted Cert.ExpertsReferenceIdeal.Own.gate
  pointwise
  rfl

theorem out_at (i : Fin 2129920) (a : Fin 8) (l : Fin 128) :
    Cert.ExpertsReferenceIdeal.Own.out xs w b d e (ix3 i a l)
      = row (fun l => xs (ix3 i (lane l).1 (lane l).2)) (fun k f => w (ix3 ⟨i.val / 66560, by omega⟩ k f)) (fun f => b (ix2 ⟨i.val / 66560, by omega⟩ f))
          (fun f l => d (ix3 ⟨i.val / 66560, by omega⟩ f l)) (fun l => e (ix2 ⟨i.val / 66560, by omega⟩ l)) ⟨a.val * 128 + l.val, by omega⟩ := by
  unfold Cert.ExpertsReferenceIdeal.Own.out
  pointwise
  have hi : ∀ p, (⟨i.val / 66560 * 66560 + i.val % 66560, p⟩ : Fin 2129920) = i := fun p =>
    Fin.ext (show i.val / 66560 * 66560 + i.val % 66560 = i.val by omega)
  simp only [acted_at, gateUp_at, hi]
  rfl

end Reference

section Result

open Cert.ExpertsIdeal

variable (m : (ℓ : Loc nD τ sig) → Buf (Elt Ideal) ℓ) (c : Dev nD)

theorem V_b : V m c main_v0 = shapeCast S32x1x2048 (m ((c : Thread nD τ).loc main_arg5)) shapeCasts_S32x2048_S32x1x2048 := by
  change StableHlo.after hostOps0 (fun b => m (c, b)) _ = _
  unfold hostOps0
  after_results
  rfl
theorem V_e : V m c main_v1 = shapeCast S32x1x1024 (m ((c : Thread nD τ).loc main_arg7)) shapeCasts_S32x1024_S32x1x1024 := by
  change StableHlo.after hostOps0 (fun b => m (c, b)) _ = _
  unfold hostOps0
  after_results
  rfl

theorem bias_at (x : S32x2048.Idx → Ideal .f32) (hc) (q : Fin 32) (j : Fin 2048) : shapeCast S32x1x2048 x hc (ix3 q 0 j) = x (ix2 q j) := by
  pointwise
theorem bias_at' (x : S32x1024.Idx → Ideal .f32) (hc) (q : Fin 32) (j : Fin 1024) : shapeCast S32x1x1024 x hc (ix3 q 0 j) = x (ix2 q j) := by
  pointwise

/-- The call's rows are the reference's of the same arrays. -/
theorem result_match :
    resAll m c = Cert.ExpertsReferenceIdeal.Own.out (F := Ideal) (m ((c : Thread nD τ).loc main_arg3)) (m ((c : Thread nD τ).loc main_arg4))
      (m ((c : Thread nD τ).loc main_arg5)) (m ((c : Thread nD τ).loc main_arg6)) (m ((c : Thread nD τ).loc main_arg7)) := by
  funext i
  obtain ⟨i, a, l, rfl⟩ : ∃ (q : Fin 2129920) (a : Fin 8) (l : Fin 128), i = ix3 q a l := ⟨i 0, i 1, i 2, eq_ix3 i⟩
  rw [out_at]
  show resB m c (i.val / 512) (i.val / 512 / 130) (ix3 (⟨i.val % 512, Nat.mod_lt _ (by decide)⟩ : Fin 512) a l) = _
  unfold resB
  rw [kern]
  have hq : i.val / 66560 < 32 := by omega
  have hx : ∀ p, (⟨(512 * (i.val / 512) + i.val % 512) % 2129920, p⟩ : Fin 2129920) = i := fun p =>
    Fin.ext (show (512 * (i.val / 512) + i.val % 512) % 2129920 = i.val by omega)
  have he : ∀ p, (⟨i.val / 512 / 130 % 32, p⟩ : Fin 32) = ⟨i.val / 66560, hq⟩ := fun p =>
    Fin.ext (show i.val / 512 / 130 % 32 = i.val / 66560 by omega)
  have e1 : ∀ k : Fin 1024, xB m c (i.val / 512) (ix3 (⟨i.val % 512, Nat.mod_lt _ (by decide)⟩ : Fin 512) (lane k).1 (lane k).2)
      = (m ((c : Thread nD τ).loc main_arg3) : S2129920x8x128.Idx → Ideal .f32) (ix3 i (lane k).1 (lane k).2) := fun k => by
    rw [← V_of m c main_arg3 (by decide) (by decide)]
    exact congrArg (fun q => (V m c main_arg3 : S2129920x8x128.Idx → Ideal .f32) (ix3 q (lane k).1 (lane k).2)) (hx _)
  have e2 : ∀ (k : Fin 1024) (f : Fin 2048), wB m c (i.val / 512 / 130) (ix3 0 k f)
      = (m ((c : Thread nD τ).loc main_arg4) : S32x1024x2048.Idx → Ideal .f32) (ix3 ⟨i.val / 66560, hq⟩ k f) := fun k f => by
    rw [← V_of m c main_arg4 (by decide) (by decide)]
    exact congrArg (fun q => (V m c main_arg4 : S32x1024x2048.Idx → Ideal .f32) (ix3 q k f)) (he _)
  have e3 : ∀ f : Fin 2048, bB m c (i.val / 512 / 130) (ix3 0 0 f)
      = (m ((c : Thread nD τ).loc main_arg5) : S32x2048.Idx → Ideal .f32) (ix2 ⟨i.val / 66560, hq⟩ f) := fun f => by
    refine (congrArg (fun q => (V m c main_v0 : S32x1x2048.Idx → Ideal .f32) (ix3 q 0 f)) (he _)).trans ?_
    rw [V_b]
    exact bias_at _ _ _ f
  have e4 : ∀ (f l : Fin 1024), dB m c (i.val / 512 / 130) (ix3 0 f l)
      = (m ((c : Thread nD τ).loc main_arg6) : S32x1024x1024.Idx → Ideal .f32) (ix3 ⟨i.val / 66560, hq⟩ f l) := fun f l => by
    rw [← V_of m c main_arg6 (by decide) (by decide)]
    exact congrArg (fun q => (V m c main_arg6 : S32x1024x1024.Idx → Ideal .f32) (ix3 q f l)) (he _)
  have e5 : ∀ l : Fin 1024, eB m c (i.val / 512 / 130) (ix3 0 0 l)
      = (m ((c : Thread nD τ).loc main_arg7) : S32x1024.Idx → Ideal .f32) (ix2 ⟨i.val / 66560, hq⟩ l) := fun l => by
    refine (congrArg (fun q => (V m c main_v1 : S32x1x1024.Idx → Ideal .f32) (ix3 q 0 l)) (he _)).trans ?_
    rw [V_e]
    exact bias_at' _ _ _ l
  simp only [e1, e2, e3, e4, e5]

end Result

end Cert.ExpertsMatch

end
-- ==== Proof.ExSame.lean ====
/-
  The two printings of the experts call are one program.
-/
module

public import proofs.«01_k».proof.Defs
public import proofs.«01_k».proof.Proof.Gen.Experts
public import proofs.«01_k».proof.Proof.Gen.ExpertsIdeal

@[expose] public section

noncomputable section

namespace Cert.ExpertsSame

open Idealize.ShloMosaic Idealize.ShloMosaic.TcCoe
open Idealize.SL.Sem
attribute [local instance] Cert.Experts.Gen.facts Cert.ExpertsIdeal.Gen.facts
set_option maxHeartbeats 20000000
variable {F : FTy → Type} [FloatOps F]

theorem defs₀_eq : Cert.Experts.defs₀ (F := F) = Cert.ExpertsIdeal.defs₀ (F := F) := by
  unfold Cert.Experts.defs₀ Cert.ExpertsIdeal.defs₀
  refine congrArg Defs.onTc (funext fun p => funext fun a => ?_)
  match p, a with
  | ⟨0, _⟩, (t, s) => rfl

theorem defs_eq : Cert.Experts.defs (F := F) = Cert.ExpertsIdeal.defs (F := F) := congrArg (Pipeline.defs _) defs₀_eq

theorem main_eq : Cert.Experts.main (F := F) = Cert.ExpertsIdeal.main (F := F) := funext fun _ => rfl

end Cert.ExpertsSame

end
-- ==== Proof.ExPre.lean ====
/-
  What the experts call's precondition and the claim's mask say of its tables.
-/
module

public import proofs.«01_k».proof.Defs
public import proofs.«01_k».proof.Proof.ExTab
public import Idealize.ShloMosaic.Lib.ReduceAll
public import Idealize.ShloMosaic.Lib.Pointwise

@[expose] public section

noncomputable section

theorem Cert.Pre_blocks_in_place.facts : Cert.Pre_blocks_in_place.Facts where
  bcast_S_S548 := by decide
  bcast_S_S547 := by decide
  bcast_S1_S547_0 := by decide
  slices_S548_S547_1 := by decide
  slices_S548_S547_0 := by decide
  reducesTo_S548_S_d0 := by decide
  h_S_ := by decide
  reducesTo_S547_S_d0 := by decide
  shapeCasts_S1_S_ := by decide

theorem Cert.On_used_rows.facts : Cert.On_used_rows.Facts where
  bcast_S548_S1x548_1 := by decide
  bcast_S1x548_S4160x548_0_1 := by decide
  reducesTo_S4160x548_S4160_d1 := by decide
  h_S_ := by decide
  bcast_S4160_S4160x1x1x1_0 := by decide
  bcast_S4160x1x1x1_S4160x512x8x128_0_1_2_3 := by decide
  shapeCasts_S4160x512x8x128_S2129920x8x128 := by decide

namespace Cert.ExpertsWords

open Idealize.ShloMosaic Idealize.ShloMosaic.TcCoe Idealize.ShloMosaic.Tactic
attribute [local instance] Cert.Pre_blocks_in_place.facts Cert.On_used_rows.facts

/-- A fold by `or` from 0 that came out 1 met a 1. -/
theorem fold_ori {ι : Type} [DecidableEq ι] [Std.Commutative (IntOp.ori (w := 1))] [Std.Associative (IntOp.ori (w := 1))] (f : ι → BitVec 1) (l : Finset ι) :
    Finset.fold IntOp.ori 0#1 f l = 1#1 → ∃ n ∈ l, f n = 1#1 := by
  refine Finset.induction_on l (fun h => absurd (Finset.fold_empty.symm.trans h) (by decide)) fun a l ha ih h => ?_
  rw [Finset.fold_insert ha] at h
  rcases IntOp.ori_eq_one.1 h with h | h
  · exact ⟨a, Finset.mem_insert_self _ _, h⟩
  · obtain ⟨n, hn, h⟩ := ih h
    exact ⟨n, Finset.mem_insert_of_mem hn, h⟩

section Mask
open Cert.On_used_rows

variable {F : FTy → Type} [FloatOps F] (a0 a1 : IVec S548 32) (a2 : IVec S1 32) (a3 : FVec F S2129920x8x128 .f32) (a4 : FVec F S32x1024x2048 .f32)
  (a5 : FVec F S32x2048 .f32) (a6 : FVec F S32x1024x1024 .f32) (a7 : FVec F S32x1024 .f32)

/-- A row the mask selects is in a block the table names. -/
theorem used (i : S2129920x8x128.Idx) (h : Cert.On_used_rows.fn (F := F) a0 a1 a2 a3 a4 a5 a6 a7 i = 1#1) :
    ∃ n : Fin 548, (a1 (ix1 n)).toNat = (i 0).val / 512 := by
  obtain ⟨i, a, l, rfl⟩ : ∃ (q : Fin 2129920) (a : Fin 8) (l : Fin 128), i = ix3 q a l := ⟨i 0, i 1, i 2, eq_ix3 i⟩
  unfold Cert.On_used_rows.fn at h
  dsimp only at h
  pointwise at h
  obtain ⟨n, -, h⟩ := fold_ori _ _ h
  have h := IntOp.cmpi_eq.1 h
  refine ⟨n, ?_⟩
  show (a1 (ix1 n)).toNat = i.val / 512
  rw [← h, BitVec.toNat_ofNat]
  omega
end Mask

section Pre
open Cert.Pre_blocks_in_place

variable {F : FTy → Type} [FloatOps F] (a0 a1 : IVec S548 32) (a2 : IVec S1 32) (a3 : FVec F S2129920x8x128 .f32) (a4 : FVec F S32x1024x2048 .f32)
  (a5 : FVec F S32x2048 .f32) (a6 : FVec F S32x1024x1024 .f32) (a7 : FVec F S32x1024 .f32)
variable (h : Cert.Pre_blocks_in_place.fn (F := F) a0 a1 a2 a3 a4 a5 a6 a7 = fun _ => 1#1)
include h

theorem words : (∀ n : Fin 548, (a0 (ix1 n)).toNat < 32 ∧ 130 * (a0 (ix1 n)).toNat ≤ (a1 (ix1 n)).toNat ∧ (a1 (ix1 n)).toNat < 130 * (a0 (ix1 n)).toNat + 130)
    ∧ (0 < (a2 (ix1 (0 : Fin 1))).toNat ∧ (a2 (ix1 (0 : Fin 1))).toNat < 2 ^ 31)
    ∧ ∀ n : Fin 547, ¬ n.val + 1 < (a2 (ix1 (0 : Fin 1))).toNat → a1 (ix1 (⟨n.val + 1, by omega⟩ : Fin 548)) = a1 (ix1 (⟨n.val, by omega⟩ : Fin 548)) := by
  have e := congrFun h (fun a => a.elim0)
  unfold Cert.Pre_blocks_in_place.fn Cert.Pre_blocks_in_place.fn_part1 at e
  dsimp only at e
  obtain ⟨e, hpos⟩ := IntOp.andi_eq_one.1 e
  obtain ⟨e1, e2⟩ := IntOp.andi_eq_one.1 e
  haveI : Subsingleton S_.Idx := ⟨fun x y => funext fun a => a.elim0⟩
  have h1 := fun n : Fin 548 => Host.reduce_andi_all _ _ _ _ _ e1 (ix1 n)
  have h2 := fun n : Fin 547 => Host.reduce_andi_all _ _ _ _ _ e2 (ix1 n)
  pointwise at hpos
  refine ⟨fun n => ?_, ?_, fun n hn => ?_⟩
  · have e := h1 n
    pointwise at e
    generalize a0 (ix1 n) = x at e ⊢
    generalize a1 (ix1 n) = y at e ⊢
    obtain ⟨e, e4⟩ := IntOp.andi_eq_one.1 e
    obtain ⟨e, e3⟩ := IntOp.andi_eq_one.1 e
    obtain ⟨e1, e2⟩ := IntOp.andi_eq_one.1 e
    have e1 := IntOp.cmpi_sge.1 e1
    have e2 := IntOp.cmpi_slt.1 e2
    have e3 := IntOp.cmpi_sge.1 e3
    have e4 := IntOp.cmpi_slt.1 e4
    have hx : x.toNat < 32 := by
      simp only [BitVec.toInt, BitVec.toNat_ofNat] at e1 e2
      have := x.isLt
      omega
    have h3 : (IntOp.muli x 130#32).toInt = 130 * (x.toNat : ℤ) := by
      have : (IntOp.muli x 130#32).toNat = 130 * x.toNat := by
        show (x * 130#32).toNat = _
        rw [BitVec.toNat_mul, BitVec.toNat_ofNat]
        omega
      rw [BitVec.toInt_eq_toNat_cond, this, if_pos (by omega)]
      omega
    have h4 : (IntOp.addi (IntOp.muli x 130#32) 130#32).toInt = 130 * (x.toNat : ℤ) + 130 := by
      have : (IntOp.addi (IntOp.muli x 130#32) 130#32).toNat = 130 * x.toNat + 130 := by
        show (x * 130#32 + 130#32).toNat = _
        rw [BitVec.toNat_add, BitVec.toNat_mul, BitVec.toNat_ofNat]
        omega
      rw [BitVec.toInt_eq_toNat_cond, this, if_pos (by omega)]
      omega
    rw [h3] at e3
    rw [h4] at e4
    simp only [BitVec.toInt] at e3 e4
    have := y.isLt
    refine ⟨hx, ?_, ?_⟩ <;> omega
  · have e := IntOp.cmpi_sgt.1 hpos
    generalize a2 (ix1 (0 : Fin 1)) = x at e ⊢
    simp only [BitVec.toInt, BitVec.toNat_ofNat] at e
    have := x.isLt
    omega
  · have e := h2 n
    pointwise at e
    have hp := IntOp.cmpi_sgt.1 hpos
    have h3 : (⟨n.val + 1, by omega⟩ : Fin 548) = ⟨1 + n.val, by omega⟩ := Fin.ext (Nat.add_comm _ _)
    rw [h3]
    generalize a2 (ix1 (0 : Fin 1)) = x at e hn hp
    rcases IntOp.ori_eq_one.1 e with e | e
    · have e := IntOp.cmpi_slt.1 e
      have h4 : (IntOp.addi (BitVec.ofNat 32 n.val) 1#32).toInt = (n.val : ℤ) + 1 := by
        have : (IntOp.addi (BitVec.ofNat 32 n.val) 1#32).toNat = n.val + 1 := by
          show (BitVec.ofNat 32 n.val + 1#32).toNat = _
          rw [BitVec.toNat_add, BitVec.toNat_ofNat, BitVec.toNat_ofNat]
          omega
        rw [BitVec.toInt_eq_toNat_cond, this, if_pos (by omega)]
        omega
      rw [h4] at e
      simp only [BitVec.toInt, BitVec.toNat_ofNat] at e hp
      have := x.isLt
      omega
    · exact IntOp.cmpi_eq.1 e
end Pre

end Cert.ExpertsWords

end
-- ==== Proof.ExClaim.lean ====
/-
  The experts call's claims: the frames, and the equality with the reference on the blocks that the table names.
-/
module

public import proofs.«01_k».proof.Proof.ExMatch
public import proofs.«01_k».proof.Proof.ExSame
public import proofs.«01_k».proof.Proof.ExPre

@[expose] public section

noncomputable section

namespace Cert.ExpertsProof

open Cert.ExpertsIdeal Cert.ExpertsIdeal.Own
open Idealize.ShloMosaic Idealize.ShloMosaic.TcCoe
open Idealize.SL.Sem

attribute [local instance] Cert.Experts.Gen.facts Cert.ExpertsIdeal.Gen.facts Cert.ExpertsReferenceIdeal.Gen.facts Cert.Pre_blocks_in_place.facts Cert.On_used_rows.facts

/-- The precondition's words, of the tables the call reads. -/
theorem good {F : FTy → Type} [FloatOps F] (m : (ℓ : Loc nD τ sig) → Buf (Elt F) ℓ)
    (h : ∀ c : Dev nD, Cert.Pre_blocks_in_place.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) : Good (tbl m) := by
  obtain ⟨h1, ⟨h2, h3⟩, h4⟩ := Cert.ExpertsWords.words _ _ _ _ _ _ _ _ (h 0)
  refine ⟨fun n hn => (h1 ⟨n % 548, Nat.mod_lt _ (by decide)⟩).1, fun n hn => (h1 ⟨n % 548, Nat.mod_lt _ (by decide)⟩).2.1,
    fun n hn => (h1 ⟨n % 548, Nat.mod_lt _ (by decide)⟩).2.2, h2, h3, fun n hn hs => ?_⟩
  have e0 : at548 n = ix1 (⟨n, by omega⟩ : Fin 548) := congrArg ix1 (Fin.ext (Nat.mod_eq_of_lt (by omega)))
  have e1 : at548 (n + 1) = ix1 (⟨n + 1, by omega⟩ : Fin 548) := congrArg ix1 (Fin.ext (Nat.mod_eq_of_lt (by omega)))
  unfold biW
  rw [e0, e1]
  exact h4 ⟨n, by omega⟩ hs

theorem frame_of_eq (D) (M) (hD : D = defs (F := Bits)) (hM : M = main (F := Bits))
    (m : (ℓ : Loc nD τ sig) → Buf (Elt Bits) ℓ) (g : Dev nD → PrngReg) (hg : Good (tbl m)) :
    θ_run D (onTc (τ := τ) M) ⟨m, fun _ => 0, g⟩ (fun r => (∀ c : Dev nD,
      r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) := by
  subst hD hM
  exact (θ_run defs _ _).mono (fun _ r => ⟨fun c => (r.1 c).2, r.2⟩) (run_final (F := Bits) m g hg)

theorem frame_kernel : Cert.quiescent_Experts := fun m g h =>
  frame_of_eq Cert.Experts.defs Cert.Experts.main Cert.ExpertsSame.defs_eq Cert.ExpertsSame.main_eq m g (good (F := Bits) m h)

theorem frame_ideal : Cert.quiescent_ExpertsIdeal := fun m g h =>
  (θ_run defs _ _).mono (fun _ r => ⟨fun c => (r.1 c).2, r.2⟩) (run_final (F := Ideal) m g (good m h))

theorem frame_reference : Cert.quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Own.run_main (F := Ideal) m g)

theorem frame_reference_pre : Cert.quiescent_ExpertsReferenceIdeal_pre_blocks_in_place := fun m g _ =>
  (θ_run Cert.ExpertsReferenceIdeal.defs _ _).mono (fun r h => ⟨fun c => (h c).2, sem_eq_zero_of_no_sems (by decide) r.2⟩)
    (Cert.ExpertsReferenceIdeal.Own.run_main (F := Ideal) m g)

theorem value : Cert.algebraic_ExpertsIdeal_ExpertsReferenceIdeal_on_used_rows := fun m g m' g' hp e =>
  ⟨fun c => resAll m c,
    (θ_run defs _ _).mono (fun _ r c => ⟨fun i hi => (r.1 c).1 i (by
        obtain ⟨n, hn⟩ := Cert.ExpertsWords.used _ _ _ _ _ _ _ _ i hi
        refine ⟨n.val, n.isLt, ?_⟩
        obtain rfl : c = 0 := Subsingleton.elim _ _
        have e0 : at548 n.val = ix1 n := congrArg ix1 (Fin.ext (Nat.mod_eq_of_lt n.isLt))
        unfold biW
        rw [e0]
        exact hn), (r.1 c).2⟩) (run_final (F := Ideal) m g (good m hp)),
    (θ_run Cert.ExpertsReferenceIdeal.defs _ _).mono (fun r h c => ⟨fun i _ => congrFun ((h c).1.trans (by
        obtain ⟨e0, e1, e2, e3, e4, e5, e6, e7⟩ := e c
        rw [e3, e4, e5, e6, e7]
        exact (Cert.ExpertsMatch.result_match m c).symm)) i, (h c).2⟩)
      (Cert.ExpertsReferenceIdeal.Own.run_main (F := Ideal) m' g')⟩

end Cert.ExpertsProof

end
-- ==== Proof.AtMath.lean ====
module

public import Idealize.ShloMosaic.PureOps.Ideal
public import proofs.«01_k».proof.Proof.Gen.AttentionIdeal

/-!
The running softmax over the extended reals: a maximum and a weighted sum carried over the keys, started from
nothing, and what their quotient is.
-/

@[expose] public section

noncomputable section

namespace Cert.AttentionProof

open Idealize.ShloMosaic

/-- A real factor goes into a sum of extended reals. -/
theorem mul_sum_real {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- The weight `2 ^ (s − x)` at a real `x`. -/
theorem exp2_sub_real (s : EReal) (hs : s ≠ ⊤) (x : ℝ) :
    Ideal.exp2 (s - (x : EReal)) = ((Real.rpow 2 (-x) : ℝ) : EReal) * Ideal.exp2 s := by
  induction s with
  | bot => simp
  | top => exact absurd rfl hs
  | coe r =>
    rw [← EReal.coe_sub, Ideal.exp2_coe, Ideal.exp2_coe, ← EReal.coe_mul]
    congr 1
    show (2 : ℝ) ^ (r - x) = (2 : ℝ) ^ (-x) * (2 : ℝ) ^ r
    rw [← Real.rpow_add (by norm_num)]
    congr 1
    ring

/-- Nothing is left of any weight beside an infinite maximum. -/
theorem exp2_sub_top (s : EReal) : Ideal.exp2 (s - ⊤) = 0 := by
  rw [sub_eq_add_neg, EReal.neg_top, EReal.add_bot, Ideal.exp2_bot]

theorem rpow_pos' (x : ℝ) : 0 < Real.rpow 2 x := Real.rpow_pos_of_pos (by norm_num) x

/-- What a maximum of a family started from `⊥` can be. -/
def IsMax (N : ℕ) (s : ℕ → EReal) (M : EReal) : Prop :=
  (∀ k < N, s k ≤ M) ∧ (M = ⊥ ∨ ∃ k < N, M = s k)

theorem isMax_fold (N : ℕ) (s : ℕ → EReal) :
    IsMax N s (Finset.fold max ⊥ (fun k : Fin N => s k.val) Finset.univ) := by
  constructor
  · intro k hk
    exact Finset.le_fold_max _ |>.mpr (Or.inr ⟨⟨k, hk⟩, Finset.mem_univ _, le_rfl⟩)
  · rcases (Finset.le_fold_max (s := Finset.univ) (f := fun k : Fin N => s k.val) (b := ⊥) _).mp le_rfl with h | ⟨k, _, h⟩
    · exact Or.inl (le_bot_iff.mp h)
    · refine Or.inr ⟨k.val, k.isLt, le_antisymm h ?_⟩
      exact Finset.le_fold_max _ |>.mpr (Or.inr ⟨k, Finset.mem_univ _, le_rfl⟩)

/-- The plain weighted sum over the first `N` keys. -/
def wsum (N : ℕ) (s v : ℕ → EReal) : EReal := ∑ k ∈ Finset.range N, v k * Ideal.exp2 (s k)

/-- The carried state after the first `N` keys: maximum and weighted sums (one per lane). -/
def St (N : ℕ) (s : ℕ → EReal) {ι : Type} (v : ι → ℕ → EReal) (mx : EReal) (acc : ι → EReal) : Prop :=
  (∃ x : ℝ, mx = x ∧ (∀ k < N, s k ≠ ⊤) ∧ ∀ l, acc l = ((Real.rpow 2 (-x) : ℝ) : EReal) * wsum N s (v l)) ∨
  (mx = ⊥ ∧ (∀ k < N, s k = ⊥) ∧ ∀ l, acc l = 0) ∨
  (mx = ⊤ ∧ (∃ k < N, s k = ⊤) ∧ ∀ l, acc l = 0)

theorem st_zero (s : ℕ → EReal) {ι : Type} (v : ι → ℕ → EReal) : St 0 s v ⊥ (fun _ => 0) :=
  Or.inr (Or.inl ⟨rfl, fun k hk => absurd hk (by omega), fun _ => rfl⟩)

/-- One block of `n` further keys. -/
theorem st_step (N n : ℕ) (s : ℕ → EReal) {ι : Type} (v : ι → ℕ → EReal) (mx M : EReal) (acc : ι → EReal)
    (h : St N s v mx acc) (hM : IsMax n (fun k => s (N + k)) M) :
    St (N + n) s v (max mx M) (fun l => Ideal.exp2 (mx - max mx M) * acc l
      + ∑ k ∈ Finset.range n, v l (N + k) * Ideal.exp2 (s (N + k) - max mx M)) := by
  have hall : ∀ k < N + n, (k < N → s k ≠ ⊤) → (s k ≤ M ∨ k < N) := by
    intro k hk _
    by_cases hkN : k < N
    · exact Or.inr hkN
    · left
      have : s (N + (k - N)) ≤ M := hM.1 (k - N) (by omega)
      rwa [show N + (k - N) = k by omega] at this
  -- an infinite maximum
  by_cases htop : max mx M = ⊤
  · refine Or.inr (Or.inr ⟨htop, ?_, fun l => ?_⟩)
    · rcases max_choice mx M with e | e
      · rw [e] at htop
        rcases h with ⟨x, hx, _⟩ | ⟨hx, _⟩ | ⟨_, ⟨k, hk, hs⟩, _⟩
        · rw [hx] at htop; exact absurd htop (EReal.coe_ne_top x)
        · rw [hx] at htop; exact absurd htop bot_ne_top
        · exact ⟨k, by omega, hs⟩
      · rw [e] at htop
        rcases hM.2 with hb | ⟨k, hk, hs⟩
        · rw [hb] at htop; exact absurd htop bot_ne_top
        · exact ⟨N + k, by omega, by rw [← htop, hs]⟩
    · beta_reduce
      rw [htop, exp2_sub_top, zero_mul, zero_add]
      exact Finset.sum_eq_zero fun k _ => by rw [exp2_sub_top, mul_zero]
  have hmx : mx ≠ ⊤ := fun e => htop (by rw [e]; exact top_sup_eq M)
  have hMt : M ≠ ⊤ := fun e => htop (by rw [e]; exact sup_top_eq mx)
  have hsN : ∀ k < N, s k ≠ ⊤ := by
    rcases h with ⟨_, _, h, _⟩ | ⟨_, h, _⟩ | ⟨h, _⟩
    · exact h
    · intro k hk; rw [h k hk]; exact bot_ne_top
    · exact absurd h hmx
  have hs : ∀ k < N + n, s k ≠ ⊤ := by
    intro k hk
    rcases hall k hk (hsN k) with h | h
    · exact fun e => hMt (top_le_iff.mp (e ▸ h))
    · exact hsN k h
  by_cases hbot : max mx M = ⊥
  · have hmb : mx = ⊥ := le_bot_iff.mp (hbot ▸ le_max_left mx M)
    have hMb : M = ⊥ := le_bot_iff.mp (hbot ▸ le_max_right mx M)
    have hacc : (∀ k < N, s k = ⊥) ∧ ∀ l, acc l = 0 := by
      rcases h with ⟨x, hx, _⟩ | ⟨_, h, h'⟩ | ⟨h, _⟩
      · rw [hx] at hmb; exact absurd hmb (EReal.coe_ne_bot x)
      · exact ⟨h, h'⟩
      · exact absurd h hmx
    have hb : ∀ k < n, s (N + k) = ⊥ := fun k hk => le_bot_iff.mp (hMb ▸ hM.1 k hk)
    refine Or.inr (Or.inl ⟨hbot, fun k hk => ?_, fun l => ?_⟩)
    · by_cases hkN : k < N
      · exact hacc.1 k hkN
      · have := hb (k - N) (by omega)
        rwa [show N + (k - N) = k by omega] at this
    · beta_reduce
      rw [hacc.2 l, mul_zero, zero_add]
      refine Finset.sum_eq_zero fun k hk => ?_
      rw [hb k (Finset.mem_range.mp hk), hbot, sub_eq_add_neg, EReal.bot_add, Ideal.exp2_bot, mul_zero]
  · obtain ⟨y, hy⟩ : ∃ y : ℝ, max mx M = y := ⟨(max mx M).toReal, (EReal.coe_toReal htop hbot).symm⟩
    refine Or.inl ⟨y, hy, hs, fun l => ?_⟩
    beta_reduce
    rw [hy]
    have hblock : ∑ k ∈ Finset.range n, v l (N + k) * Ideal.exp2 (s (N + k) - (y : EReal))
        = ((Real.rpow 2 (-y) : ℝ) : EReal) * ∑ k ∈ Finset.range n, v l (N + k) * Ideal.exp2 (s (N + k)) := by
      rw [mul_sum_real _ (rpow_pos' _).le]
      refine Finset.sum_congr rfl fun k hk => ?_
      rw [exp2_sub_real _ (hs _ (by have := Finset.mem_range.mp hk; omega)), mul_left_comm]
    have hpast : Ideal.exp2 (mx - (y : EReal)) * acc l = ((Real.rpow 2 (-y) : ℝ) : EReal) * wsum N s (v l) := by
      rcases h with ⟨x, hx, _, ha⟩ | ⟨hx, hb, ha⟩ | ⟨hx, _⟩
      · rw [ha, hx, ← EReal.coe_sub, Ideal.exp2_coe, ← mul_assoc, ← EReal.coe_mul]
        congr 2
        show (2 : ℝ) ^ (x - y) * (2 : ℝ) ^ (-x) = (2 : ℝ) ^ (-y)
        rw [← Real.rpow_add (by norm_num)]
        congr 1
        ring
      · rw [ha, mul_zero, wsum, Finset.sum_eq_zero, mul_zero]
        intro k hk
        rw [hb k (Finset.mem_range.mp hk), Ideal.exp2_bot, mul_zero]
      · exact absurd hx hmx
    rw [hpast, hblock, ← EReal.left_distrib_of_nonneg_of_ne_top (by exact_mod_cast (rpow_pos' (-y)).le)
      (EReal.coe_ne_top _)]
    congr 1
    exact (Finset.sum_range_add (fun k => v l k * Ideal.exp2 (s k)) N n).symm

/-- A positive real factor cancels in a quotient. -/
theorem div_scale (c : ℝ) (hc : 0 < c) (a b : EReal) :
    Ideal.div ((c : EReal) * a) ((c : EReal) * b) = Ideal.div a b := by
  have hc0 : (c : EReal) ≠ 0 := by exact_mod_cast hc.ne'
  have hcp : (0 : EReal) < c := by exact_mod_cast hc
  unfold Ideal.div
  by_cases hb : b = 0
  · rw [if_pos (by rw [hb, mul_zero]), if_pos hb]
    have : (0 < (c : EReal) * a) ↔ 0 < a := by
      constructor
      · intro h
        by_contra hn
        rw [not_lt] at hn
        have := mul_le_mul_of_nonneg_left hn hcp.le
        rw [mul_zero] at this
        exact absurd h (not_lt.mpr this)
      · intro h
        exact EReal.mul_pos hcp h
    simp only [this]
  · rw [if_neg (mul_ne_zero hc0 hb), if_neg hb, EReal.mul_inv, mul_mul_mul_comm]
    have : (c : EReal) * (c : EReal)⁻¹ = 1 := by
      rw [← EReal.coe_inv, ← EReal.coe_mul, mul_inv_cancel₀ hc.ne', EReal.coe_one]
    rw [this, one_mul]

/-- The quotient of two carried sums is that of the weights taken beside the overall maximum, over every key:
    the ones past the first `N` see nothing. -/
theorem st_quot (N T : ℕ) (hNT : N ≤ T) (s : ℕ → EReal) {ι : Type} (v : ι → ℕ → EReal) (mx M : EReal) (acc : ι → EReal)
    (h : St N s v mx acc) (hM : IsMax T s M) (hrest : ∀ k, N ≤ k → k < T → s k = ⊥) (l l₁ : ι)
    (h1 : ∀ k, v l₁ k = 1) :
    Ideal.div (acc l) (acc l₁) = Ideal.div (∑ k ∈ Finset.range T, v l k * Ideal.exp2 (s k - M))
      (∑ k ∈ Finset.range T, Ideal.exp2 (s k - M)) := by
  have hw : ∀ l, wsum N s (v l) = wsum T s (v l) := by
    intro l
    obtain ⟨n, rfl⟩ := Nat.exists_eq_add_of_le hNT
    unfold wsum
    rw [Finset.sum_range_add, Finset.sum_eq_zero (s := Finset.range n), add_zero]
    intro k hk
    rw [hrest _ (by omega) (by have := Finset.mem_range.mp hk; omega), Ideal.exp2_bot, mul_zero]
  have hden : ∑ k ∈ Finset.range T, Ideal.exp2 (s k - M)
      = ∑ k ∈ Finset.range T, v l₁ k * Ideal.exp2 (s k - M) :=
    Finset.sum_congr rfl fun k _ => by rw [h1, one_mul]
  rw [hden]
  rcases h with ⟨x, hx, hs, ha⟩ | ⟨hx, hs, ha⟩ | ⟨hx, ⟨k, hk, hs⟩, ha⟩
  · have hsT : ∀ k < T, s k ≠ ⊤ := by
      intro k hk
      by_cases hkN : k < N
      · exact hs k hkN
      · rw [hrest k (by omega) hk]; exact bot_ne_top
    have hMt : M ≠ ⊤ := by
      rcases hM.2 with e | ⟨k, hk, e⟩
      · rw [e]; exact bot_ne_top
      · rw [e]; exact hsT k hk
    rw [ha, ha, div_scale _ (rpow_pos' _), hw, hw]
    by_cases hMb : M = ⊥
    · have hb : ∀ k < T, s k = ⊥ := fun k hk => le_bot_iff.mp (hMb ▸ hM.1 k hk)
      have e : ∀ l, ∑ k ∈ Finset.range T, v l k * Ideal.exp2 (s k - M) = wsum T s (v l) := by
        intro l
        refine Finset.sum_congr rfl fun k hk => ?_
        rw [hb k (Finset.mem_range.mp hk), sub_eq_add_neg, EReal.bot_add]
      rw [e, e]
    · obtain ⟨y, hy⟩ : ∃ y : ℝ, M = y := ⟨M.toReal, (EReal.coe_toReal hMt hMb).symm⟩
      have e : ∀ l, ∑ k ∈ Finset.range T, v l k * Ideal.exp2 (s k - M)
          = ((Real.rpow 2 (-y) : ℝ) : EReal) * wsum T s (v l) := by
        intro l
        unfold wsum
        rw [mul_sum_real _ (rpow_pos' _).le]
        refine Finset.sum_congr rfl fun k hk => ?_
        rw [hy, exp2_sub_real _ (hsT k (Finset.mem_range.mp hk)), mul_left_comm]
      rw [e, e, div_scale _ (rpow_pos' _)]
  · have hb : ∀ k < T, s k = ⊥ := by
      intro k hk
      by_cases hkN : k < N
      · exact hs k hkN
      · exact hrest k (by omega) hk
    have e : ∀ l, ∑ k ∈ Finset.range T, v l k * Ideal.exp2 (s k - M) = 0 := by
      intro l
      refine Finset.sum_eq_zero fun k hk => ?_
      rw [hb k (Finset.mem_range.mp hk), sub_eq_add_neg, EReal.bot_add, Ideal.exp2_bot, mul_zero]
    rw [e, e, ha, ha]
  · have hMt : M = ⊤ := top_le_iff.mp (hs ▸ hM.1 k (by omega))
    have e : ∀ l, ∑ k ∈ Finset.range T, v l k * Ideal.exp2 (s k - M) = 0 := by
      intro l
      refine Finset.sum_eq_zero fun k _ => ?_
      rw [hMt, exp2_sub_top, mul_zero]
    rw [e, e, ha, ha]

end Cert.AttentionProof

end

end
-- ==== Proof.AtArr.lean ====
/-
  The attention call: its arrays as the region finds them.
-/
module

public import proofs.«01_k».proof.Proof.Gen.AttentionIdeal.Value
public import proofs.«01_k».proof.Proof.AtMath
public import Idealize.ShloMosaic.Lib.Pointwise
public import Idealize.ShloMosaic.Lib.Pipeline.Value
public import Idealize.ShloMosaic.Lib.Pipeline.ValueKit

@[expose] public section

noncomputable section

namespace Cert.AttentionProof

open Idealize.ShloMosaic Idealize.ShloMosaic.TcCoe Idealize.ShloMosaic.Tactic
open Cert.AttentionIdeal Cert.AttentionIdeal.Gen

variable (m : (ℓ : Loc nD τ sig) → Buf (Elt Ideal) ℓ) (c : Dev nD)

/-- The arguments, by batch, position, head and lane. -/
def argQ (b : Fin 8) (p : Fin 8192) (h : Fin 8) (d : Fin 96) : EReal := (m ((c : Thread nD τ).loc main_arg0) : S8x8192x8x96.Idx → Ideal .f32) (ix4 b p h d)
def argK (b : Fin 8) (p : Fin 8192) (h : Fin 8) (d : Fin 96) : EReal := (m ((c : Thread nD τ).loc main_arg1) : S8x8192x8x96.Idx → Ideal .f32) (ix4 b p h d)
def argV (b : Fin 8) (p : Fin 8192) (h : Fin 8) (d : Fin 64) : EReal := (m ((c : Thread nD τ).loc main_arg2) : S8x8192x8x64.Idx → Ideal .f32) (ix4 b p h d)

theorem fin_div (h : Fin 8) (d : Fin 128) (p) : (⟨(128 * h.val + d.val) / 128, p⟩ : Fin 8) = h := Fin.ext (by show (128 * h.val + d.val) / 128 = h.val; omega)
theorem fin_mod (h : Fin 8) (d : Fin 128) (p) : (⟨(128 * h.val + d.val) % 128, p⟩ : Fin 128) = d := Fin.ext (by show (128 * h.val + d.val) % 128 = d.val; omega)

theorem cv0 : (FloatOps.sitofp FTy.f32 0#32 : Ideal .f32) = (0 : EReal) := by
  show ((((0#32 : BitVec 32).toInt : ℤ) : ℝ) : EReal) = 0
  simp

theorem V_q (b : Fin 8) (p : Fin 8192) (h : Fin 8) (d : Fin 128) :
    (V m c main_v7 : S8x8192x1024.Idx → Ideal .bf16) (ix3 b p ⟨128 * h.val + d.val, by omega⟩)
      = if hd : d.val < 96 then argQ m c b p h ⟨d.val, hd⟩ else 0 := by
  unfold V
  simp only [List.flatten_cons, List.flatten_nil, List.append_nil, List.cons_append, List.nil_append]
  after_results
  simp only [StableHlo.TRef.toBuf, StableHlo.TRef.ofBuf, cast_eq]
  pointwise
  simp only [fin_div, fin_mod]
  have hm : (128 * h.val + d.val) % 128 = d.val := by omega
  by_cases hd : d.val < 96
  · rw [dif_pos ⟨by omega, by omega⟩, dif_pos hd]
    exact congrArg (fun z : Fin 96 => argQ m c b p h z) (Fin.ext hm)
  · rw [dif_neg (by omega), dif_neg hd]
    exact cv0

theorem V_k (b : Fin 8) (p : Fin 8192) (h : Fin 8) (d : Fin 128) :
    (V m c main_v10 : S8x8192x1024.Idx → Ideal .bf16) (ix3 b p ⟨128 * h.val + d.val, by omega⟩)
      = if hd : d.val < 96 then argK m c b p h ⟨d.val, hd⟩ else 0 := by
  unfold V
  simp only [List.flatten_cons, List.flatten_nil, List.append_nil, List.cons_append, List.nil_append]
  after_results
  simp only [StableHlo.TRef.toBuf, StableHlo.TRef.ofBuf, cast_eq]
  pointwise
  simp only [fin_div, fin_mod]
  have hm : (128 * h.val + d.val) % 128 = d.val := by omega
  by_cases hd : d.val < 96
  · rw [dif_pos ⟨by omega, by omega⟩, dif_pos hd]
    exact congrArg (fun z : Fin 96 => argK m c b p h z) (Fin.ext hm)
  · rw [dif_neg (by omega), dif_neg hd]
    exact cv0

theorem pick (f : Fin 64 → EReal) (x d : ℕ) (A : Prop) [Decidable (A ∧ x < 65)] (z : EReal) (hm : x = d) (hA : A) (hz : z = 0) :
    (if h1 : A ∧ x < 65 then if h2 : x < 64 then f ⟨x, h2⟩ else 1 else z) = if hd : d < 64 then f ⟨d, hd⟩ else if d = 64 then 1 else 0 := by
  subst hm hz
  by_cases hd : x < 64
  · rw [dif_pos ⟨hA, by omega⟩]
    simp only [hd, dif_pos]
  · by_cases hd' : x = 64
    · rw [dif_pos ⟨hA, by omega⟩, dif_neg hd, dif_neg hd, if_pos hd']
    · rw [dif_neg (fun h => hd' (by omega)), dif_neg hd, if_neg hd']

theorem V_v (b : Fin 8) (p : Fin 8192) (h : Fin 8) (d : Fin 128) :
    (V m c main_v11 : S8x1024x8192.Idx → Ideal .bf16) (ix3 b ⟨128 * h.val + d.val, by omega⟩ p)
      = if hd : d.val < 64 then argV m c b p h ⟨d.val, hd⟩ else if d.val = 64 then 1 else 0 := by
  unfold V
  simp only [List.flatten_cons, List.flatten_nil, List.append_nil, List.cons_append, List.nil_append]
  after_results
  simp only [StableHlo.TRef.toBuf, StableHlo.TRef.ofBuf, cast_eq]
  pointwise
  simp only [fin_div, fin_mod]
  exact pick (fun z => argV m c b p h z) _ _ _ _ (by omega) (by omega) cv0

end Cert.AttentionProof

end
-- ==== Proof.AtIdx.lean ====
/-
  The attention call: which block each window names at a point.
-/
module

public import proofs.«01_k».proof.Proof.Gen.AttentionIdeal.Value
public import proofs.«01_k».proof.Proof.AtMath
public import Idealize.ShloMosaic.Lib.Pointwise
public import Idealize.ShloMosaic.Lib.Pipeline.Value
public import Idealize.ShloMosaic.Lib.Pipeline.ValueKit

@[expose] public section

noncomputable section

namespace Cert.AttentionProof

open Idealize.ShloMosaic Idealize.ShloMosaic.TcCoe Idealize.ShloMosaic.Tactic
open Cert.AttentionIdeal Cert.AttentionIdeal.Gen

variable (m : (ℓ : Loc nD τ sig) → Buf (Elt Ideal) ℓ) (c : Dev nD)

theorem idx0 : ∀ t : Fin cfg0.N, (cfg0.win 0).index t = ![t.val / 128, t.val / 8 % 16, 0] := by decide +kernel
theorem idx1 : ∀ t : Fin cfg0.N, (cfg0.win 1).index t = ![t.val / 128, min (t.val % 8) (t.val / 8 % 16 / 2), 0] := by decide +kernel
theorem idx2 : ∀ t : Fin cfg0.N, (cfg0.win 2).index t = ![t.val / 128, 0, min (t.val % 8) (t.val / 8 % 16 / 2)] := by decide +kernel

end Cert.AttentionProof

end
-- ==== Proof.AtBlk.lean ====
/-
  The attention call: its windows' blocks, read off their arrays.
-/
module

public import proofs.«01_k».proof.Proof.Gen.AttentionIdeal.Value
public import proofs.«01_k».proof.Proof.AtIdx
public import Idealize.ShloMosaic.Lib.Pointwise
public import Idealize.ShloMosaic.Lib.Pipeline.Value
public import Idealize.ShloMosaic.Lib.Pipeline.ValueKit

@[expose] public section

noncomputable section

namespace Cert.AttentionProof

open Idealize.ShloMosaic Idealize.ShloMosaic.TcCoe Idealize.ShloMosaic.Tactic
open Cert.AttentionIdeal Cert.AttentionIdeal.Gen

variable (m : (ℓ : Loc nD τ sig) → Buf (Elt Ideal) ℓ) (c : Dev nD)

theorem rd0 (t : Fin cfg0.N) (b : Fin 8) (u : Fin 16) (hb : t.val / 128 = b.val) (hu : t.val / 8 % 16 = u.val) (q : Fin 512) (l : Fin 1024)
    (A : Buf (Elt Ideal) ((c : Thread nD τ).loc (Pipeline.arrRef spec0 0))) :
    (((cfg0.win 0).blk t).view.read (Elt Ideal) A : S1x512x1024.Idx → Ideal .bf16) (ix3 0 q l) = (A : S8x8192x1024.Idx → Ideal .bf16) (ix3 b ⟨512 * u.val + q.val, by omega⟩ l) := by
  blk_ext [idx0 t]

theorem blk0 (t : Fin cfg0.N) (b : Fin 8) (u : Fin 16) (hb : t.val / 128 = b.val) (hu : t.val / 8 % 16 = u.val) (q : Fin 512) (l : Fin 1024) :
    (iblk m c 0 t : S1x512x1024.Idx → Ideal .bf16) (ix3 0 q l) = (V m c main_v7 : S8x8192x1024.Idx → Ideal .bf16) (ix3 b ⟨512 * u.val + q.val, by omega⟩ l) :=
  rd0 c t b u hb hu q l (V m c (Pipeline.arrRef spec0 0))

theorem rd1 (t : Fin cfg0.N) (b : Fin 8) (u : Fin 8) (hb : t.val / 128 = b.val) (hu : min (t.val % 8) (t.val / 8 % 16 / 2) = u.val) (q : Fin 1024) (l : Fin 1024)
    (A : Buf (Elt Ideal) ((c : Thread nD τ).loc (Pipeline.arrRef spec0 1))) :
    (((cfg0.win 1).blk t).view.read (Elt Ideal) A : S1x1024x1024.Idx → Ideal .bf16) (ix3 0 q l) = (A : S8x8192x1024.Idx → Ideal .bf16) (ix3 b ⟨1024 * u.val + q.val, by omega⟩ l) := by
  blk_ext [idx1 t]

theorem blk1 (t : Fin cfg0.N) (b : Fin 8) (u : Fin 8) (hb : t.val / 128 = b.val) (hu : min (t.val % 8) (t.val / 8 % 16 / 2) = u.val) (q : Fin 1024) (l : Fin 1024) :
    (iblk m c 1 t : S1x1024x1024.Idx → Ideal .bf16) (ix3 0 q l) = (V m c main_v10 : S8x8192x1024.Idx → Ideal .bf16) (ix3 b ⟨1024 * u.val + q.val, by omega⟩ l) :=
  rd1 c t b u hb hu q l (V m c (Pipeline.arrRef spec0 1))

theorem rd2 (t : Fin cfg0.N) (b : Fin 8) (u : Fin 8) (hb : t.val / 128 = b.val) (hu : min (t.val % 8) (t.val / 8 % 16 / 2) = u.val) (q : Fin 1024) (l : Fin 1024)
    (A : Buf (Elt Ideal) ((c : Thread nD τ).loc (Pipeline.arrRef spec0 2))) :
    (((cfg0.win 2).blk t).view.read (Elt Ideal) A : S1x1024x1024.Idx → Ideal .bf16) (ix3 0 l q) = (A : S8x1024x8192.Idx → Ideal .bf16) (ix3 b l ⟨1024 * u.val + q.val, by omega⟩) := by
  blk_ext [idx2 t]

theorem blk2 (t : Fin cfg0.N) (b : Fin 8) (u : Fin 8) (hb : t.val / 128 = b.val) (hu : min (t.val % 8) (t.val / 8 % 16 / 2) = u.val) (q : Fin 1024) (l : Fin 1024) :
    (iblk m c 2 t : S1x1024x1024.Idx → Ideal .bf16) (ix3 0 l q) = (V m c main_v11 : S8x1024x8192.Idx → Ideal .bf16) (ix3 b l ⟨1024 * u.val + q.val, by omega⟩) :=
  rd2 c t b u hb hu q l (V m c (Pipeline.arrRef spec0 2))

end Cert.AttentionProof

end
-- ==== Proof.AtRead.lean ====
/-
  The attention call: one block's part in the carried state, in words, and the readings its cases share.
-/
module

public import proofs.«01_k».proof.Proof.Gen.AttentionIdeal.Value
public import proofs.«01_k».proof.Proof.AtMath
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

/-- A key's score against a query, of one head, from their blocks. -/
def sc (x0 : Vec Ideal S1x512x1024 .bf16) (x1 : Vec Ideal S1x1024x1024 .bf16) (h : Fin 8) (k : Fin 1024) (q : Fin 512) : EReal :=
  ∑ d : Fin 128, x1 (ix3 0 k ⟨128 * h.val + d.val, by omega⟩) * x0 (ix3 0 q ⟨128 * h.val + d.val, by omega⟩)

/-- The chunk of a position, as the kernel's floor division words it. -/
def chunk (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32))) 1#32)
      (IntOp.cmpi .ne (IntOp.remsi .vector w 64#32) 0#32))
    (IntOp.subi (IntOp.divsi .vector w 64#32) 1#32) (IntOp.divsi .vector w 64#32)

/-- A key's score, masked where its chunk is after the query's. -/
def msc (x0 : Vec Ideal S1x512x1024 .bf16) (x1 : Vec Ideal S1x1024x1024 .bf16) (bq bk : ℕ) (h : Fin 8) (k : Fin 1024) (q : Fin 512) : EReal :=
  Scalar.select
    (IntOp.cmpi .sle (chunk (IntOp.addi (Scalar.muli (BitVec.ofNat 32 bk) 1024#32) (BitVec.ofNat 32 k.val)))
      (chunk (IntOp.addi (Scalar.muli (BitVec.ofNat 32 bq) 512#32) (BitVec.ofNat 32 q.val))))
    (sc x0 x1 h k q) ⊥

/-- The new maximum of a query, from the old one and a block's scores. -/
def newMax {n : ℕ} (m0 : EReal) (s : Fin n → EReal) : EReal := max m0 (Finset.fold max ⊥ s Finset.univ)

/-- The new weighted sum, from the old one and a block's scores and values. -/
def newAcc {n : ℕ} (m0 a0 : EReal) (s v : Fin n → EReal) : EReal :=
  Ideal.exp2 (m0 - newMax m0 s) * a0 + ∑ k : Fin n, v k * Ideal.exp2 (s k - newMax m0 s)

theorem fin8 {p : Fin 8 → Prop} (h0 : p 0) (h1 : p 1) (h2 : p 2) (h3 : p 3) (h4 : p 4) (h5 : p 5) (h6 : p 6) (h7 : p 7) :
    ∀ h, p h
  | 0 => h0 | 1 => h1 | 2 => h2 | 3 => h3 | 4 => h4 | 5 => h5 | 6 => h6 | 7 => h7

section

theorem skip_m (v : View sig .tc .vmem S8x512 .f32) (off size off' size' : Fin S8x512.rank → ℕ) (inb : ∀ x, off x + size x ≤ S8x512.size x)
    (inb' : ∀ x, off' x + size' x ≤ S8x512.size x)
    (w : (Rect.unit (s := S8x512) off size inb).shape.Idx → Elt Ideal .f32) (L : List (View.Piece (Elt Ideal) S8x512 .f32))
    (h : off' 0 + size' 0 ≤ off 0 ∨ off 0 + size 0 ≤ off' 0) :
    v.readCov (⟨Rect.unit off size inb, w⟩ :: L) (Rect.unit off' size' inb').toLoadRect
      = v.readCov L (Rect.unit off' size' inb').toLoadRect :=
  funext fun j => View.read_writes_cons_unit_of_not_mem v _ inb w L _ rfl (0 : Fin 2) (by
    have h0 : (j 0).val < size' 0 := (j 0).isLt
    show off' 0 + 1 * (j 0).val < off 0 ∨ off 0 + size 0 ≤ off' 0 + 1 * (j 0).val
    omega)

theorem hit_m (v : View sig .tc .vmem S8x512 .f32) (off size off' size' : Fin S8x512.rank → ℕ) (inb : ∀ x, off x + size x ≤ S8x512.size x)
    (inb' : ∀ x, off' x + size' x ≤ S8x512.size x)
    (w : (Rect.unit (s := S8x512) off size inb).shape.Idx → Elt Ideal .f32) (L : List (View.Piece (Elt Ideal) S8x512 .f32))
    (h0 : ∀ a, off a = 0) (h1 : ∀ a, size a = S8x512.size a) :
    v.readCov (⟨Rect.unit off size inb, w⟩ :: L) (Rect.unit off' size' inb').toLoadRect
      = fun j => w (fun a => ⟨((Rect.unit (s := S8x512) off' size' inb').toLoadRect.idx j a).val,
          lt_of_lt_of_eq ((Rect.unit (s := S8x512) off' size' inb').toLoadRect.idx j a).isLt (h1 a).symm⟩) :=
  funext fun j => View.read_writes_cons_unit_of_mem (off' := off) v v.junk inb w L _ _ rfl
    (fun a => by rw [h0 a]; exact (Nat.zero_add _).symm)

theorem skip_a (v : View sig .tc .vmem S8x128x512 .f32) (off size off' size' : Fin S8x128x512.rank → ℕ) (inb : ∀ x, off x + size x ≤ S8x128x512.size x)
    (inb' : ∀ x, off' x + size' x ≤ S8x128x512.size x)
    (w : (Rect.unit (s := S8x128x512) off size inb).shape.Idx → Elt Ideal .f32) (L : List (View.Piece (Elt Ideal) S8x128x512 .f32))
    (h : off' 0 + size' 0 ≤ off 0 ∨ off 0 + size 0 ≤ off' 0) :
    v.readCov (⟨Rect.unit off size inb, w⟩ :: L) (Rect.unit off' size' inb').toLoadRect
      = v.readCov L (Rect.unit off' size' inb').toLoadRect :=
  funext fun j => View.read_writes_cons_unit_of_not_mem v _ inb w L _ rfl (0 : Fin 3) (by
    have h0 : (j 0).val < size' 0 := (j 0).isLt
    show off' 0 + 1 * (j 0).val < off 0 ∨ off 0 + size 0 ≤ off' 0 + 1 * (j 0).val
    omega)

theorem hit_a (v : View sig .tc .vmem S8x128x512 .f32) (off size off' size' : Fin S8x128x512.rank → ℕ) (inb : ∀ x, off x + size x ≤ S8x128x512.size x)
    (inb' : ∀ x, off' x + size' x ≤ S8x128x512.size x)
    (w : (Rect.unit (s := S8x128x512) off size inb).shape.Idx → Elt Ideal .f32) (L : List (View.Piece (Elt Ideal) S8x128x512 .f32))
    (h0 : ∀ a, off a = 0) (h1 : ∀ a, size a = S8x128x512.size a) :
    v.readCov (⟨Rect.unit off size inb, w⟩ :: L) (Rect.unit off' size' inb').toLoadRect
      = fun j => w (fun a => ⟨((Rect.unit (s := S8x128x512) off' size' inb').toLoadRect.idx j a).val,
          lt_of_lt_of_eq ((Rect.unit (s := S8x128x512) off' size' inb').toLoadRect.idx j a).isLt (h1 a).symm⟩) :=
  funext fun j => View.read_writes_cons_unit_of_mem (off' := off) v v.junk inb w L _ _ rfl
    (fun a => by rw [h0 a]; exact (Nat.zero_add _).symm)

theorem same_m (v : View sig .tc .vmem S8x512 .f32) (off size : Fin S8x512.rank → ℕ) (inb inb' : ∀ x, off x + size x ≤ S8x512.size x)
    (w : (Rect.unit (s := S8x512) off size inb).shape.Idx → Elt Ideal .f32) (L : List (View.Piece (Elt Ideal) S8x512 .f32)) :
    v.readCov (⟨Rect.unit off size inb, w⟩ :: L) (Rect.unit off size inb').toLoadRect = w :=
  funext fun j => View.read_writes_cons_unit_of_mem (off' := off) v v.junk inb w L _ j rfl
    (fun a => by show off a + 1 * (j a).val = off a + (j a).val; rw [Nat.one_mul])

theorem same_a (v : View sig .tc .vmem S8x128x512 .f32) (off size : Fin S8x128x512.rank → ℕ) (inb inb' : ∀ x, off x + size x ≤ S8x128x512.size x)
    (w : (Rect.unit (s := S8x128x512) off size inb).shape.Idx → Elt Ideal .f32) (L : List (View.Piece (Elt Ideal) S8x128x512 .f32)) :
    v.readCov (⟨Rect.unit off size inb, w⟩ :: L) (Rect.unit off size inb').toLoadRect = w :=
  funext fun j => View.read_writes_cons_unit_of_mem (off' := off) v v.junk inb w L _ j rfl
    (fun a => by show off a + 1 * (j a).val = off a + (j a).val; rw [Nat.one_mul])

end

end Cert.AttentionProof

end
-- ==== Proof.AtSpec.lean ====
/-
  The attention call: what it computes, in words, and the positions' words.
-/
module

public import proofs.«01_k».proof.Proof.AtRead

@[expose] public section

noncomputable section

namespace Cert.AttentionProof

open Idealize.ShloMosaic Idealize.ShloMosaic.TcCoe Idealize.ShloMosaic.Tactic

/-- A key's masked score against a query. -/
def score (Q K : Fin 8 → Fin 8192 → Fin 8 → Fin 96 → EReal) (b : Fin 8) (h : Fin 8) (p k : Fin 8192) : EReal :=
  if k.val / 64 ≤ p.val / 64 then ∑ d : Fin 96, Q b p h d * K b k h d else ⊥

/-- A key's values: the head's, then a one, then zeros. -/
def vals (V : Fin 8 → Fin 8192 → Fin 8 → Fin 64 → EReal) (b : Fin 8) (h : Fin 8) (l : Fin 128) (k : Fin 8192) : EReal :=
  if hd : l.val < 64 then V b k h ⟨l.val, hd⟩ else if l.val = 64 then 1 else 0

/-- The scores' maximum. -/
def top (Q K : Fin 8 → Fin 8192 → Fin 8 → Fin 96 → EReal) (b : Fin 8) (h : Fin 8) (p : Fin 8192) : EReal :=
  Finset.fold max ⊥ (fun k => score Q K b h p k) Finset.univ

/-- The base-2 softmax of the scores over the values. -/
def attn (Q K : Fin 8 → Fin 8192 → Fin 8 → Fin 96 → EReal) (V : Fin 8 → Fin 8192 → Fin 8 → Fin 64 → EReal) (b : Fin 8) (p : Fin 8192) (h : Fin 8) (l : Fin 128) :
    EReal :=
  Ideal.div (∑ k, Ideal.exp2 (score Q K b h p k - top Q K b h p) * vals V b h l k) (∑ k, Ideal.exp2 (score Q K b h p k - top Q K b h p))

theorem host_word' : ∀ (a : Fin 128) (r : Fin 64), IntOp.divsi ArithUnit.host (BitVec.ofNat 32 (64 * a.val + r.val)) 64#32 = BitVec.ofNat 32 a.val := by
  decide +kernel
theorem host_word (n : ℕ) (hn : n < 8192) : IntOp.divsi ArithUnit.host (BitVec.ofNat 32 n) 64#32 = BitVec.ofNat 32 (n / 64) := by
  have := host_word' ⟨n / 64, by omega⟩ ⟨n % 64, by omega⟩
  rwa [show 64 * (n / 64) + n % 64 = n by omega] at this

theorem chunk_word' : ∀ (a : Fin 128) (r : Fin 64), chunk (BitVec.ofNat 32 (64 * a.val + r.val)) = BitVec.ofNat 32 a.val := by
  decide +kernel
theorem chunk_word (n : ℕ) (hn : n < 8192) : chunk (BitVec.ofNat 32 n) = BitVec.ofNat 32 (n / 64) := by
  have := chunk_word' ⟨n / 64, by omega⟩ ⟨n % 64, by omega⟩
  rwa [show 64 * (n / 64) + n % 64 = n by omega] at this

theorem pos_word' : ∀ a b : Fin 128, IntOp.cmpi .sle (BitVec.ofNat 32 a.val) (BitVec.ofNat 32 b.val) = if a.val ≤ b.val then 1#1 else 0#1 := by
  decide +kernel

theorem pick_word (a b : ℕ) (ha : a < 128) (hb : b < 128) (x y : EReal) :
    Scalar.select (IntOp.cmpi .sle (BitVec.ofNat 32 a) (BitVec.ofNat 32 b)) x y = if a ≤ b then x else y := by
  have h := pos_word' ⟨a, ha⟩ ⟨b, hb⟩
  simp only at h
  rw [h]
  by_cases hab : a ≤ b
  · rw [if_pos hab, if_pos hab]; rfl
  · rw [if_neg hab, if_neg hab]; rfl

theorem at_word (u n k : ℕ) (hu : u * n + k < 8192) :
    IntOp.addi (Scalar.muli (BitVec.ofNat 32 u) (BitVec.ofNat 32 n)) (BitVec.ofNat 32 k) = BitVec.ofNat 32 (u * n + k) := by
  show BitVec.ofNat 32 u * BitVec.ofNat 32 n + BitVec.ofNat 32 k = _
  apply BitVec.eq_of_toNat_eq
  simp

end Cert.AttentionProof

end
-- ==== Proof.AtStep.lean ====
/-
  The attention call: the carried state, and what one block of keys does to it.
-/
module

public import proofs.«01_k».proof.Proof.AtArr
public import proofs.«01_k».proof.Proof.AtBlk
public import proofs.«01_k».proof.Proof.AtSpec

@[expose] public section

noncomputable section

namespace Cert.AttentionProof

open Idealize.ShloMosaic Idealize.ShloMosaic.TcCoe Idealize.ShloMosaic.Tactic
open Cert.AttentionIdeal Cert.AttentionIdeal.Gen Cert.AttentionIdeal.Value

variable (m : (ℓ : Loc nD τ sig) → Buf (Elt Ideal) ℓ) (c : Dev nD)

/-- A query's scores and a head's values, by key number. -/
def sN (Q K : Fin 8 → Fin 8192 → Fin 8 → Fin 96 → EReal) (b h : Fin 8) (p : Fin 8192) (k : ℕ) : EReal := score Q K b h p ⟨k % 8192, Nat.mod_lt _ (by decide)⟩
def vN (V : Fin 8 → Fin 8192 → Fin 8 → Fin 64 → EReal) (b h : Fin 8) (l : Fin 128) (k : ℕ) : EReal := vals V b h l ⟨k % 8192, Nat.mod_lt _ (by decide)⟩

theorem st_new (N n : ℕ) (s : ℕ → EReal) (v : Fin 128 → ℕ → EReal) (mx : EReal) (acc : Fin 128 → EReal) (S : Fin n → EReal) (V : Fin 128 → Fin n → EReal)
    (hS : ∀ k, S k = s (N + k.val)) (hV : ∀ l k, V l k = v l (N + k.val)) (h : St N s v mx acc) :
    St (N + n) s v (newMax mx S) (fun l => newAcc mx (acc l) S (V l)) := by
  obtain rfl : S = fun k => s (N + k.val) := funext hS
  obtain rfl : V = fun l k => v l (N + k.val) := funext fun l => funext (hV l)
  have e := st_step N n s v mx _ acc h (isMax_fold n (fun k => s (N + k)))
  simp only [Finset.sum_range] at e
  exact e

theorem st_congr {N : ℕ} {s : ℕ → EReal} {v : Fin 128 → ℕ → EReal} {mx mx' : EReal} {acc acc' : Fin 128 → EReal} (h : St N s v mx acc) (e : mx' = mx)
    (e' : ∀ l, acc' l = acc l) : St N s v mx' acc' := by
  obtain rfl := e
  obtain rfl : acc' = acc := funext e'
  exact h

theorem coord1 : ∀ t : Fin cfg0.N, (grid0.coords t 1).val = t.val / 8 % 16 := by decide +kernel
theorem coord2 : ∀ t : Fin cfg0.N, (grid0.coords t 2).val = t.val % 8 := by decide +kernel

/-- The batch and the query of a point's row. -/
abbrev bat (n : ℕ) : Fin 8 := ⟨n / 128 % 8, Nat.mod_lt _ (by decide)⟩
abbrev qry (n : ℕ) (q : Fin 512) : Fin 8192 := ⟨512 * (n / 8 % 16) + q.val, by omega⟩

theorem sum_pad (f : Fin 96 → EReal) : (∑ d : Fin 128, if hd : d.val < 96 then f ⟨d.val, hd⟩ else 0) = ∑ d : Fin 96, f d := by
  refine (Fin.sum_univ_add (a := 96) (b := 32) (fun d : Fin (96 + 32) => if hd : d.val < 96 then f ⟨d.val, hd⟩ else 0)).trans ?_
  have e1 : ∀ d : Fin 96, (if hd : (Fin.castAdd 32 d).val < 96 then f ⟨(Fin.castAdd 32 d).val, hd⟩ else 0) = f d := fun d => dif_pos d.isLt
  have e2 : ∀ d : Fin 32, (if hd : (Fin.natAdd 96 d).val < 96 then f ⟨(Fin.natAdd 96 d).val, hd⟩ else 0) = (0 : EReal) := fun d =>
    dif_neg (by show ¬ 96 + d.val < 96; omega)
  rw [Finset.sum_congr rfl fun d _ => e1 d, Finset.sum_congr rfl fun d _ => e2 d, Finset.sum_const_zero, add_zero]

theorem sc_at (t : Fin cfg0.N) (hle : t.val % 8 ≤ t.val / 8 % 16 / 2) (h : Fin 8) (k : Fin 1024) (q : Fin 512) :
    sc (iblk m c 0 t) (iblk m c 1 t) h k q
      = ∑ d : Fin 96, argQ m c (bat t.val) (qry t.val q) h d * argK m c (bat t.val) ⟨1024 * (t.val % 8) + k.val, by omega⟩ h d := by
  have hN : t.val < 1024 := lt_of_lt_of_eq t.isLt N_0
  unfold sc
  refine (Finset.sum_congr rfl fun d _ => ?_).trans
    (sum_pad fun d => argQ m c (bat t.val) (qry t.val q) h d * argK m c (bat t.val) ⟨1024 * (t.val % 8) + k.val, by omega⟩ h d)
  have e1 := blk1 m c t (bat t.val) ⟨t.val % 8, by omega⟩ (by show _ = t.val / 128 % 8; omega) (by show _ = t.val % 8; omega) k ⟨128 * h.val + d.val, by omega⟩
  have e0 := blk0 m c t (bat t.val) ⟨t.val / 8 % 16, by omega⟩ (by show _ = t.val / 128 % 8; omega) rfl q ⟨128 * h.val + d.val, by omega⟩
  refine (congrArg₂ (fun x y : EReal => x * y) (e1.trans (V_k m c _ _ h d)) (e0.trans (V_q m c _ _ h d))).trans ?_
  by_cases hd : d.val < 96
  · rw [dif_pos hd, dif_pos hd, dif_pos hd]
    exact mul_comm _ _
  · rw [dif_neg hd, dif_neg hd, dif_neg hd]
    exact mul_zero _

theorem key_fin (t : Fin cfg0.N) (k : ℕ) (hk : k < 1024) (p) : (⟨(1024 * (t.val % 8) + k) % 8192, p⟩ : Fin 8192) = ⟨1024 * (t.val % 8) + k, by omega⟩ :=
  Fin.ext (by show (1024 * (t.val % 8) + k) % 8192 = 1024 * (t.val % 8) + k; omega)

theorem full_S (t : Fin cfg0.N) (hle : 2 * (t.val % 8) + 2 ≤ t.val / 8 % 16) (h : Fin 8) (q : Fin 512) (k : Fin 1024) :
    sc (iblk m c 0 t) (iblk m c 1 t) h k q = sN (argQ m c) (argK m c) (bat t.val) h (qry t.val q) (1024 * (t.val % 8) + k.val) := by
  rw [sc_at m c t (by omega)]
  unfold sN
  rw [key_fin t k.val k.isLt]
  unfold score
  rw [if_pos]
  show (1024 * (t.val % 8) + k.val) / 64 ≤ (512 * (t.val / 8 % 16) + q.val) / 64
  omega

theorem mask_S (t : Fin cfg0.N) (hle : t.val % 8 ≤ t.val / 8 % 16 / 2) (h : Fin 8) (q : Fin 512) (k : Fin 1024) :
    msc (iblk m c 0 t) (iblk m c 1 t) (grid0.coords t 1).val (grid0.coords t 2).val h k q
      = sN (argQ m c) (argK m c) (bat t.val) h (qry t.val q) (1024 * (t.val % 8) + k.val) := by
  unfold msc
  rw [sc_at m c t hle, coord1, coord2, at_word _ _ _ (by omega), at_word _ _ _ (by omega), chunk_word _ (by omega), chunk_word _ (by omega),
    pick_word _ _ (by omega) (by omega)]
  unfold sN
  rw [key_fin t k.val k.isLt]
  unfold score
  refine if_congr ?_ rfl rfl
  show (t.val % 8 * 1024 + k.val) / 64 ≤ (t.val / 8 % 16 * 512 + q.val) / 64 ↔ (1024 * (t.val % 8) + k.val) / 64 ≤ (512 * (t.val / 8 % 16) + q.val) / 64
  rw [Nat.mul_comm _ 1024, Nat.mul_comm _ 512]

theorem val_V (t : Fin cfg0.N) (hle : t.val % 8 ≤ t.val / 8 % 16 / 2) (h : Fin 8) (l : Fin 128) (k : Fin 1024) :
    (iblk m c 2 t : S1x1024x1024.Idx → Ideal .bf16) (ix3 0 ⟨128 * h.val + l.val, by omega⟩ k) = vN (argV m c) (bat t.val) h l (1024 * (t.val % 8) + k.val) := by
  have hN : t.val < 1024 := lt_of_lt_of_eq t.isLt N_0
  have e := blk2 m c t (bat t.val) ⟨t.val % 8, by omega⟩ (by show _ = t.val / 128 % 8; omega) (by show _ = t.val % 8; omega) k ⟨128 * h.val + l.val, by omega⟩
  refine (e.trans (V_v m c _ _ h l)).trans ?_
  unfold vN
  rw [key_fin t k.val k.isLt]
  rfl

/-- The state a point leaves, and the one it finds. -/
def Inv (n : ℕ) (o : Vec Ideal S1x512x1024 .bf16 × Vec Ideal S8x512 .f32 × Vec Ideal S8x128x512 .f32) : Prop := ∀ (h : Fin 8) (q : Fin 512),
  St (min (1024 * (n % 8 + 1)) (512 * (n / 8 % 16 + 1))) (sN (argQ m c) (argK m c) (bat n) h (qry n q)) (vN (argV m c) (bat n) h) (o.2.1 (ix2 h q))
    (fun l => o.2.2 (ix3 h l q))
def Pre (n : ℕ) (o : Vec Ideal S1x512x1024 .bf16 × Vec Ideal S8x512 .f32 × Vec Ideal S8x128x512 .f32) : Prop := ∀ (h : Fin 8) (q : Fin 512),
  St (min (1024 * (n % 8)) (512 * (n / 8 % 16 + 1))) (sN (argQ m c) (argK m c) (bat n) h (qry n q)) (vN (argV m c) (bat n) h) (o.2.1 (ix2 h q))
    (fun l => o.2.2 (ix3 h l q))

end Cert.AttentionProof

end
-- ==== Proof.AtCaseA.lean ====
/-
  The attention call, case A: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sA_0 (hc0 : cond0_0 i) (hc1 : ¬cond0_1 i) (hc2 : cond0_2 i) (hc3 : ¬cond0_3 i) (hc4 : ¬cond0_4 i) (q : Fin 512) : ∀ h : Fin 8,
    sout0_A_0 (F := Ideal) c i arg3 harg3 arg4 harg4 arg5 harg5 arg6 harg6 arg7 harg7 arg8 harg8 hc0 hc1 hc2 hc3 hc4 x0 x1 x2 (ix2 h q) = newMax ((k0_pay169 (F := Ideal)) (ix2 h q)) (fun k : Fin 512 => msc x0 x1 (i 1).val (i 2).val h ⟨k.val, by omega⟩ q) := by
  unfold sout0_A_0 kernelRun0_A
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

set_option maxHeartbeats 4000000 in
theorem sA_1 (hc0 : cond0_0 i) (hc1 : ¬cond0_1 i) (hc2 : cond0_2 i) (hc3 : ¬cond0_3 i) (hc4 : ¬cond0_4 i) (q : Fin 512) (l : Fin 128) : ∀ h : Fin 8,
    sout0_A_1 (F := Ideal) c i arg3 harg3 arg4 harg4 arg5 harg5 arg6 harg6 arg7 harg7 arg8 harg8 hc0 hc1 hc2 hc3 hc4 x0 x1 x2 (ix3 h l q) = newAcc ((k0_pay169 (F := Ideal)) (ix2 h q)) ((k0_pay170 (F := Ideal)) (ix3 h l q)) (fun k : Fin 512 => msc x0 x1 (i 1).val (i 2).val h ⟨k.val, by omega⟩ q) (fun k : Fin 512 => x2 (ix3 0 ⟨128 * h.val + l.val, by omega⟩ ⟨k.val, by omega⟩)) := by
  unfold sout0_A_1 kernelRun0_A
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

end Cert.AttentionProof

end
-- ==== Proof.AtCaseD.lean ====
/-
  The attention call, case D: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sD_0 (hc0 : cond0_0 i) (hc1 : ¬cond0_1 i) (hc2 : ¬cond0_2 i) (hc3 : cond0_3 i) (hc4 : ¬cond0_4 i) (q : Fin 512) : ∀ h : Fin 8,
    sout0_D_0 (F := Ideal) c i arg3 harg3 arg4 harg4 arg5 harg5 arg6 harg6 arg7 harg7 arg8 harg8 hc0 hc1 hc2 hc3 hc4 x0 x1 x2 (ix2 h q) = newMax ((k0_pay169 (F := Ideal)) (ix2 h q)) (fun k : Fin 1024 => msc x0 x1 (i 1).val (i 2).val h k q) := by
  unfold sout0_D_0 kernelRun0_D
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

set_option maxHeartbeats 4000000 in
theorem sD_1 (hc0 : cond0_0 i) (hc1 : ¬cond0_1 i) (hc2 : ¬cond0_2 i) (hc3 : cond0_3 i) (hc4 : ¬cond0_4 i) (q : Fin 512) (l : Fin 128) : ∀ h : Fin 8,
    sout0_D_1 (F := Ideal) c i arg3 harg3 arg4 harg4 arg5 harg5 arg6 harg6 arg7 harg7 arg8 harg8 hc0 hc1 hc2 hc3 hc4 x0 x1 x2 (ix3 h l q) = newAcc ((k0_pay169 (F := Ideal)) (ix2 h q)) ((k0_pay170 (F := Ideal)) (ix3 h l q)) (fun k : Fin 1024 => msc x0 x1 (i 1).val (i 2).val h k q) (fun k : Fin 1024 => x2 (ix3 0 ⟨128 * h.val + l.val, by omega⟩ k)) := by
  unfold sout0_D_1 kernelRun0_D
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

end Cert.AttentionProof

end
-- ==== Proof.AtCaseE.lean ====
/-
  The attention call, case E: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sE_0 (hc0 : cond0_0 i) (hc1 : cond0_1 i) (hc2 : ¬cond0_2 i) (hc3 : ¬cond0_3 i) (hc4 : ¬cond0_4 i) (q : Fin 512) : ∀ h : Fin 8,
    sout0_E_0 (F := Ideal) c i arg3 harg3 arg4 harg4 arg5 harg5 arg6 harg6 arg7 harg7 arg8 harg8 hc0 hc1 hc2 hc3 hc4 x0 x1 x2 (ix2 h q) = newMax ((k0_pay169 (F := Ideal)) (ix2 h q)) (fun k : Fin 1024 => sc x0 x1 h k q) := by
  unfold sout0_E_0 kernelRun0_E
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl

set_option maxHeartbeats 4000000 in
theorem sE_1 (hc0 : cond0_0 i) (hc1 : cond0_1 i) (hc2 : ¬cond0_2 i) (hc3 : ¬cond0_3 i) (hc4 : ¬cond0_4 i) (q : Fin 512) (l : Fin 128) : ∀ h : Fin 8,
    sout0_E_1 (F := Ideal) c i arg3 harg3 arg4 harg4 arg5 harg5 arg6 harg6 arg7 harg7 arg8 harg8 hc0 hc1 hc2 hc3 hc4 x0 x1 x2 (ix3 h l q) = newAcc ((k0_pay169 (F := Ideal)) (ix2 h q)) ((k0_pay170 (F := Ideal)) (ix3 h l q)) (fun k : Fin 1024 => sc x0 x1 h k q) (fun k : Fin 1024 => x2 (ix3 0 ⟨128 * h.val + l.val, by omega⟩ k)) := by
  unfold sout0_E_1 kernelRun0_E
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl

end Cert.AttentionProof

end
-- ==== Proof.AtCaseF.lean ====
/-
  The attention call, case F: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sF_0 (hc0 : ¬cond0_0 i) (hc1 : ¬cond0_1 i) (hc2 : cond0_2 i) (hc3 : ¬cond0_3 i) (hc4 : ¬cond0_4 i) (q : Fin 512) : ∀ h : Fin 8,
    sout0_F_0 (F := Ideal) c i arg3 harg3 arg4 harg4 arg5 harg5 arg6 harg6 arg7 harg7 arg8 harg8 hc0 hc1 hc2 hc3 hc4 x0 x1 x2 xs0 xs1 (ix2 h q) = newMax (xs0 (ix2 h q)) (fun k : Fin 512 => msc x0 x1 (i 1).val (i 2).val h ⟨k.val, by omega⟩ q) := by
  unfold sout0_F_0 kernelRun0_F
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

set_option maxHeartbeats 4000000 in
theorem sF_1 (hc0 : ¬cond0_0 i) (hc1 : ¬cond0_1 i) (hc2 : cond0_2 i) (hc3 : ¬cond0_3 i) (hc4 : ¬cond0_4 i) (q : Fin 512) (l : Fin 128) : ∀ h : Fin 8,
    sout0_F_1 (F := Ideal) c i arg3 harg3 arg4 harg4 arg5 harg5 arg6 harg6 arg7 harg7 arg8 harg8 hc0 hc1 hc2 hc3 hc4 x0 x1 x2 xs0 xs1 (ix3 h l q) = newAcc (xs0 (ix2 h q)) (xs1 (ix3 h l q)) (fun k : Fin 512 => msc x0 x1 (i 1).val (i 2).val h ⟨k.val, by omega⟩ q) (fun k : Fin 512 => x2 (ix3 0 ⟨128 * h.val + l.val, by omega⟩ ⟨k.val, by omega⟩)) := by
  unfold sout0_F_1 kernelRun0_F
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

end Cert.AttentionProof

end
-- ==== Proof.AtCaseG.lean ====
/-
  The attention call, case G: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sG_0 (hc0 : ¬cond0_0 i) (hc1 : ¬cond0_1 i) (hc2 : ¬cond0_2 i) (hc3 : cond0_3 i) (hc4 : ¬cond0_4 i) (q : Fin 512) : ∀ h : Fin 8,
    sout0_G_0 (F := Ideal) c i arg3 harg3 arg4 harg4 arg5 harg5 arg6 harg6 arg7 harg7 arg8 harg8 hc0 hc1 hc2 hc3 hc4 x0 x1 x2 xs0 xs1 (ix2 h q) = newMax (xs0 (ix2 h q)) (fun k : Fin 1024 => msc x0 x1 (i 1).val (i 2).val h k q) := by
  unfold sout0_G_0 kernelRun0_G
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

set_option maxHeartbeats 4000000 in
theorem sG_1 (hc0 : ¬cond0_0 i) (hc1 : ¬cond0_1 i) (hc2 : ¬cond0_2 i) (hc3 : cond0_3 i) (hc4 : ¬cond0_4 i) (q : Fin 512) (l : Fin 128) : ∀ h : Fin 8,
    sout0_G_1 (F := Ideal) c i arg3 harg3 arg4 harg4 arg5 harg5 arg6 harg6 arg7 harg7 arg8 harg8 hc0 hc1 hc2 hc3 hc4 x0 x1 x2 xs0 xs1 (ix3 h l q) = newAcc (xs0 (ix2 h q)) (xs1 (ix3 h l q)) (fun k : Fin 1024 => msc x0 x1 (i 1).val (i 2).val h k q) (fun k : Fin 1024 => x2 (ix3 0 ⟨128 * h.val + l.val, by omega⟩ k)) := by
  unfold sout0_G_1 kernelRun0_G
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

end Cert.AttentionProof

end
-- ==== Proof.AtCaseH.lean ====
/-
  The attention call, case H: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sH_0 (hc0 : ¬cond0_0 i) (hc1 : cond0_1 i) (hc2 : ¬cond0_2 i) (hc3 : ¬cond0_3 i) (hc4 : ¬cond0_4 i) (q : Fin 512) : ∀ h : Fin 8,
    sout0_H_0 (F := Ideal) c i arg3 harg3 arg4 harg4 arg5 harg5 arg6 harg6 arg7 harg7 arg8 harg8 hc0 hc1 hc2 hc3 hc4 x0 x1 x2 xs0 xs1 (ix2 h q) = newMax (xs0 (ix2 h q)) (fun k : Fin 1024 => sc x0 x1 h k q) := by
  unfold sout0_H_0 kernelRun0_H
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_mem _ _ _ _ _ _ (ix2 0 q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl

set_option maxHeartbeats 4000000 in
theorem sH_1 (hc0 : ¬cond0_0 i) (hc1 : cond0_1 i) (hc2 : ¬cond0_2 i) (hc3 : ¬cond0_3 i) (hc4 : ¬cond0_4 i) (q : Fin 512) (l : Fin 128) : ∀ h : Fin 8,
    sout0_H_1 (F := Ideal) c i arg3 harg3 arg4 harg4 arg5 harg5 arg6 harg6 arg7 harg7 arg8 harg8 hc0 hc1 hc2 hc3 hc4 x0 x1 x2 xs0 xs1 (ix3 h l q) = newAcc (xs0 (ix2 h q)) (xs1 (ix3 h l q)) (fun k : Fin 1024 => sc x0 x1 h k q) (fun k : Fin 1024 => x2 (ix3 0 ⟨128 * h.val + l.val, by omega⟩ k)) := by
  unfold sout0_H_1 kernelRun0_H
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl
  · rw [View.read_writes_cons_unit_of_mem _ _ _ _ _ _ (ix3 0 l q) rfl (fun a => by fin_cases a <;> simp)]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay171]
    rfl

end Cert.AttentionProof

end
-- ==== Proof.AtCaseI.lean ====
/-
  The attention call, case I: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sI_0 (hc0 : ¬cond0_0 i) (hc1 : ¬cond0_1 i) (hc2 : cond0_2 i) (hc3 : ¬cond0_3 i) (hc4 : cond0_4 i) (q : Fin 512) : ∀ h : Fin 8,
    sout0_I_0 (F := Ideal) c i arg3 harg3 arg4 harg4 arg5 harg5 arg6 harg6 arg7 harg7 arg8 harg8 hc0 hc1 hc2 hc3 hc4 x0 x1 x2 xs0 xs1 (ix2 h q) = newMax (xs0 (ix2 h q)) (fun k : Fin 512 => msc x0 x1 (i 1).val (i 2).val h ⟨k.val, by omega⟩ q) := by
  unfold sout0_I_0 kernelRun0_I
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix2 0 q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

set_option maxHeartbeats 4000000 in
theorem sI_1 (hc0 : ¬cond0_0 i) (hc1 : ¬cond0_1 i) (hc2 : cond0_2 i) (hc3 : ¬cond0_3 i) (hc4 : cond0_4 i) (q : Fin 512) (l : Fin 128) : ∀ h : Fin 8,
    sout0_I_1 (F := Ideal) c i arg3 harg3 arg4 harg4 arg5 harg5 arg6 harg6 arg7 harg7 arg8 harg8 hc0 hc1 hc2 hc3 hc4 x0 x1 x2 xs0 xs1 (ix3 h l q) = newAcc (xs0 (ix2 h q)) (xs1 (ix3 h l q)) (fun k : Fin 512 => msc x0 x1 (i 1).val (i 2).val h ⟨k.val, by omega⟩ q) (fun k : Fin 512 => x2 (ix3 0 ⟨128 * h.val + l.val, by omega⟩ ⟨k.val, by omega⟩)) := by
  unfold sout0_I_1 kernelRun0_I
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl
  · rw [View.read_writes_cons_unit_of_mem _ _ _ _ _ _ (ix3 0 l q) rfl (fun a => by fin_cases a <;> simp)]
    pointwise [k0_pay1, k0_pay2, k0_pay3, k0_pay7, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay169, k0_pay170]
    rfl

end Cert.AttentionProof

end
-- ==== Proof.AtCaseJ.lean ====
/-
  The attention call, case J: the carried maximum and sums it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem sJ_0 (hc0 : ¬cond0_0 i) (hc1 : ¬cond0_1 i) (hc2 : ¬cond0_2 i) (hc3 : cond0_3 i) (hc4 : cond0_4 i) (q : Fin 512) : ∀ h : Fin 8,
    sout0_J_0 (F := Ideal) c i arg3 harg3 arg4 harg4 arg5 harg5 arg6 harg6 arg7 harg7 arg8 harg8 hc0 hc1 hc2 hc3 hc4 x0 x1 x2 xs0 xs1 (ix2 h q) = newMax (xs0 (ix2 h q)) (fun k : Fin 1024 => msc x0 x1 (i 1).val (i 2).val h k q) := by
  unfold sout0_J_0 kernelRun0_J
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix2 0 q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

set_option maxHeartbeats 4000000 in
theorem sJ_1 (hc0 : ¬cond0_0 i) (hc1 : ¬cond0_1 i) (hc2 : ¬cond0_2 i) (hc3 : cond0_3 i) (hc4 : cond0_4 i) (q : Fin 512) (l : Fin 128) : ∀ h : Fin 8,
    sout0_J_1 (F := Ideal) c i arg3 harg3 arg4 harg4 arg5 harg5 arg6 harg6 arg7 harg7 arg8 harg8 hc0 hc1 hc2 hc3 hc4 x0 x1 x2 xs0 xs1 (ix3 h l q) = newAcc (xs0 (ix2 h q)) (xs1 (ix3 h l q)) (fun k : Fin 1024 => msc x0 x1 (i 1).val (i 2).val h k q) (fun k : Fin 1024 => x2 (ix3 0 ⟨128 * h.val + l.val, by omega⟩ k)) := by
  unfold sout0_J_1 kernelRun0_J
  dsimp only
  sl_unfold_run_names
  simp (disch := decide) only [skip_m, skip_a, hit_m, hit_a, View.readAt_eq_ld, Memref.IsWhole.read_unread]
  refine fin8 ?_ ?_ ?_ ?_ ?_ ?_ ?_ ?_
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_not_mem _ _ _ _ _ _ rfl 0 (Or.inl (by simp))]
    rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl
  · rw [View.read_writes_cons_unit_of_mem _ _ _ _ _ _ (ix3 0 l q) rfl (fun a => by fin_cases a <;> simp)]
    pointwise [k0_pay4, k0_pay5, k0_pay6, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    rfl

end Cert.AttentionProof

end
-- ==== Proof.AtOutC.lean ====
/-
  The attention call, case C: the block it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem oC (hc0 : ¬cond0_0 i) (hc1 : ¬cond0_1 i) (hc2 : ¬cond0_2 i) (hc3 : ¬cond0_3 i) (hc4 : cond0_4 i) (q : Fin 512) (l : Fin 128) : ∀ h : Fin 8,
    out0_C_3 (F := Ideal) c i arg3 harg3 arg4 harg4 arg5 harg5 arg6 harg6 arg7 harg7 arg8 harg8 hc0 hc1 hc2 hc3 hc4 x0 x1 x2 xs0 xs1 (ix3 0 q ⟨128 * h.val + l.val, by omega⟩) = Ideal.div (xs1 (ix3 h l q)) (xs1 (ix3 h (64 : Fin 128) q)) := by
  unfold out0_C_3 kernelRun0_C
  dsimp only
  sl_unfold_run_names
  simp (disch := decide) only [same_m, same_a, skip_m, skip_a, View.readAt_eq_ld, Memref.IsWhole.read_unread]
  refine fin8 ?_ ?_ ?_ ?_ ?_ ?_ ?_ ?_
  · rw [View.read_writes_cons_unit_of_not_mem _ _ _ _ _ _ rfl 2 (Or.inl (by show 128 * 0 + l.val < 896; omega))]
    rw [View.read_writes_cons_unit_of_not_mem _ _ _ _ _ _ rfl 2 (Or.inl (by show 128 * 0 + l.val < 768; omega))]
    rw [View.read_writes_cons_unit_of_not_mem _ _ _ _ _ _ rfl 2 (Or.inl (by show 128 * 0 + l.val < 640; omega))]
    rw [View.read_writes_cons_unit_of_not_mem _ _ _ _ _ _ rfl 2 (Or.inl (by show 128 * 0 + l.val < 512; omega))]
    rw [View.read_writes_cons_unit_of_not_mem _ _ _ _ _ _ rfl 2 (Or.inl (by show 128 * 0 + l.val < 384; omega))]
    rw [View.read_writes_cons_unit_of_not_mem _ _ _ _ _ _ rfl 2 (Or.inl (by show 128 * 0 + l.val < 256; omega))]
    rw [View.read_writes_cons_unit_of_not_mem _ _ _ _ _ _ rfl 2 (Or.inl (by show 128 * 0 + l.val < 128; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 1 + l.val < 896; omega))]
    rw [View.read_writes_cons_unit_of_not_mem _ _ _ _ _ _ rfl 2 (Or.inl (by show 128 * 1 + l.val < 768; omega))]
    rw [View.read_writes_cons_unit_of_not_mem _ _ _ _ _ _ rfl 2 (Or.inl (by show 128 * 1 + l.val < 640; omega))]
    rw [View.read_writes_cons_unit_of_not_mem _ _ _ _ _ _ rfl 2 (Or.inl (by show 128 * 1 + l.val < 512; omega))]
    rw [View.read_writes_cons_unit_of_not_mem _ _ _ _ _ _ rfl 2 (Or.inl (by show 128 * 1 + l.val < 384; omega))]
    rw [View.read_writes_cons_unit_of_not_mem _ _ _ _ _ _ rfl 2 (Or.inl (by show 128 * 1 + l.val < 256; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 2 + l.val < 896; omega))]
    rw [View.read_writes_cons_unit_of_not_mem _ _ _ _ _ _ rfl 2 (Or.inl (by show 128 * 2 + l.val < 768; omega))]
    rw [View.read_writes_cons_unit_of_not_mem _ _ _ _ _ _ rfl 2 (Or.inl (by show 128 * 2 + l.val < 640; omega))]
    rw [View.read_writes_cons_unit_of_not_mem _ _ _ _ _ _ rfl 2 (Or.inl (by show 128 * 2 + l.val < 512; omega))]
    rw [View.read_writes_cons_unit_of_not_mem _ _ _ _ _ _ rfl 2 (Or.inl (by show 128 * 2 + l.val < 384; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 3 + l.val < 896; omega))]
    rw [View.read_writes_cons_unit_of_not_mem _ _ _ _ _ _ rfl 2 (Or.inl (by show 128 * 3 + l.val < 768; omega))]
    rw [View.read_writes_cons_unit_of_not_mem _ _ _ _ _ _ rfl 2 (Or.inl (by show 128 * 3 + l.val < 640; omega))]
    rw [View.read_writes_cons_unit_of_not_mem _ _ _ _ _ _ rfl 2 (Or.inl (by show 128 * 3 + l.val < 512; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 4 + l.val < 896; omega))]
    rw [View.read_writes_cons_unit_of_not_mem _ _ _ _ _ _ rfl 2 (Or.inl (by show 128 * 4 + l.val < 768; omega))]
    rw [View.read_writes_cons_unit_of_not_mem _ _ _ _ _ _ rfl 2 (Or.inl (by show 128 * 4 + l.val < 640; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 5 + l.val < 896; omega))]
    rw [View.read_writes_cons_unit_of_not_mem _ _ _ _ _ _ rfl 2 (Or.inl (by show 128 * 5 + l.val < 768; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_not_mem _ _ _ _ _ _ rfl 2 (Or.inl (by show 128 * 6 + l.val < 896; omega))]
    rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  · rw [View.read_writes_cons_unit_of_mem _ _ _ _ _ _ (ix3 0 q l) rfl (fun a => by fin_cases a <;> simp)]
    pointwise [k0_pay7, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]

end Cert.AttentionProof

end
-- ==== Proof.AtOutI.lean ====
/-
  The attention call, case I: the block it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem oI (hc0 : ¬cond0_0 i) (hc1 : ¬cond0_1 i) (hc2 : cond0_2 i) (hc3 : ¬cond0_3 i) (hc4 : cond0_4 i) (q : Fin 512) (l : Fin 128) : ∀ h : Fin 8,
    out0_I_3 (F := Ideal) c i arg3 harg3 arg4 harg4 arg5 harg5 arg6 harg6 arg7 harg7 arg8 harg8 hc0 hc1 hc2 hc3 hc4 x0 x1 x2 xs0 xs1 (ix3 0 q ⟨128 * h.val + l.val, by omega⟩) = Ideal.div (newAcc (xs0 (ix2 h q)) (xs1 (ix3 h l q)) (fun k : Fin 512 => msc x0 x1 (i 1).val (i 2).val h ⟨k.val, by omega⟩ q) (fun k : Fin 512 => x2 (ix3 0 ⟨128 * h.val + l.val, by omega⟩ ⟨k.val, by omega⟩))) (newAcc (xs0 (ix2 h q)) (xs1 (ix3 h (64 : Fin 128) q)) (fun k : Fin 512 => msc x0 x1 (i 1).val (i 2).val h ⟨k.val, by omega⟩ q) (fun k : Fin 512 => x2 (ix3 0 ⟨128 * h.val + ((64 : Fin 128)).val, by omega⟩ ⟨k.val, by omega⟩))) := by
  unfold out0_I_3 kernelRun0_I
  dsimp only
  sl_unfold_run_names
  simp (disch := decide) only [same_m, same_a, skip_m, skip_a, View.readAt_eq_ld, Memref.IsWhole.read_unread]
  refine fin8 ?_ ?_ ?_ ?_ ?_ ?_ ?_ ?_
  · rw [View.read_writes_cons_unit_of_not_mem _ _ _ _ _ _ rfl 2 (Or.inl (by show 128 * 0 + l.val < 896; omega))]
    rw [View.read_writes_cons_unit_of_not_mem _ _ _ _ _ _ rfl 2 (Or.inl (by show 128 * 0 + l.val < 768; omega))]
    rw [View.read_writes_cons_unit_of_not_mem _ _ _ _ _ _ rfl 2 (Or.inl (by show 128 * 0 + l.val < 640; omega))]
    rw [View.read_writes_cons_unit_of_not_mem _ _ _ _ _ _ rfl 2 (Or.inl (by show 128 * 0 + l.val < 512; omega))]
    rw [View.read_writes_cons_unit_of_not_mem _ _ _ _ _ _ rfl 2 (Or.inl (by show 128 * 0 + l.val < 384; omega))]
    rw [View.read_writes_cons_unit_of_not_mem _ _ _ _ _ _ rfl 2 (Or.inl (by show 128 * 0 + l.val < 256; omega))]
    rw [View.read_writes_cons_unit_of_not_mem _ _ _ _ _ _ rfl 2 (Or.inl (by show 128 * 0 + l.val < 128; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 1 + l.val < 896; omega))]
    rw [View.read_writes_cons_unit_of_not_mem _ _ _ _ _ _ rfl 2 (Or.inl (by show 128 * 1 + l.val < 768; omega))]
    rw [View.read_writes_cons_unit_of_not_mem _ _ _ _ _ _ rfl 2 (Or.inl (by show 128 * 1 + l.val < 640; omega))]
    rw [View.read_writes_cons_unit_of_not_mem _ _ _ _ _ _ rfl 2 (Or.inl (by show 128 * 1 + l.val < 512; omega))]
    rw [View.read_writes_cons_unit_of_not_mem _ _ _ _ _ _ rfl 2 (Or.inl (by show 128 * 1 + l.val < 384; omega))]
    rw [View.read_writes_cons_unit_of_not_mem _ _ _ _ _ _ rfl 2 (Or.inl (by show 128 * 1 + l.val < 256; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 2 + l.val < 896; omega))]
    rw [View.read_writes_cons_unit_of_not_mem _ _ _ _ _ _ rfl 2 (Or.inl (by show 128 * 2 + l.val < 768; omega))]
    rw [View.read_writes_cons_unit_of_not_mem _ _ _ _ _ _ rfl 2 (Or.inl (by show 128 * 2 + l.val < 640; omega))]
    rw [View.read_writes_cons_unit_of_not_mem _ _ _ _ _ _ rfl 2 (Or.inl (by show 128 * 2 + l.val < 512; omega))]
    rw [View.read_writes_cons_unit_of_not_mem _ _ _ _ _ _ rfl 2 (Or.inl (by show 128 * 2 + l.val < 384; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 3 + l.val < 896; omega))]
    rw [View.read_writes_cons_unit_of_not_mem _ _ _ _ _ _ rfl 2 (Or.inl (by show 128 * 3 + l.val < 768; omega))]
    rw [View.read_writes_cons_unit_of_not_mem _ _ _ _ _ _ rfl 2 (Or.inl (by show 128 * 3 + l.val < 640; omega))]
    rw [View.read_writes_cons_unit_of_not_mem _ _ _ _ _ _ rfl 2 (Or.inl (by show 128 * 3 + l.val < 512; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 4 + l.val < 896; omega))]
    rw [View.read_writes_cons_unit_of_not_mem _ _ _ _ _ _ rfl 2 (Or.inl (by show 128 * 4 + l.val < 768; omega))]
    rw [View.read_writes_cons_unit_of_not_mem _ _ _ _ _ _ rfl 2 (Or.inl (by show 128 * 4 + l.val < 640; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 5 + l.val < 896; omega))]
    rw [View.read_writes_cons_unit_of_not_mem _ _ _ _ _ _ rfl 2 (Or.inl (by show 128 * 5 + l.val < 768; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 6 + l.val < 896; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl

end Cert.AttentionProof

end
-- ==== Proof.AtOutJ.lean ====
/-
  The attention call, case J: the block it leaves.
-/
module

public import proofs.«01_k».proof.Proof.Gen.AttentionIdeal.Value
public import proofs.«01_k».proof.Proof.AtRead
public import Idealize.ShloMosaic.Lib.Pointwise
public import Idealize.ShloMosaic.Lib.WritesUnit

@[expose] public section

noncomputable section

namespace Cert.AttentionProof

open Idealize.ShloMosaic Idealize.ShloMosaic.TcCoe Idealize.ShloMosaic.Tactic
open Cert.AttentionIdeal Cert.AttentionIdeal.Gen

variable (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .bf16) (harg6 : arg6.IsWhole) (arg7 : Memref sig .tc .vmem S8x512 .f32) (harg7 : arg7.IsWhole) (arg8 : Memref sig .tc .vmem S8x128x512 .f32) (harg8 : arg8.IsWhole)
variable (x0 : Vec Ideal S1x512x1024 .bf16) (x1 : Vec Ideal S1x1024x1024 .bf16) (x2 : Vec Ideal S1x1024x1024 .bf16) (xs0 : Vec Ideal S8x512 .f32) (xs1 : Vec Ideal S8x128x512 .f32)

set_option maxHeartbeats 4000000 in
theorem oJ (hc0 : ¬cond0_0 i) (hc1 : ¬cond0_1 i) (hc2 : ¬cond0_2 i) (hc3 : cond0_3 i) (hc4 : cond0_4 i) (q : Fin 512) (l : Fin 128) : ∀ h : Fin 8,
    out0_J_3 (F := Ideal) c i arg3 harg3 arg4 harg4 arg5 harg5 arg6 harg6 arg7 harg7 arg8 harg8 hc0 hc1 hc2 hc3 hc4 x0 x1 x2 xs0 xs1 (ix3 0 q ⟨128 * h.val + l.val, by omega⟩) = Ideal.div (newAcc (xs0 (ix2 h q)) (xs1 (ix3 h l q)) (fun k : Fin 1024 => msc x0 x1 (i 1).val (i 2).val h k q) (fun k : Fin 1024 => x2 (ix3 0 ⟨128 * h.val + l.val, by omega⟩ k))) (newAcc (xs0 (ix2 h q)) (xs1 (ix3 h (64 : Fin 128) q)) (fun k : Fin 1024 => msc x0 x1 (i 1).val (i 2).val h k q) (fun k : Fin 1024 => x2 (ix3 0 ⟨128 * h.val + ((64 : Fin 128)).val, by omega⟩ k))) := by
  unfold out0_J_3 kernelRun0_J
  dsimp only
  sl_unfold_run_names
  simp (disch := decide) only [same_m, same_a, skip_m, skip_a, View.readAt_eq_ld, Memref.IsWhole.read_unread]
  refine fin8 ?_ ?_ ?_ ?_ ?_ ?_ ?_ ?_
  · rw [View.read_writes_cons_unit_of_not_mem _ _ _ _ _ _ rfl 2 (Or.inl (by show 128 * 0 + l.val < 896; omega))]
    rw [View.read_writes_cons_unit_of_not_mem _ _ _ _ _ _ rfl 2 (Or.inl (by show 128 * 0 + l.val < 768; omega))]
    rw [View.read_writes_cons_unit_of_not_mem _ _ _ _ _ _ rfl 2 (Or.inl (by show 128 * 0 + l.val < 640; omega))]
    rw [View.read_writes_cons_unit_of_not_mem _ _ _ _ _ _ rfl 2 (Or.inl (by show 128 * 0 + l.val < 512; omega))]
    rw [View.read_writes_cons_unit_of_not_mem _ _ _ _ _ _ rfl 2 (Or.inl (by show 128 * 0 + l.val < 384; omega))]
    rw [View.read_writes_cons_unit_of_not_mem _ _ _ _ _ _ rfl 2 (Or.inl (by show 128 * 0 + l.val < 256; omega))]
    rw [View.read_writes_cons_unit_of_not_mem _ _ _ _ _ _ rfl 2 (Or.inl (by show 128 * 0 + l.val < 128; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 1 + l.val < 896; omega))]
    rw [View.read_writes_cons_unit_of_not_mem _ _ _ _ _ _ rfl 2 (Or.inl (by show 128 * 1 + l.val < 768; omega))]
    rw [View.read_writes_cons_unit_of_not_mem _ _ _ _ _ _ rfl 2 (Or.inl (by show 128 * 1 + l.val < 640; omega))]
    rw [View.read_writes_cons_unit_of_not_mem _ _ _ _ _ _ rfl 2 (Or.inl (by show 128 * 1 + l.val < 512; omega))]
    rw [View.read_writes_cons_unit_of_not_mem _ _ _ _ _ _ rfl 2 (Or.inl (by show 128 * 1 + l.val < 384; omega))]
    rw [View.read_writes_cons_unit_of_not_mem _ _ _ _ _ _ rfl 2 (Or.inl (by show 128 * 1 + l.val < 256; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 2 + l.val < 896; omega))]
    rw [View.read_writes_cons_unit_of_not_mem _ _ _ _ _ _ rfl 2 (Or.inl (by show 128 * 2 + l.val < 768; omega))]
    rw [View.read_writes_cons_unit_of_not_mem _ _ _ _ _ _ rfl 2 (Or.inl (by show 128 * 2 + l.val < 640; omega))]
    rw [View.read_writes_cons_unit_of_not_mem _ _ _ _ _ _ rfl 2 (Or.inl (by show 128 * 2 + l.val < 512; omega))]
    rw [View.read_writes_cons_unit_of_not_mem _ _ _ _ _ _ rfl 2 (Or.inl (by show 128 * 2 + l.val < 384; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 3 + l.val < 896; omega))]
    rw [View.read_writes_cons_unit_of_not_mem _ _ _ _ _ _ rfl 2 (Or.inl (by show 128 * 3 + l.val < 768; omega))]
    rw [View.read_writes_cons_unit_of_not_mem _ _ _ _ _ _ rfl 2 (Or.inl (by show 128 * 3 + l.val < 640; omega))]
    rw [View.read_writes_cons_unit_of_not_mem _ _ _ _ _ _ rfl 2 (Or.inl (by show 128 * 3 + l.val < 512; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 4 + l.val < 896; omega))]
    rw [View.read_writes_cons_unit_of_not_mem _ _ _ _ _ _ rfl 2 (Or.inl (by show 128 * 4 + l.val < 768; omega))]
    rw [View.read_writes_cons_unit_of_not_mem _ _ _ _ _ _ rfl 2 (Or.inl (by show 128 * 4 + l.val < 640; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 5 + l.val < 896; omega))]
    rw [View.read_writes_cons_unit_of_not_mem _ _ _ _ _ _ rfl 2 (Or.inl (by show 128 * 5 + l.val < 768; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_not_mem _ _ _ _ _ _ rfl 2 (Or.inl (by show 128 * 6 + l.val < 896; omega))]
    rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl
  · rw [View.read_writes_cons_unit_of_mem _ _ _ _ _ _ (ix3 0 q l) rfl (fun a => by fin_cases a <;> simp)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
    rfl

end Cert.AttentionProof

end
-- ==== Proof.AtRun.lean ====
/-
  The attention call: every point keeps the carried state.
-/
module

public import proofs.«01_k».proof.Proof.AtStep
public import proofs.«01_k».proof.Proof.AtCaseA
public import proofs.«01_k».proof.Proof.AtCaseD
public import proofs.«01_k».proof.Proof.AtCaseE
public import proofs.«01_k».proof.Proof.AtCaseF
public import proofs.«01_k».proof.Proof.AtCaseG
public import proofs.«01_k».proof.Proof.AtCaseH
public import proofs.«01_k».proof.Proof.AtCaseI
public import proofs.«01_k».proof.Proof.AtCaseJ
public import proofs.«01_k».proof.Proof.AtOutC
public import proofs.«01_k».proof.Proof.AtOutI
public import proofs.«01_k».proof.Proof.AtOutJ

@[expose] public section

noncomputable section

namespace Cert.AttentionProof

open Idealize.ShloMosaic Idealize.ShloMosaic.TcCoe Idealize.ShloMosaic.Tactic
open Cert.AttentionIdeal Cert.AttentionIdeal.Gen Cert.AttentionIdeal.Value

variable (m : (ℓ : Loc nD τ sig) → Buf (Elt Ideal) ℓ) (c : Dev nD)

theorem inv_mk (n : ℕ) (o : Vec Ideal S1x512x1024 .bf16) (x : Vec Ideal S8x512 .f32) (y : Vec Ideal S8x128x512 .f32) (H : ∀ (h : Fin 8) (q : Fin 512),
    St (min (1024 * (n % 8 + 1)) (512 * (n / 8 % 16 + 1))) (sN (argQ m c) (argK m c) (bat n) h (qry n q)) (vN (argV m c) (bat n) h) (x (ix2 h q))
      (fun l => y (ix3 h l q))) : Inv m c n (o, x, y) := H

theorem zero_m (h : Fin 8) (q : Fin 512) : k0_pay169 (F := Ideal) (ix2 h q) = (⊥ : EReal) := rfl
theorem zero_a (h : Fin 8) (l : Fin 128) (q : Fin 512) : k0_pay170 (F := Ideal) (ix3 h l q) = (0 : EReal) := by
  pointwise [k0_pay170]

theorem inv_A (t : Fin cfg0.N) (acc : Vec Ideal S1x512x1024 .bf16 × Vec Ideal S8x512 .f32 × Vec Ideal S8x128x512 .f32) (h0 : t.val % 8 = 0) (h1 : ¬ (2 * (t.val % 8) + 2 ≤ t.val / 8 % 16)) (h2 : t.val / 8 % 16 = 2 * (t.val % 8)) (h3 : ¬ (t.val / 8 % 16 = 2 * (t.val % 8) + 1)) (h4 : ¬ (t.val % 8 = 7)) : Inv m c t.val (stAt0 m c t.val t.isLt acc) := by
  rw [stAt0_A m c t acc h0 h1 h2 h3 h4]
  refine inv_mk m c _ _ _ _ fun h q => ?_
  have hz : St (1024 * (t.val % 8)) (sN (argQ m c) (argK m c) (bat t.val) h (qry t.val q)) (vN (argV m c) (bat t.val) h) (k0_pay169 (F := Ideal) (ix2 h q))
      (fun l => k0_pay170 (F := Ideal) (ix3 h l q)) := by
    rw [show 1024 * (t.val % 8) = 0 by omega]
    exact st_congr (st_zero _ _) (zero_m h q) (fun l => zero_a h l q)
  rw [show min (1024 * (t.val % 8 + 1)) (512 * (t.val / 8 % 16 + 1)) = 1024 * (t.val % 8) + 512 by omega]
  refine st_congr (st_new _ 512 _ _ _ _ (fun k : Fin 512 => msc (iblk m c 0 t) (iblk m c 1 t) (grid0.coords t 1).val (grid0.coords t 2).val h ⟨k.val, by omega⟩ q)
    (fun l (k : Fin 512) => (iblk m c 2 t : S1x1024x1024.Idx → Ideal .bf16) (ix3 0 ⟨128 * h.val + l.val, by omega⟩ ⟨k.val, by omega⟩)) (fun k => mask_S m c t (by omega) h q ⟨k.val, by omega⟩) (fun l k => val_V m c t (by omega) h l ⟨k.val, by omega⟩) hz) ?_ fun l => ?_
  · exact sA_0 _ _ _ _ _ _ _ _ _ _ _ _ _ _ _ _ _ _ _ _ _ _ q h
  · exact sA_1 _ _ _ _ _ _ _ _ _ _ _ _ _ _ _ _ _ _ _ _ _ _ q l h

theorem inv_D (t : Fin cfg0.N) (acc : Vec Ideal S1x512x1024 .bf16 × Vec Ideal S8x512 .f32 × Vec Ideal S8x128x512 .f32) (h0 : t.val % 8 = 0) (h1 : ¬ (2 * (t.val % 8) + 2 ≤ t.val / 8 % 16)) (h2 : ¬ (t.val / 8 % 16 = 2 * (t.val % 8))) (h3 : t.val / 8 % 16 = 2 * (t.val % 8) + 1) (h4 : ¬ (t.val % 8 = 7)) : Inv m c t.val (stAt0 m c t.val t.isLt acc) := by
  rw [stAt0_D m c t acc h0 h1 h2 h3 h4]
  refine inv_mk m c _ _ _ _ fun h q => ?_
  have hz : St (1024 * (t.val % 8)) (sN (argQ m c) (argK m c) (bat t.val) h (qry t.val q)) (vN (argV m c) (bat t.val) h) (k0_pay169 (F := Ideal) (ix2 h q))
      (fun l => k0_pay170 (F := Ideal) (ix3 h l q)) := by
    rw [show 1024 * (t.val % 8) = 0 by omega]
    exact st_congr (st_zero _ _) (zero_m h q) (fun l => zero_a h l q)
  rw [show min (1024 * (t.val % 8 + 1)) (512 * (t.val / 8 % 16 + 1)) = 1024 * (t.val % 8) + 1024 by omega]
  refine st_congr (st_new _ 1024 _ _ _ _ (fun k : Fin 1024 => msc (iblk m c 0 t) (iblk m c 1 t) (grid0.coords t 1).val (grid0.coords t 2).val h k q)
    (fun l (k : Fin 1024) => (iblk m c 2 t : S1x1024x1024.Idx → Ideal .bf16) (ix3 0 ⟨128 * h.val + l.val, by omega⟩ k)) (fun k => mask_S m c t (by omega) h q k) (fun l k => val_V m c t (by omega) h l k) hz) ?_ fun l => ?_
  · exact sD_0 _ _ _ _ _ _ _ _ _ _ _ _ _ _ _ _ _ _ _ _ _ _ q h
  · exact sD_1 _ _ _ _ _ _ _ _ _ _ _ _ _ _ _ _ _ _ _ _ _ _ q l h

theorem inv_E (t : Fin cfg0.N) (acc : Vec Ideal S1x512x1024 .bf16 × Vec Ideal S8x512 .f32 × Vec Ideal S8x128x512 .f32) (h0 : t.val % 8 = 0) (h1 : 2 * (t.val % 8) + 2 ≤ t.val / 8 % 16) (h2 : ¬ (t.val / 8 % 16 = 2 * (t.val % 8))) (h3 : ¬ (t.val / 8 % 16 = 2 * (t.val % 8) + 1)) (h4 : ¬ (t.val % 8 = 7)) : Inv m c t.val (stAt0 m c t.val t.isLt acc) := by
  rw [stAt0_E m c t acc h0 h1 h2 h3 h4]
  refine inv_mk m c _ _ _ _ fun h q => ?_
  have hz : St (1024 * (t.val % 8)) (sN (argQ m c) (argK m c) (bat t.val) h (qry t.val q)) (vN (argV m c) (bat t.val) h) (k0_pay169 (F := Ideal) (ix2 h q))
      (fun l => k0_pay170 (F := Ideal) (ix3 h l q)) := by
    rw [show 1024 * (t.val % 8) = 0 by omega]
    exact st_congr (st_zero _ _) (zero_m h q) (fun l => zero_a h l q)
  rw [show min (1024 * (t.val % 8 + 1)) (512 * (t.val / 8 % 16 + 1)) = 1024 * (t.val % 8) + 1024 by omega]
  refine st_congr (st_new _ 1024 _ _ _ _ (fun k : Fin 1024 => sc (iblk m c 0 t) (iblk m c 1 t) h k q)
    (fun l (k : Fin 1024) => (iblk m c 2 t : S1x1024x1024.Idx → Ideal .bf16) (ix3 0 ⟨128 * h.val + l.val, by omega⟩ k)) (fun k => full_S m c t h1 h q k) (fun l k => val_V m c t (by omega) h l k) hz) ?_ fun l => ?_
  · exact sE_0 _ _ _ _ _ _ _ _ _ _ _ _ _ _ _ _ _ _ _ _ _ _ q h
  · exact sE_1 _ _ _ _ _ _ _ _ _ _ _ _ _ _ _ _ _ _ _ _ _ _ q l h

theorem inv_F (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : t.val / 8 % 16 = 2 * (t.val % 8)) (h3 : ¬ (t.val / 8 % 16 = 2 * (t.val % 8) + 1)) (h4 : ¬ (t.val % 8 = 7)) (hp : Pre m c t.val acc) : Inv m c t.val (stAt0 m c t.val t.isLt acc) := by
  rw [stAt0_F m c t acc h0 h1 h2 h3 h4]
  refine inv_mk m c _ _ _ _ fun h q => ?_
  have hz := hp h q
  rw [show min (1024 * (t.val % 8)) (512 * (t.val / 8 % 16 + 1)) = 1024 * (t.val % 8) by omega] at hz
  rw [show min (1024 * (t.val % 8 + 1)) (512 * (t.val / 8 % 16 + 1)) = 1024 * (t.val % 8) + 512 by omega]
  refine st_congr (st_new _ 512 _ _ _ _ (fun k : Fin 512 => msc (iblk m c 0 t) (iblk m c 1 t) (grid0.coords t 1).val (grid0.coords t 2).val h ⟨k.val, by omega⟩ q)
    (fun l (k : Fin 512) => (iblk m c 2 t : S1x1024x1024.Idx → Ideal .bf16) (ix3 0 ⟨128 * h.val + l.val, by omega⟩ ⟨k.val, by omega⟩)) (fun k => mask_S m c t (by omega) h q ⟨k.val, by omega⟩) (fun l k => val_V m c t (by omega) h l ⟨k.val, by omega⟩) hz) ?_ fun l => ?_
  · exact sF_0 _ _ _ _ _ _ _ _ _ _ _ _ _ _ _ _ _ _ _ _ _ _ _ _ q h
  · exact sF_1 _ _ _ _ _ _ _ _ _ _ _ _ _ _ _ _ _ _ _ _ _ _ _ _ q l h

theorem inv_G (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : t.val / 8 % 16 = 2 * (t.val % 8) + 1) (h4 : ¬ (t.val % 8 = 7)) (hp : Pre m c t.val acc) : Inv m c t.val (stAt0 m c t.val t.isLt acc) := by
  rw [stAt0_G m c t acc h0 h1 h2 h3 h4]
  refine inv_mk m c _ _ _ _ fun h q => ?_
  have hz := hp h q
  rw [show min (1024 * (t.val % 8)) (512 * (t.val / 8 % 16 + 1)) = 1024 * (t.val % 8) by omega] at hz
  rw [show min (1024 * (t.val % 8 + 1)) (512 * (t.val / 8 % 16 + 1)) = 1024 * (t.val % 8) + 1024 by omega]
  refine st_congr (st_new _ 1024 _ _ _ _ (fun k : Fin 1024 => msc (iblk m c 0 t) (iblk m c 1 t) (grid0.coords t 1).val (grid0.coords t 2).val h k q)
    (fun l (k : Fin 1024) => (iblk m c 2 t : S1x1024x1024.Idx → Ideal .bf16) (ix3 0 ⟨128 * h.val + l.val, by omega⟩ k)) (fun k => mask_S m c t (by omega) h q k) (fun l k => val_V m c t (by omega) h l k) hz) ?_ fun l => ?_
  · exact sG_0 _ _ _ _ _ _ _ _ _ _ _ _ _ _ _ _ _ _ _ _ _ _ _ _ q h
  · exact sG_1 _ _ _ _ _ _ _ _ _ _ _ _ _ _ _ _ _ _ _ _ _ _ _ _ q l h

theorem inv_H (t : Fin cfg0.N) (acc : Vec Ideal S1x512x1024 .bf16 × Vec Ideal S8x512 .f32 × Vec Ideal S8x128x512 .f32) (h0 : ¬ (t.val % 8 = 0)) (h1 : 2 * (t.val % 8) + 2 ≤ t.val / 8 % 16) (h2 : ¬ (t.val / 8 % 16 = 2 * (t.val % 8))) (h3 : ¬ (t.val / 8 % 16 = 2 * (t.val % 8) + 1)) (h4 : ¬ (t.val % 8 = 7)) (hp : Pre m c t.val acc) : Inv m c t.val (stAt0 m c t.val t.isLt acc) := by
  rw [stAt0_H m c t acc h0 h1 h2 h3 h4]
  refine inv_mk m c _ _ _ _ fun h q => ?_
  have hz := hp h q
  rw [show min (1024 * (t.val % 8)) (512 * (t.val / 8 % 16 + 1)) = 1024 * (t.val % 8) by omega] at hz
  rw [show min (1024 * (t.val % 8 + 1)) (512 * (t.val / 8 % 16 + 1)) = 1024 * (t.val % 8) + 1024 by omega]
  refine st_congr (st_new _ 1024 _ _ _ _ (fun k : Fin 1024 => sc (iblk m c 0 t) (iblk m c 1 t) h k q)
    (fun l (k : Fin 1024) => (iblk m c 2 t : S1x1024x1024.Idx → Ideal .bf16) (ix3 0 ⟨128 * h.val + l.val, by omega⟩ k)) (fun k => full_S m c t h1 h q k) (fun l k => val_V m c t (by omega) h l k) hz) ?_ fun l => ?_
  · exact sH_0 _ _ _ _ _ _ _ _ _ _ _ _ _ _ _ _ _ _ _ _ _ _ _ _ q h
  · exact sH_1 _ _ _ _ _ _ _ _ _ _ _ _ _ _ _ _ _ _ _ _ _ _ _ _ q l h

theorem inv_I (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : t.val / 8 % 16 = 2 * (t.val % 8)) (h3 : ¬ (t.val / 8 % 16 = 2 * (t.val % 8) + 1)) (h4 : t.val % 8 = 7) (hp : Pre m c t.val acc) : Inv m c t.val (stAt0 m c t.val t.isLt acc) := by
  rw [stAt0_I m c t acc h0 h1 h2 h3 h4]
  refine inv_mk m c _ _ _ _ fun h q => ?_
  have hz := hp h q
  rw [show min (1024 * (t.val % 8)) (512 * (t.val / 8 % 16 + 1)) = 1024 * (t.val % 8) by omega] at hz
  rw [show min (1024 * (t.val % 8 + 1)) (512 * (t.val / 8 % 16 + 1)) = 1024 * (t.val % 8) + 512 by omega]
  refine st_congr (st_new _ 512 _ _ _ _ (fun k : Fin 512 => msc (iblk m c 0 t) (iblk m c 1 t) (grid0.coords t 1).val (grid0.coords t 2).val h ⟨k.val, by omega⟩ q)
    (fun l (k : Fin 512) => (iblk m c 2 t : S1x1024x1024.Idx → Ideal .bf16) (ix3 0 ⟨128 * h.val + l.val, by omega⟩ ⟨k.val, by omega⟩)) (fun k => mask_S m c t (by omega) h q ⟨k.val, by omega⟩) (fun l k => val_V m c t (by omega) h l ⟨k.val, by omega⟩) hz) ?_ fun l => ?_
  · exact sI_0 _ _ _ _ _ _ _ _ _ _ _ _ _ _ _ _ _ _ _ _ _ _ _ _ q h
  · exact sI_1 _ _ _ _ _ _ _ _ _ _ _ _ _ _ _ _ _ _ _ _ _ _ _ _ q l h

theorem inv_J (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : t.val / 8 % 16 = 2 * (t.val % 8) + 1) (h4 : t.val % 8 = 7) (hp : Pre m c t.val acc) : Inv m c t.val (stAt0 m c t.val t.isLt acc) := by
  rw [stAt0_J m c t acc h0 h1 h2 h3 h4]
  refine inv_mk m c _ _ _ _ fun h q => ?_
  have hz := hp h q
  rw [show min (1024 * (t.val % 8)) (512 * (t.val / 8 % 16 + 1)) = 1024 * (t.val % 8) by omega] at hz
  rw [show min (1024 * (t.val % 8 + 1)) (512 * (t.val / 8 % 16 + 1)) = 1024 * (t.val % 8) + 1024 by omega]
  refine st_congr (st_new _ 1024 _ _ _ _ (fun k : Fin 1024 => msc (iblk m c 0 t) (iblk m c 1 t) (grid0.coords t 1).val (grid0.coords t 2).val h k q)
    (fun l (k : Fin 1024) => (iblk m c 2 t : S1x1024x1024.Idx → Ideal .bf16) (ix3 0 ⟨128 * h.val + l.val, by omega⟩ k)) (fun k => mask_S m c t (by omega) h q k) (fun l k => val_V m c t (by omega) h l k) hz) ?_ fun l => ?_
  · exact sJ_0 _ _ _ _ _ _ _ _ _ _ _ _ _ _ _ _ _ _ _ _ _ _ _ _ q h
  · exact sJ_1 _ _ _ _ _ _ _ _ _ _ _ _ _ _ _ _ _ _ _ _ _ _ _ _ q l h

theorem inv_B (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : ¬ (t.val / 8 % 16 = 2 * (t.val % 8) + 1)) (h4 : ¬ (t.val % 8 = 7)) (hp : Pre m c t.val acc) : Inv m c t.val (stAt0 m c t.val t.isLt acc) := by
  rw [stAt0_B m c t acc h0 h1 h2 h3 h4]
  intro h q
  have hz := hp h q
  rw [show min (1024 * (t.val % 8)) (512 * (t.val / 8 % 16 + 1)) = min (1024 * (t.val % 8 + 1)) (512 * (t.val / 8 % 16 + 1)) by omega] at hz
  exact hz

theorem inv_C (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : ¬ (t.val / 8 % 16 = 2 * (t.val % 8) + 1)) (h4 : t.val % 8 = 7) (hp : Pre m c t.val acc) : Inv m c t.val (stAt0 m c t.val t.isLt acc) := by
  rw [stAt0_C m c t acc h0 h1 h2 h3 h4]
  intro h q
  have hz := hp h q
  rw [show min (1024 * (t.val % 8)) (512 * (t.val / 8 % 16 + 1)) = min (1024 * (t.val % 8 + 1)) (512 * (t.val / 8 % 16 + 1)) by omega] at hz
  exact hz

theorem inv_step (t : Fin cfg0.N) (acc : Vec Ideal S1x512x1024 .bf16 × Vec Ideal S8x512 .f32 × Vec Ideal S8x128x512 .f32) (hp : t.val % 8 ≠ 0 → Pre m c t.val acc) : Inv m c t.val (stAt0 m c t.val t.isLt acc) := by
  by_cases h0 : t.val % 8 = 0
  · have h4 : ¬ t.val % 8 = 7 := by omega
    by_cases h1 : 2 * (t.val % 8) + 2 ≤ t.val / 8 % 16
    · exact inv_E m c t acc h0 h1 (by omega) (by omega) h4
    · by_cases h2 : t.val / 8 % 16 = 2 * (t.val % 8)
      · exact inv_A m c t acc h0 h1 h2 (by omega) h4
      · exact inv_D m c t acc h0 h1 h2 (by omega) h4
  · have hp := hp h0
    by_cases h1 : 2 * (t.val % 8) + 2 ≤ t.val / 8 % 16
    · exact inv_H m c t acc h0 h1 (by omega) (by omega) (by omega) hp
    · by_cases h2 : t.val / 8 % 16 = 2 * (t.val % 8)
      · by_cases h4 : t.val % 8 = 7
        · exact inv_I m c t acc h0 h1 h2 (by omega) h4 hp
        · exact inv_F m c t acc h0 h1 h2 (by omega) h4 hp
      · by_cases h3 : t.val / 8 % 16 = 2 * (t.val % 8) + 1
        · by_cases h4 : t.val % 8 = 7
          · exact inv_J m c t acc h0 h1 h2 h3 h4 hp
          · exact inv_G m c t acc h0 h1 h2 h3 h4 hp
        · by_cases h4 : t.val % 8 = 7
          · exact inv_C m c t acc h0 h1 h2 h3 h4 hp
          · exact inv_B m c t acc h0 h1 h2 h3 h4 hp

theorem pre_of_inv (n : ℕ) (o : Vec Ideal S1x512x1024 .bf16 × Vec Ideal S8x512 .f32 × Vec Ideal S8x128x512 .f32) (h0 : (n + 1) % 8 ≠ 0) (hi : Inv m c n o) :
    Pre m c (n + 1) o := by
  intro h q
  have e := hi h q
  have e1 : (n + 1) / 8 = n / 8 := by omega
  have e2 : (n + 1) % 8 = n % 8 + 1 := by omega
  rw [← e1, ← e2,
    show bat n = bat (n + 1) from Fin.ext (by show n / 128 % 8 = (n + 1) / 128 % 8; omega),
    show qry n q = qry (n + 1) q from Fin.ext (by show 512 * (n / 8 % 16) + q.val = 512 * ((n + 1) / 8 % 16) + q.val; omega)] at e
  exact e

theorem inv : ∀ (n : ℕ) (hn : n < cfg0.N), Inv m c n (outsAt0 m c n hn)
  | 0, hn => by
    rw [outsAt0_zero]
    exact inv_step m c ⟨0, hn⟩ junk0 (fun h => absurd rfl h)
  | n + 1, hn => by
    rw [outsAt0_succ]
    exact inv_step m c ⟨n + 1, hn⟩ _ (fun h => pre_of_inv m c n _ h (inv n (by omega)))

theorem quot_mk (o : Vec Ideal S1x512x1024 .bf16) (x : Vec Ideal S8x512 .f32) (y : Vec Ideal S8x128x512 .f32) (h : Fin 8) (q : Fin 512) (l : Fin 128)
    (e : o (ix3 0 q ⟨128 * h.val + l.val, by omega⟩) = Ideal.div (y (ix3 h l q)) (y (ix3 h (64 : Fin 128) q))) :
    (o, x, y).1 (ix3 0 q ⟨128 * h.val + l.val, by omega⟩) = Ideal.div ((o, x, y).2.2 (ix3 h l q)) ((o, x, y).2.2 (ix3 h (64 : Fin 128) q)) := e

theorem div_congr {a b a' b' : EReal} (ha : a' = a) (hb : b' = b) : Ideal.div a b = Ideal.div a' b' := by
  rw [ha, hb]

theorem quot_C (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : ¬ (t.val / 8 % 16 = 2 * (t.val % 8) + 1)) (h4 : t.val % 8 = 7) (h : Fin 8) (q : Fin 512) (l : Fin 128) :
    (stAt0 m c t.val t.isLt acc).1 (ix3 0 q ⟨128 * h.val + l.val, by omega⟩)
      = Ideal.div ((stAt0 m c t.val t.isLt acc).2.2 (ix3 h l q)) ((stAt0 m c t.val t.isLt acc).2.2 (ix3 h (64 : Fin 128) q)) := by
  rw [stAt0_C m c t acc h0 h1 h2 h3 h4]
  refine quot_mk _ _ _ h q l ?_
  refine Eq.trans (oC _ _ _ _ _ _ _ _ _ _ _ _ _ _ _ _ _ _ _ _ _ _ _ _ q l h) ?_
  refine div_congr ?_ ?_
  · exact rfl
  · exact rfl

theorem quot_I (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : t.val / 8 % 16 = 2 * (t.val % 8)) (h3 : ¬ (t.val / 8 % 16 = 2 * (t.val % 8) + 1)) (h4 : t.val % 8 = 7) (h : Fin 8) (q : Fin 512) (l : Fin 128) :
    (stAt0 m c t.val t.isLt acc).1 (ix3 0 q ⟨128 * h.val + l.val, by omega⟩)
      = Ideal.div ((stAt0 m c t.val t.isLt acc).2.2 (ix3 h l q)) ((stAt0 m c t.val t.isLt acc).2.2 (ix3 h (64 : Fin 128) q)) := by
  rw [stAt0_I m c t acc h0 h1 h2 h3 h4]
  refine quot_mk _ _ _ h q l ?_
  refine Eq.trans (oI _ _ _ _ _ _ _ _ _ _ _ _ _ _ _ _ _ _ _ _ _ _ _ _ q l h) ?_
  refine div_congr ?_ ?_
  · exact sI_1 _ _ _ _ _ _ _ _ _ _ _ _ _ _ _ _ _ _ _ _ _ _ _ _ q l h
  · exact sI_1 _ _ _ _ _ _ _ _ _ _ _ _ _ _ _ _ _ _ _ _ _ _ _ _ q (64 : Fin 128) h

theorem quot_J (t : Fin cfg0.N) (acc : Vec Ideal S1x512x1024 .bf16 × Vec Ideal S8x512 .f32 × Vec Ideal S8x128x512 .f32) (h0 : ¬ (t.val % 8 = 0)) (h1 : ¬ (2 * (t.val % 8) + 2 ≤ t.val / 8 % 16)) (h2 : ¬ (t.val / 8 % 16 = 2 * (t.val % 8))) (h3 : t.val / 8 % 16 = 2 * (t.val % 8) + 1) (h4 : t.val % 8 = 7) (h : Fin 8) (q : Fin 512) (l : Fin 128) :
    (stAt0 m c t.val t.isLt acc).1 (ix3 0 q ⟨128 * h.val + l.val, by omega⟩)
      = Ideal.div ((stAt0 m c t.val t.isLt acc).2.2 (ix3 h l q)) ((stAt0 m c t.val t.isLt acc).2.2 (ix3 h (64 : Fin 128) q)) := by
  rw [stAt0_J m c t acc h0 h1 h2 h3 h4]
  refine quot_mk _ _ _ h q l ?_
  refine Eq.trans (oJ _ _ _ _ _ _ _ _ _ _ _ _ _ _ _ _ _ _ _ _ _ _ _ _ q l h) ?_
  refine div_congr ?_ ?_
  · exact sJ_1 _ _ _ _ _ _ _ _ _ _ _ _ _ _ _ _ _ _ _ _ _ _ _ _ q l h
  · exact sJ_1 _ _ _ _ _ _ _ _ _ _ _ _ _ _ _ _ _ _ _ _ _ _ _ _ q (64 : Fin 128) h

theorem quot (t : Fin cfg0.N) (acc : Vec Ideal S1x512x1024 .bf16 × Vec Ideal S8x512 .f32 × Vec Ideal S8x128x512 .f32) (h4 : t.val % 8 = 7) (h : Fin 8) (q : Fin 512) (l : Fin 128) :
    (stAt0 m c t.val t.isLt acc).1 (ix3 0 q ⟨128 * h.val + l.val, by omega⟩)
      = Ideal.div ((stAt0 m c t.val t.isLt acc).2.2 (ix3 h l q)) ((stAt0 m c t.val t.isLt acc).2.2 (ix3 h (64 : Fin 128) q)) := by
  have h0 : ¬ t.val % 8 = 0 := by omega
  have h1 : ¬ 2 * (t.val % 8) + 2 ≤ t.val / 8 % 16 := by omega
  by_cases h2 : t.val / 8 % 16 = 2 * (t.val % 8)
  · exact quot_I m c t acc h0 h1 h2 (by omega) h4 h q l
  · by_cases h3 : t.val / 8 % 16 = 2 * (t.val % 8) + 1
    · exact quot_J m c t acc h0 h1 h2 h3 h4 h q l
    · exact quot_C m c t acc h0 h1 h2 h3 h4 h q l

theorem out_at (n : ℕ) (hn : n + 1 < cfg0.N) (h4 : (n + 1) % 8 = 7) (h : Fin 8) (q : Fin 512) (l : Fin 128) :
    (outsAt0 m c (n + 1) hn).1 (ix3 0 q ⟨128 * h.val + l.val, by omega⟩)
      = attn (argQ m c) (argK m c) (argV m c) (bat (n + 1)) (qry (n + 1) q) h l := by
  have hi := inv m c (n + 1) hn h q
  have hq : (outsAt0 m c (n + 1) hn).1 (ix3 0 q ⟨128 * h.val + l.val, by omega⟩)
      = Ideal.div ((outsAt0 m c (n + 1) hn).2.2 (ix3 h l q)) ((outsAt0 m c (n + 1) hn).2.2 (ix3 h (64 : Fin 128) q)) := by
    rw [outsAt0_succ]
    exact quot m c ⟨n + 1, hn⟩ _ h4 h q l
  have es : ∀ k : Fin 8192, sN (argQ m c) (argK m c) (bat (n + 1)) h (qry (n + 1) q) k.val = score (argQ m c) (argK m c) (bat (n + 1)) h (qry (n + 1) q) k := fun k =>
    congrArg _ (Fin.ext (Nat.mod_eq_of_lt k.isLt))
  have ev : ∀ k : Fin 8192, vN (argV m c) (bat (n + 1)) h l k.val = vals (argV m c) (bat (n + 1)) h l k := fun k =>
    congrArg _ (Fin.ext (Nat.mod_eq_of_lt k.isLt))
  have e := st_quot _ 8192 (by omega) _ _ _ _ _ hi (isMax_fold 8192 _) (fun k hk hk' => by
    unfold sN score
    refine if_neg ?_
    show ¬ k % 8192 / 64 ≤ (512 * ((n + 1) / 8 % 16) + q.val) / 64
    omega) l (64 : Fin 128) (fun k => by
    unfold vN vals
    rw [dif_neg (by decide), if_pos (by decide)])
  simp only [Finset.sum_range, es, ev] at e
  refine hq.trans (e.trans ?_)
  unfold attn top
  simp only [mul_comm]

theorem out_congr (a n : ℕ) (e : a = n) (ha : a < cfg0.N) (hn : n < cfg0.N) :
    (Pipeline.accAt (fun n h => stAt0 m c n h junk0) (stAt0 m c) 0 a (by omega)).1 = (outsAt0 m c n hn).1 := by
  subst e
  rw [outsAt0_sweep]

/-- What the call's array ends holding, at an index. -/
theorem G3_at (b : Fin 8) (p : Fin 8192) (h : Fin 8) (l : Fin 128) :
    (G3 m c : S8x8192x1024.Idx → Ideal .bf16) (ix3 b p ⟨128 * h.val + l.val, by omega⟩) = attn (argQ m c) (argK m c) (argV m c) b p h l := by
  have hr : run3Of (ix3 b p ⟨128 * h.val + l.val, by omega⟩) = 16 * b.val + p.val / 512 := by
    show 16 * (b.val / 1 - 0) + 1 * (p.val / 512 - 0) + 1 * ((128 * h.val + l.val) / 1024 - 0) = _
    omega
  have hN : cfg0.N = 1024 := N_0
  have hpt : pt3Of (ix3 b p ⟨128 * h.val + l.val, by omega⟩) = 8 * (16 * b.val + p.val / 512) + 6 + 1 := by
    show 8 * run3Of (ix3 b p ⟨128 * h.val + l.val, by omega⟩) + 7 = _
    rw [hr]
  have hl : loc3Of (ix3 b p ⟨128 * h.val + l.val, by omega⟩) = ix3 0 (⟨p.val % 512, Nat.mod_lt _ (by decide)⟩ : Fin 512) ⟨128 * h.val + l.val, by omega⟩ :=
    funext fun a => Fin.ext (by
      match a with
      | ⟨0, _⟩ => show b.val % 1 = 0; omega
      | ⟨1, _⟩ => rfl
      | ⟨2, _⟩ => show (128 * h.val + l.val) % 1024 = 128 * h.val + l.val; omega)
  have hlt : 8 * (16 * b.val + p.val / 512) + 6 + 1 < cfg0.N := by omega
  unfold G3
  rw [dif_pos (lt_of_eq_of_lt hpt hlt)]
  refine (congrFun (out_congr m c _ _ hpt (lt_of_eq_of_lt hpt hlt) hlt) _).trans ?_
  rw [hl]
  refine (out_at m c _ hlt (by omega) h _ l).trans ?_
  have e1 : bat (8 * (16 * b.val + p.val / 512) + 6 + 1) = b := Fin.ext (by show (8 * (16 * b.val + p.val / 512) + 6 + 1) / 128 % 8 = b.val; omega)
  have e2 : qry (8 * (16 * b.val + p.val / 512) + 6 + 1) (⟨p.val % 512, Nat.mod_lt _ (by decide)⟩ : Fin 512) = p :=
    Fin.ext (by show 512 * ((8 * (16 * b.val + p.val / 512) + 6 + 1) / 8 % 16) + p.val % 512 = p.val; omega)
  rw [e1, e2]

end Cert.AttentionProof

end
-- ==== Proof.AtRef.lean ====
/-
  The attention call's reference at an index.
-/
module

public import proofs.«01_k».proof.Proof.Gen.AttentionReferenceIdeal.Run
public import proofs.«01_k».proof.Proof.AtSpec
public import Idealize.ShloMosaic.Lib.IdealHost

@[expose] public section

noncomputable section

namespace Cert.AttentionProof

open Idealize.ShloMosaic Idealize.ShloMosaic.TcCoe Idealize.ShloMosaic.Tactic

theorem two_word : Ideal.ofBits .f32 1073741824#32 = ((2 : ℝ) : EReal) := by
  simp [Ideal.ofBits, Ideal.ieee, -EReal.coe_mul]; norm_num

theorem pow_two' (y : EReal) : Ideal.pow (Ideal.ofBits .f32 1073741824#32) y = Ideal.exp2 y := by
  rw [two_word]
  induction y with
  | bot => show (if (2 : ℝ) < 0 then (⊥ : EReal) else if (1 : ℝ) < 2 then 0 else if (2 : ℝ) = 1 then 1 else ⊤) = 0; norm_num
  | top => show (if (2 : ℝ) < 0 then (⊥ : EReal) else if (1 : ℝ) < 2 then ⊤ else if (2 : ℝ) = 1 then 1 else 0) = ⊤; norm_num
  | coe r => rfl

section
open Cert.AttentionReferenceIdeal Cert.AttentionReferenceIdeal.Gen Cert.AttentionReferenceIdeal.Value

variable (m : (ℓ : Loc nD τ sig) → Buf (Elt Ideal) ℓ) (c : Dev nD)

theorem picked (A : Fin 8 → Fin 8192 → Fin 8 → Fin 96 → EReal) (K : Fin 8 → Fin 8192 → Fin 8 → Fin 96 → EReal) (b h : Fin 8) (p k : Fin 8192) :
    Scalar.select
      (IntOp.cmpi CmpIPredicate.sle (IntOp.divsi ArithUnit.host (BitVec.ofNat 32 k.val) 64#32) (IntOp.divsi ArithUnit.host (BitVec.ofNat 32 p.val) 64#32))
      (∑ d : Fin 96, A b p h d * K b k h d) (Ideal.ofBits FTy.f32 4286578688#32) = score A K b h p k := by
  rw [host_word _ k.isLt, host_word _ p.isLt, pick_word _ _ (by omega) (by omega)]
  rfl

/-- The reference's composed term, over its arguments. -/
def refTerm (Q K : FVec Ideal S8x8192x8x96 .f32) (V : FVec Ideal S8x8192x8x64 .f32) : FVec Ideal S8x8192x1024 .bf16 :=
  truncf .bf16 (shapeCast S8x8192x1024 (transpose S8x8192x8x128 [0, 2, 1, 3] (Host.divf (Host.dotGeneral dot_S8x8x8192x8192_S8x8192x8x128_S8x8x8192x128_3_1_2_3_01_02 none (Host.powf (broadcastInDim S8x8x8192x8192 ![] bcast_S_S8x8x8192x8192 (constant S_ .f32 0x40000000#32)) (subf (select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32))))))) (Host.dotGeneral dot_S8x8192x8x96_S8x8192x8x96_S8x8x8192x8192_3_3_1_1_02_02 none Q K) (broadcastInDim S8x8x8192x8192 ![] bcast_S_S8x8x8192x8192 (id (constant S_ .f32 0xFF800000#32)))) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32))))))) (Host.dotGeneral dot_S8x8192x8x96_S8x8192x8x96_S8x8x8192x8192_3_3_1_1_02_02 none Q K) (broadcastInDim S8x8x8192x8192 ![] bcast_S_S8x8x8192x8192 (id (constant S_ .f32 0xFF800000#32)))) (constant S_ .f32 0xFF800000#32) reducesTo_S8x8x8192x8192_S8x8x8192_d3 h_S_))))) (pad S8x8192x8x128 ![0, 0, 0, 0] ![0, 0, 0, 63] ![0, 0, 0, 0] (concatenate S8x8192x8x65 3 [⟨S8x8192x8x64, V⟩, ⟨S8x8192x8x1, (broadcastInDim S8x8192x8x1 ![] bcast_S_S8x8192x8x1 (constant S_ .f32 0x3F800000#32))⟩] concatenates_S8x8192x8x64_S8x8192x8x1_S8x8192x8x65_d3) (sitofp .f32 (constantI S_ 32 0#32)) pads_S8x8192x8x65_S8x8192x8x128_000_000_000_0630 h_S_)) (broadcastInDim S8x8x8192x128 ![0, 1, 2, 3] bcast_S8x8x8192x1_S8x8x8192x128_0_1_2_3 (broadcastInDim S8x8x8192x1 ![0, 1, 2] bcast_S8x8x8192_S8x8x8192x1_0_1_2 (Host.reduceAdd (Host.powf (broadcastInDim S8x8x8192x8192 ![] bcast_S_S8x8x8192x8192 (constant S_ .f32 0x40000000#32)) (subf (select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32))))))) (Host.dotGeneral dot_S8x8192x8x96_S8x8192x8x96_S8x8x8192x8192_3_3_1_1_02_02 none Q K) (broadcastInDim S8x8x8192x8192 ![] bcast_S_S8x8x8192x8192 (id (constant S_ .f32 0xFF800000#32)))) (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduce FloatOps.maximumf (select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32))))))) (Host.dotGeneral dot_S8x8192x8x96_S8x8192x8x96_S8x8x8192x8192_3_3_1_1_02_02 none Q K) (broadcastInDim S8x8x8192x8192 ![] bcast_S_S8x8x8192x8192 (id (constant S_ .f32 0xFF800000#32)))) (constant S_ .f32 0xFF800000#32) reducesTo_S8x8x8192x8192_S8x8x8192_d3 h_S_))))) (constant S_ .f32 0x00000000#32) reducesTo_S8x8x8192x8192_S8x8x8192_d3 h_S_)))) transposes_S8x8x8192x128_S8x8192x8x128_0_2_1_3) shapeCasts_S8x8192x8x128_S8x8192x1024) bitsLt_bf16_f32

theorem res_eq : res_main_v26 m c = refTerm (m ((c.tc : Thread nD τ).loc main_arg0)) (m ((c.tc : Thread nD τ).loc main_arg1)) (m ((c.tc : Thread nD τ).loc main_arg2)) := rfl

theorem valued (V : FVec Ideal S8x8192x8x64 .f32) (b h : Fin 8) (l : Fin 128) (x : Fin 8192) :
    (if h_1 : l.val < 65 then if h_2 : l.val < 64 then V (ix4 b x h ⟨l.val, h_2⟩) else (1 : EReal) else (FloatOps.sitofp FTy.f32 0#32 : Ideal .f32))
      = vals (fun b p h d => V (ix4 b p h d)) b h l x := by
  unfold vals
  by_cases h1 : l.val < 64
  · rw [dif_pos (by omega), dif_pos h1, dif_pos h1]
  · by_cases h2 : l.val = 64
    · rw [dif_pos (by omega), dif_neg h1, dif_neg h1, if_pos h2]
    · rw [dif_neg (by omega), dif_neg h1, if_neg h2]
      show ((((0#32 : BitVec 32).toInt : ℤ) : ℝ) : EReal) = 0
      simp

theorem ref_at (Q K : FVec Ideal S8x8192x8x96 .f32) (V : FVec Ideal S8x8192x8x64 .f32) (b : Fin 8) (p : Fin 8192) (h : Fin 8) (l : Fin 128) :
    refTerm Q K V (ix3 b p ⟨128 * h.val + l.val, by omega⟩)
      = attn (fun b p h d => Q (ix4 b p h d)) (fun b p h d => K (ix4 b p h d)) (fun b p h d => V (ix4 b p h d)) b p h l := by
  unfold refTerm
  pointwise
  have hs : ∀ x : Fin 8192, Scalar.select
      (IntOp.cmpi CmpIPredicate.sle (IntOp.divsi ArithUnit.host (BitVec.ofNat 32 x.val) 64#32) (IntOp.divsi ArithUnit.host (BitVec.ofNat 32 p.val) 64#32))
      (∑ d : Fin 96, Q (ix4 b p h d) * K (ix4 b x h d)) (id (constant (F := Ideal) S_ FTy.f32 4286578688#32) ix0)
      = score (fun b p h d => Q (ix4 b p h d)) (fun b p h d => K (ix4 b p h d)) b h p x := fun x =>
    picked (fun b p h d => Q (ix4 b p h d)) (fun b p h d => K (ix4 b p h d)) b h p x
  simp only [hs, pow_two', valued]
  rfl

end

end Cert.AttentionProof

end
-- ==== Proof.AtSame.lean ====
/-
  The two printings of the attention call are one program.
-/
module

public import proofs.«01_k».proof.Defs
public import proofs.«01_k».proof.Proof.Gen.Attention
public import proofs.«01_k».proof.Proof.Gen.AttentionIdeal

@[expose] public section

noncomputable section

namespace Cert.AttentionSame

open Idealize.ShloMosaic Idealize.ShloMosaic.TcCoe
open Idealize.SL.Sem
attribute [local instance] Cert.Attention.Gen.facts Cert.AttentionIdeal.Gen.facts
set_option maxHeartbeats 20000000
variable {F : FTy → Type} [FloatOps F]

theorem defs₀_eq : Cert.Attention.defs₀ (F := F) = Cert.AttentionIdeal.defs₀ (F := F) := by
  unfold Cert.Attention.defs₀ Cert.AttentionIdeal.defs₀
  refine congrArg Defs.onTc (funext fun p => funext fun a => ?_)
  match p, a with
  | ⟨0, _⟩, (t, s) => rfl

theorem defs_eq : Cert.Attention.defs (F := F) = Cert.AttentionIdeal.defs (F := F) := congrArg (Pipeline.defs _) defs₀_eq

theorem main_eq : Cert.Attention.main (F := F) = Cert.AttentionIdeal.main (F := F) := funext fun _ => rfl

end Cert.AttentionSame

end
-- ==== Proof.AtClaim.lean ====
/-
  The attention call's claims: the frames, and the equality with the reference.
-/
module

public import proofs.«01_k».proof.Proof.AtRun
public import proofs.«01_k».proof.Proof.AtRef
public import proofs.«01_k».proof.Proof.AtSame
public import proofs.«01_k».proof.Proof.Gen.AttentionReferenceIdeal.Run

@[expose] public section

noncomputable section

namespace Cert.AttentionClaim

open Cert.AttentionIdeal Cert.AttentionIdeal.Gen Cert.AttentionIdeal.Value Cert.AttentionProof
open Idealize.ShloMosaic Idealize.ShloMosaic.TcCoe
open Idealize.SL.Sem

attribute [local instance] Cert.Attention.Gen.facts Cert.AttentionIdeal.Gen.facts Cert.AttentionReferenceIdeal.Gen.facts

theorem result_match (m : (ℓ : Loc nD τ sig) → Buf (Elt Ideal) ℓ) (c : Dev nD) :
    (G3 m c : S8x8192x1024.Idx → Ideal .bf16)
      = refTerm (m ((c : Thread nD τ).loc main_arg0)) (m ((c : Thread nD τ).loc main_arg1)) (m ((c : Thread nD τ).loc main_arg2)) := by
  funext i
  obtain ⟨b, p, y, rfl⟩ : ∃ (b : Fin 8) (p : Fin 8192) (y : Fin 1024), i = ix3 b p y := ⟨i 0, i 1, i 2, eq_ix3 i⟩
  obtain ⟨h, l, rfl⟩ : ∃ (h : Fin 8) (l : Fin 128), y = ⟨128 * h.val + l.val, by omega⟩ :=
    ⟨⟨y.val / 128, by omega⟩, ⟨y.val % 128, by omega⟩, Fin.ext (by show y.val = 128 * (y.val / 128) + y.val % 128; omega)⟩
  exact (G3_at m c b p h l).trans (ref_at _ _ _ b p h l).symm

theorem frame_of_eq (D) (M) (hD : D = defs (F := Bits)) (hM : M = main (F := Bits)) (m : (ℓ : Loc nD τ sig) → Buf (Elt Bits) ℓ) (g : Dev nD → PrngReg) :
    θ_run D (onTc (τ := τ) M) ⟨m, fun _ => 0, g⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  subst hD hM
  exact Cert.AttentionIdeal.Gen.frame (F := Bits) m g

theorem frame_kernel : Cert.quiescent_Attention := fun m g _ =>
  frame_of_eq Cert.Attention.defs Cert.Attention.main Cert.AttentionSame.defs_eq Cert.AttentionSame.main_eq m g

theorem frame_ideal : Cert.quiescent_AttentionIdeal := fun m g _ => Cert.AttentionIdeal.Gen.frame (F := Ideal) m g

theorem frame_reference : Cert.quiescent_AttentionReferenceIdeal := fun m g _ =>
  (θ_run Cert.AttentionReferenceIdeal.defs _ _).mono (fun r h => ⟨fun c => (h c).2, sem_eq_zero_of_no_sems (by decide) r.2⟩)
    (Cert.AttentionReferenceIdeal.Value.run (F := Ideal) m g)

theorem value : Cert.algebraic_AttentionIdeal_AttentionReferenceIdeal := fun m g m' g' _ e =>
  ⟨fun c => G3 m c,
    Cert.AttentionIdeal.Value.run (F := Ideal) m g,
    (θ_run Cert.AttentionReferenceIdeal.defs _ _).mono (fun r h c => ⟨(h c).1.trans (by
        obtain ⟨e0, e1, e2⟩ := e c
        rw [res_eq, e0, e1, e2]
        exact (result_match m c).symm), (h c).2⟩)
      (Cert.AttentionReferenceIdeal.Value.run (F := Ideal) m' g')⟩

end Cert.AttentionClaim

end
-- ==== Proof.lean ====
/- The certificate: the frames, and the equality of the kernel and the reference over the extended reals. -/
module

public import proofs.«01_k».proof.Defs
public import proofs.«01_k».proof.Proof.Gen.Kernel
public import proofs.«01_k».proof.Proof.Match
public import proofs.«01_k».proof.Proof.Same
public import proofs.«01_k».proof.Proof.ExClaim
public import proofs.«01_k».proof.Proof.AtClaim

@[expose] public section

noncomputable section

namespace Cert.Proof

open Idealize.ShloMosaic Idealize.ShloMosaic.TcCoe
open Idealize.SL.Sem
open Cert.KernelIdeal.Own (Named)

attribute [local instance] Cert.Kernel.Gen.facts Cert.KernelIdeal.Gen.facts Cert.ReferenceIdeal.Own.facts Cert.Pre_dest_names_rows.facts

/-- The precondition in words: a choice in use names one of the experts' rows. -/
theorem names {F : FTy → Type} [FloatOps F] (dest : IVec Cert.Pre_dest_names_rows.S8x8x8192 32) (a1 : FVec F Cert.Pre_dest_names_rows.S8x8192x1024 .f32)
    (a2 : FVec F Cert.Pre_dest_names_rows.S8x8192x128 .f32) (a3 : FVec F Cert.Pre_dest_names_rows.S8x6x1024 .f32) (a4 : FVec F Cert.Pre_dest_names_rows.S1024 .f32)
    (a5 : FVec F Cert.Pre_dest_names_rows.S2129920x8x128 .f32)
    (h : Cert.Pre_dest_names_rows.fn (F := F) dest a1 a2 a3 a4 a5 = fun _ => 1#1) (b : Fin 8) (k : Fin 8) (s : Fin 8192) (hk : k.val < 4) :
    (dest (ix3 b k s)).toNat < 2129920 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  have e := congrFun h (ix3 b (⟨k.val, hk⟩ : Fin 4) s)
  unfold Cert.Pre_dest_names_rows.fn at e
  pointwise at e
  generalize dest (ix3 b k s) = w at e ⊢
  simp only [IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

theorem named {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_dest_names_rows.fn (F := F)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5)) = fun _ => 1#1) :
    Named m := fun c y hy => by
  obtain ⟨b, k, s, rfl⟩ : ∃ (b : Fin 8) (k : Fin 8) (s : Fin 8192), y = ix3 b k s := ⟨y 0, y 1, y 2, eq_ix3 y⟩
  exact names _ _ _ _ _ _ (h c) b k s hy

theorem frame_of_eq (D) (M) (hD : D = Cert.KernelIdeal.defs (F := Bits)) (hM : M = Cert.KernelIdeal.main (F := Bits))
    (m : (ℓ : Loc Cert.KernelIdeal.nD Cert.KernelIdeal.τ Cert.KernelIdeal.sig) → Buf (Elt Bits) ℓ) (g : Dev Cert.KernelIdeal.nD → PrngReg) (hn : Named m) :
    θ_run D (onTc (τ := Cert.KernelIdeal.τ) M) ⟨m, fun _ => 0, g⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0) ∧ r.2.mem ((c : Thread Cert.KernelIdeal.nD Cert.KernelIdeal.τ).loc Cert.KernelIdeal.main_arg1) = m ((c : Thread Cert.KernelIdeal.nD Cert.KernelIdeal.τ).loc Cert.KernelIdeal.main_arg1) ∧ r.2.mem ((c : Thread Cert.KernelIdeal.nD Cert.KernelIdeal.τ).loc Cert.KernelIdeal.main_arg2) = m ((c : Thread Cert.KernelIdeal.nD Cert.KernelIdeal.τ).loc Cert.KernelIdeal.main_arg2) ∧ r.2.mem ((c : Thread Cert.KernelIdeal.nD Cert.KernelIdeal.τ).loc Cert.KernelIdeal.main_arg3) = m ((c : Thread Cert.KernelIdeal.nD Cert.KernelIdeal.τ).loc Cert.KernelIdeal.main_arg3) ∧ r.2.mem ((c : Thread Cert.KernelIdeal.nD Cert.KernelIdeal.τ).loc Cert.KernelIdeal.main_arg4) = m ((c : Thread Cert.KernelIdeal.nD Cert.KernelIdeal.τ).loc Cert.KernelIdeal.main_arg4) ∧ r.2.mem ((c : Thread Cert.KernelIdeal.nD Cert.KernelIdeal.τ).loc Cert.KernelIdeal.main_arg5) = m ((c : Thread Cert.KernelIdeal.nD Cert.KernelIdeal.τ).loc Cert.KernelIdeal.main_arg5)) ∧ r.2.sem = fun _ => 0) := by
  subst hD hM
  exact (θ_run Cert.KernelIdeal.defs _ _).mono (fun _ r => ⟨fun c => (r.1 c).2, r.2⟩) (Cert.KernelIdeal.Own.run_final (F := Bits) m g hn)

theorem frame_kernel : Cert.quiescent_Kernel := fun m g h =>
  frame_of_eq Cert.Kernel.defs Cert.Kernel.main Cert.Same.defs_eq Cert.Same.main_eq m g (named (F := Bits) m h)

theorem frame_ideal : Cert.quiescent_KernelIdeal := fun m g h =>
  (θ_run Cert.KernelIdeal.defs _ _).mono (fun _ r => ⟨fun c => (r.1 c).2, r.2⟩) (Cert.KernelIdeal.Own.run_final (F := Ideal) m g (named m h))

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Own.run_main (F := Ideal) m g)

theorem frame_reference_pre : Cert.quiescent_ReferenceIdeal_pre_dest_names_rows := fun m g _ =>
  (θ_run Cert.ReferenceIdeal.defs _ _).mono (fun r h => ⟨fun c => (h c).2, sem_eq_zero_of_no_sems (by decide) r.2⟩)
    (Cert.ReferenceIdeal.Own.run_main (F := Ideal) m g)

theorem value : Cert.algebraic_KernelIdeal_ReferenceIdeal := fun m g m' g' hp e =>
  ⟨fun c => Cert.KernelIdeal.Own.result m c,
    (θ_run Cert.KernelIdeal.defs _ _).mono (fun _ r c => r.1 c) (Cert.KernelIdeal.Own.run_final (F := Ideal) m g (named m hp)),
    (θ_run Cert.ReferenceIdeal.defs _ _).mono (fun r h c => ⟨(h c).1.trans (by
        obtain ⟨e0, e1, e2, e3, e4, e5⟩ := e c
        rw [e0, e1, e2, e3, e4, e5]
        exact (Cert.Match.result_match m (named m hp) c).symm), (h c).2⟩)
      (Cert.ReferenceIdeal.Own.run_main (F := Ideal) m' g')⟩

theorem claim : Cert.Claim :=
  ⟨Cert.Kernel.Gen.facts, Cert.KernelIdeal.Gen.facts, Cert.ReferenceIdeal.Own.facts, Cert.Experts.Gen.facts, Cert.ExpertsIdeal.Gen.facts, Cert.ExpertsReferenceIdeal.Gen.facts,
    Cert.Attention.Gen.facts, Cert.AttentionIdeal.Gen.facts, Cert.AttentionReferenceIdeal.Gen.facts,
    Cert.Pre_dest_names_rows.facts, Cert.Pre_blocks_in_place.facts, Cert.On_used_rows.facts,
    frame_kernel, frame_ideal, frame_reference, frame_reference_pre,
    Cert.ExpertsProof.frame_kernel, Cert.ExpertsProof.frame_ideal, Cert.ExpertsProof.frame_reference, Cert.ExpertsProof.frame_reference_pre,
    Cert.AttentionClaim.frame_kernel, Cert.AttentionClaim.frame_ideal, Cert.AttentionClaim.frame_reference,
    trivial, value, trivial, Cert.ExpertsProof.value, trivial, Cert.AttentionClaim.value⟩

end Cert.Proof

end
